-- ==== Defs.lean ====
def Pre_Kernel (m : (ℓ : Loc Cert.Kernel.nD Cert.Kernel.τ Cert.Kernel.sig) → Buf (Elt Bits) ℓ) : Prop :=
  True

def Pre_KernelIdeal [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal) (hPre_finite_scores := hPre_finite_scores)
    ∧ quiescent_KernelIdeal_pre_none (hKernelIdeal := hKernelIdeal)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal (hKernelIdeal := hKernelIdeal) (hReferenceIdeal := hReferenceIdeal) (hPre_finite_scores := hPre_finite_scores)
-- ==== Pre_finite_scores.lean ====
abbrev S5000x4 : Shape := ⟨2, ![5000, 4]⟩
abbrev S5000 : Shape := ⟨1, ![5000]⟩
abbrev S_ : Shape := ⟨0, ![]⟩

class Facts : Prop where
  bcast_S_S5000 : S_.BroadcastsInDim S5000 (![] : Fin 0 → Fin S5000.rank)
  reducesTo_S5000_S_d0 : S5000.ReducesTo [0] S_
  h_S_ : 0 < S_.numel

variable [Facts]

def fn {F : FTy → Type} [FloatOps F] (main_arg0 : FVec F S5000x4 .f32) (main_arg1 : FVec F S5000 .f32) (main_arg2 : IVec S5000 32) : IVec S_ 1 :=
  let main_cst : FVec F S_ .f32 := constant S_ .f32 0xFF800000#32
  let main_v0 : FVec F S5000 .f32 := broadcastInDim S5000 ![] bcast_S_S5000 main_cst
  let main_v1 : IVec S5000 1 := cmpf .ogt main_arg1 main_v0
  let main_c : IVec S_ 1 := constantI S_ 1 1#1
  let main_v2 : IVec S_ 1 := (fun x v => Host.reduce IntOp.andi x v reducesTo_S5000_S_d0 h_S_) main_v1 main_c
  main_v2
-- ==== Kernel.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5120x4 : Shape := ⟨2, ![5120, 4]⟩
abbrev S1 : Shape := ⟨1, ![1]⟩
abbrev S4x5120 : Shape := ⟨2, ![4, 5120]⟩
abbrev S8x5120 : Shape := ⟨2, ![8, 5120]⟩
abbrev S1x5000 : Shape := ⟨2, ![1, 5000]⟩
abbrev S7x5000 : Shape := ⟨2, ![7, 5000]⟩
abbrev S2 : Shape := ⟨1, ![2]⟩
abbrev S8x128 : Shape := ⟨2, ![8, 128]⟩
abbrev S128x128 : Shape := ⟨2, ![128, 128]⟩
abbrev S1x5120 : Shape := ⟨2, ![1, 5120]⟩
abbrev S1x128 : Shape := ⟨2, ![1, 128]⟩
abbrev S1x2048 : Shape := ⟨2, ![1, 2048]⟩
abbrev S128x4 : Shape := ⟨2, ![128, 4]⟩
abbrev S128x1 : Shape := ⟨2, ![128, 1]⟩
abbrev S4x128 : Shape := ⟨2, ![4, 128]⟩
abbrev S128 : Shape := ⟨1, ![128]⟩
abbrev S1x1x128 : Shape := ⟨3, ![1, 1, 128]⟩
abbrev S1x1x1 : Shape := ⟨3, ![1, 1, 1]⟩
abbrev S4x2048 : Shape := ⟨2, ![4, 2048]⟩
abbrev S128x2048 : Shape := ⟨2, ![128, 2048]⟩
abbrev S40x128 : Shape := ⟨2, ![40, 128]⟩
abbrev S40x40 : Shape := ⟨2, ![40, 40]⟩
abbrev S40x1 : Shape := ⟨2, ![40, 1]⟩
abbrev S1x40x128 : Shape := ⟨3, ![1, 40, 128]⟩
abbrev S4x100 : Shape := ⟨2, ![4, 100]⟩
abbrev S100x4 : Shape := ⟨2, ![100, 4]⟩
abbrev S1x100 : Shape := ⟨2, ![1, 100]⟩
abbrev S100 : Shape := ⟨1, ![100]⟩

abbrev nBuf : Space → Nat
  | .hbm => 67
  | .vmem => 6
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .i32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S5000, .f32⟩
  | .hbm, ⟨8, _⟩ => ⟨S5000, .f32⟩
  | .hbm, ⟨9, _⟩ => ⟨S5000x1, .f32⟩
  | .hbm, ⟨10, _⟩ => ⟨S5000, .f32⟩
  | .hbm, ⟨11, _⟩ => ⟨S5000x1, .f32⟩
  | .hbm, ⟨12, _⟩ => ⟨S5000, .f32⟩
  | .hbm, ⟨13, _⟩ => ⟨S5000x1, .f32⟩
  | .hbm, ⟨14, _⟩ => ⟨S5000, .f32⟩
  | .hbm, ⟨15, _⟩ => ⟨S5000x1, .f32⟩
  | .hbm, ⟨16, _⟩ => ⟨S5000, .f32⟩
  | .hbm, ⟨17, _⟩ => ⟨S5000, .f32⟩
  | .hbm, ⟨18, _⟩ => ⟨S5000, .f32⟩
  | .hbm, ⟨19, _⟩ => ⟨S5000, .f32⟩
  | .hbm, ⟨20, _⟩ => ⟨S5000, .f32⟩
  | .hbm, ⟨21, _⟩ => ⟨S5000, .f32⟩
  | .hbm, ⟨22, _⟩ => ⟨S5000, .f32⟩
  | .hbm, ⟨23, _⟩ => ⟨S5000, .f32⟩
  | .hbm, ⟨24, _⟩ => ⟨S5000, .f32⟩
  | .hbm, ⟨25, _⟩ => ⟨S5000, .f32⟩
  | .hbm, ⟨26, _⟩ => ⟨S5000, .f32⟩
  | .hbm, ⟨27, _⟩ => ⟨S5000, .f32⟩
  | .hbm, ⟨28, _⟩ => ⟨S5000, .f32⟩
  | .hbm, ⟨29, _⟩ => ⟨S5000, .f32⟩
  | .hbm, ⟨30, _⟩ => ⟨S5000x1, .f32⟩
  | .hbm, ⟨31, _⟩ => ⟨S5000x1, .f32⟩
  | .hbm, ⟨32, _⟩ => ⟨S5000x1, .f32⟩
  | .hbm, ⟨33, _⟩ => ⟨S5000x1, .f32⟩
  | .hbm, ⟨34, _⟩ => ⟨S5000x4, .f32⟩
  | .hbm, ⟨35, _⟩ => ⟨S_, .f32⟩
  | .hbm, ⟨36, _⟩ => ⟨S5120x4, .f32⟩
  | .hbm, ⟨37, _⟩ => ⟨S_, .i32⟩
  | .hbm, ⟨38, _⟩ => ⟨S1, .i32⟩
  | .hbm, ⟨39, _⟩ => ⟨S5120x4, .f32⟩
  | .hbm, ⟨40, _⟩ => ⟨S4x5120, .f32⟩
  | .hbm, ⟨41, _⟩ => ⟨S_, .f32⟩
  | .hbm, ⟨42, _⟩ => ⟨S5000, .f32⟩
  | .hbm, ⟨43, _⟩ => ⟨S_, .f32⟩
  | .hbm, ⟨44, _⟩ => ⟨S8x5120, .f32⟩
  | .hbm, ⟨45, _⟩ => ⟨S1x5000, .f32⟩
  | .hbm, ⟨46, _⟩ => ⟨S1x5000, .f32⟩
  | .hbm, ⟨47, _⟩ => ⟨S1x5000, .f32⟩
  | .hbm, ⟨48, _⟩ => ⟨S1x5000, .f32⟩
  | .hbm, ⟨49, _⟩ => ⟨S1x5000, .f32⟩
  | .hbm, ⟨50, _⟩ => ⟨S1x5000, .f32⟩
  | .hbm, ⟨51, _⟩ => ⟨S1x5000, .f32⟩
  | .hbm, ⟨52, _⟩ => ⟨S7x5000, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S8x5120, .f32⟩
  | .hbm, ⟨59, _⟩ => ⟨S8x128, .f32⟩
  | .hbm, ⟨60, _⟩ => ⟨S4x100, .f32⟩
  | .hbm, ⟨61, _⟩ => ⟨S100x4, .f32⟩
  | .hbm, ⟨62, _⟩ => ⟨S1x100, .f32⟩
  | .hbm, ⟨63, _⟩ => ⟨S100, .f32⟩
  | .hbm, ⟨64, _⟩ => ⟨S1x100, .f32⟩
  | .hbm, ⟨65, _⟩ => ⟨S100, .f32⟩
  | .hbm, ⟨66, _⟩ => ⟨S100, .i32⟩
  | .local _ .vmem, ⟨0, _⟩ => ⟨S5120x4, .f32⟩
  | .local _ .vmem, ⟨1, _⟩ => ⟨S4x5120, .f32⟩
  | .local _ .vmem, ⟨2, _⟩ => ⟨S8x5120, .f32⟩
  | .local _ .vmem, ⟨3, _⟩ => ⟨S8x128, .f32⟩
  | .local _ .vmem, ⟨4, _⟩ => ⟨S128x128, .i32⟩
  | .local _ .vmem, ⟨5, _⟩ => ⟨S1x5120, .i32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev main_v12_4 : Ref sig .tc := ⟨.hbm, 21, rfl⟩
abbrev main_v12_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_c : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32_1 : BitVec 32 := 0#32
  let c40_i32 : BitVec 32 := 40#32
  let v6 : BitVec 32 := Scalar.addi c0_i32_1 c40_i32
  let c1_i32 : BitVec 32 := 1#32
  ⟨c0_i32_1, v6, c1_i32⟩
def k0_off1 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let v507 : Index := Scalar.indexCast v506
  let c0_101 : Index := 0#32
  ![v507.toNat, 0]
def k0_off2 (k0_t1 : Fin k0_t1_loop.trips) : Fin 2 → Nat :=
  let c0_102 : Index := 0#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let v517 : Index := Scalar.indexCast v506
  ![0, v517.toNat]
def k0_off3 (k0_t1 : Fin k0_t1_loop.trips) : Fin 2 → Nat :=
  let c0_109 : Index := 0#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let v559 : Index := Scalar.indexCast v506
  ![0, v559.toNat]
def k0_off4 (v618 : BitVec 32) : Fin 2 → Nat :=
  let v619 : Index := Scalar.indexCast v618
  let c0_134 : Index := 0#32
  ![v619.toNat, 0]

def k0_chk1 (v618 : BitVec 32) : Prop :=
  (∀ a, (k0_off4 v618) a + S1x128.size a ≤ S128x128.size a)
theorem k0_off4_inb : ∀ (v618 : BitVec 32) (k0_hw1 : k0_chk1 v618), ∀ a, (k0_off4 v618) a + S1x128.size a ≤ S128x128.size a := fun v618 k0_hw1 => k0_hw1

@[reducible] def k0_t2_loop (k0_t1 : Fin k0_t1_loop.trips) : Scf.Loop 32 :=
  let c0_i32_127 : BitVec 32 := 0#32
  let c5120_i32 : BitVec 32 := 5120#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let v585 : BitVec 32 := Scalar.subi c5120_i32 v506
  let c128_i32_117 : BitVec 32 := 128#32
  let v586 : BitVec 32 := Scalar.subi v585 c128_i32_117
  let c2048_i32 : BitVec 32 := 2048#32
  let v587 : BitVec 32 := Scalar.addi v586 c2048_i32
  let c1_i32_118 : BitVec 32 := 1#32
  let v588 : BitVec 32 := Scalar.subi v587 c1_i32_118
  let c0_i32_120 : BitVec 32 := 0#32
  let v590 : BitVec 1 := Scalar.cmpi .sgt v588 c0_i32_120
  let v591 : BitVec 32 := Scalar.extui v590
  let c0_i32_121 : BitVec 32 := 0#32
  let v592 : BitVec 1 := Scalar.cmpi .slt v588 c0_i32_121
  let v593 : BitVec 32 := Scalar.extui v592
  let v594 : BitVec 32 := Scalar.subi v591 v593
  let c2048_i32_119 : BitVec 32 := 2048#32
  let c0_i32_122 : BitVec 32 := 0#32
  let v595 : BitVec 1 := Scalar.cmpi .sgt c2048_i32_119 c0_i32_122
  let v596 : BitVec 32 := Scalar.extui v595
  let c0_i32_123 : BitVec 32 := 0#32
  let v597 : BitVec 1 := Scalar.cmpi .slt c2048_i32_119 c0_i32_123
  let v598 : BitVec 32 := Scalar.extui v597
  let v599 : BitVec 32 := Scalar.subi v596 v598
  let v600 : BitVec 1 := Scalar.cmpi .ne v594 v599
  let v601 : BitVec 32 := Scalar.remsi v588 c2048_i32_119
  let c0_i32_124 : BitVec 32 := 0#32
  let v602 : BitVec 1 := Scalar.cmpi .ne v601 c0_i32_124
  let v603 : BitVec 1 := Scalar.andi v600 v602
  let v589 : BitVec 32 := Scalar.divsi v588 c2048_i32_119
  let c1_i32_125 : BitVec 32 := 1#32
  let v604 : BitVec 32 := Scalar.subi v589 c1_i32_125
  let v605 : BitVec 32 := Scalar.select v603 v604 v589
  let v606 : BitVec 32 := Scalar.subi v605 c0_i32_127
  let c1_i32_128 : BitVec 32 := 1#32
  let v608 : BitVec 32 := Scalar.divsi v606 c1_i32_128
  let v609 : BitVec 32 := Scalar.muli v608 c1_i32_128
  let v610 : BitVec 32 := Scalar.addi c0_i32_127 v609
  let c1_i32_129 : BitVec 32 := 1#32
  ⟨c0_i32_127, v610, c1_i32_129⟩
def k0_off5 (k0_t1 : Fin k0_t1_loop.trips) (k0_t2 : Fin (k0_t2_loop k0_t1).trips) : Fin 2 → Nat :=
  let c0_133 : Index := 0#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let c128_i32_131 : BitVec 32 := 128#32
  let v611 : BitVec 32 := Scalar.addi v506 c128_i32_131
  let c0_i32_127 : BitVec 32 := 0#32
  let c1_i32_129 : BitVec 32 := 1#32
  let arg7 : BitVec 32 := Scf.iv c0_i32_127 c1_i32_129 k0_t2
  let c2048_i32_132 : BitVec 32 := 2048#32
  let v612 : BitVec 32 := Scalar.muli arg7 c2048_i32_132
  let v613 : BitVec 32 := Scalar.addi v611 v612
  let c3072_i32 : BitVec 32 := 3072#32
  let v614 : BitVec 32 := Scalar.minsi v613 c3072_i32
  let v615 : Index := Scalar.indexCast v614
  ![0, v615.toNat]
def k0_off6 (k0_t1 : Fin k0_t1_loop.trips) (k0_t2 : Fin (k0_t2_loop k0_t1).trips) : Fin 2 → Nat :=
  let c0_140 : Index := 0#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let c128_i32_131 : BitVec 32 := 128#32
  let v611 : BitVec 32 := Scalar.addi v506 c128_i32_131
  let c0_i32_127 : BitVec 32 := 0#32
  let c1_i32_129 : BitVec 32 := 1#32
  let arg7 : BitVec 32 := Scf.iv c0_i32_127 c1_i32_129 k0_t2
  let c2048_i32_132 : BitVec 32 := 2048#32
  let v612 : BitVec 32 := Scalar.muli arg7 c2048_i32_132
  let v613 : BitVec 32 := Scalar.addi v611 v612
  let c3072_i32 : BitVec 32 := 3072#32
  let v614 : BitVec 32 := Scalar.minsi v613 c3072_i32
  let v661 : Index := Scalar.indexCast v614
  ![0, v661.toNat]
@[reducible] def k0_t3_loop (k0_t1 : Fin k0_t1_loop.trips) : Scf.Loop 32 :=
  let c0_i32_127 : BitVec 32 := 0#32
  let c5120_i32 : BitVec 32 := 5120#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let v585 : BitVec 32 := Scalar.subi c5120_i32 v506
  let c128_i32_117 : BitVec 32 := 128#32
  let v586 : BitVec 32 := Scalar.subi v585 c128_i32_117
  let c2048_i32 : BitVec 32 := 2048#32
  let v587 : BitVec 32 := Scalar.addi v586 c2048_i32
  let c1_i32_118 : BitVec 32 := 1#32
  let v588 : BitVec 32 := Scalar.subi v587 c1_i32_118
  let c0_i32_120 : BitVec 32 := 0#32
  let v590 : BitVec 1 := Scalar.cmpi .sgt v588 c0_i32_120
  let v591 : BitVec 32 := Scalar.extui v590
  let c0_i32_121 : BitVec 32 := 0#32
  let v592 : BitVec 1 := Scalar.cmpi .slt v588 c0_i32_121
  let v593 : BitVec 32 := Scalar.extui v592
  let v594 : BitVec 32 := Scalar.subi v591 v593
  let c2048_i32_119 : BitVec 32 := 2048#32
  let c0_i32_122 : BitVec 32 := 0#32
  let v595 : BitVec 1 := Scalar.cmpi .sgt c2048_i32_119 c0_i32_122
  let v596 : BitVec 32 := Scalar.extui v595
  let c0_i32_123 : BitVec 32 := 0#32
  let v597 : BitVec 1 := Scalar.cmpi .slt c2048_i32_119 c0_i32_123
  let v598 : BitVec 32 := Scalar.extui v597
  let v599 : BitVec 32 := Scalar.subi v596 v598
  let v600 : BitVec 1 := Scalar.cmpi .ne v594 v599
  let v601 : BitVec 32 := Scalar.remsi v588 c2048_i32_119
  let c0_i32_124 : BitVec 32 := 0#32
  let v602 : BitVec 1 := Scalar.cmpi .ne v601 c0_i32_124
  let v603 : BitVec 1 := Scalar.andi v600 v602
  let v589 : BitVec 32 := Scalar.divsi v588 c2048_i32_119
  let c1_i32_125 : BitVec 32 := 1#32
  let v604 : BitVec 32 := Scalar.subi v589 c1_i32_125
  let v605 : BitVec 32 := Scalar.select v603 v604 v589
  let v606 : BitVec 32 := Scalar.subi v605 c0_i32_127
  let c1_i32_128 : BitVec 32 := 1#32
  let v608 : BitVec 32 := Scalar.divsi v606 c1_i32_128
  let v609 : BitVec 32 := Scalar.muli v608 c1_i32_128
  let v610 : BitVec 32 := Scalar.addi c0_i32_127 v609
  let v607 : BitVec 32 := Scalar.addi c0_i32_127 v606
  let c1_i32_130 : BitVec 32 := 1#32
  ⟨v610, v607, c1_i32_130⟩
def k0_off7 (k0_t1 : Fin k0_t1_loop.trips) (k0_t3 : Fin (k0_t3_loop k0_t1).trips) : Fin 2 → Nat :=
  let c0_133 : Index := 0#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let c128_i32_131 : BitVec 32 := 128#32
  let v611 : BitVec 32 := Scalar.addi v506 c128_i32_131
  let c0_i32_127 : BitVec 32 := 0#32
  let c5120_i32 : BitVec 32 := 5120#32
  let v585 : BitVec 32 := Scalar.subi c5120_i32 v506
  let c128_i32_117 : BitVec 32 := 128#32
  let v586 : BitVec 32 := Scalar.subi v585 c128_i32_117
  let c2048_i32 : BitVec 32 := 2048#32
  let v587 : BitVec 32 := Scalar.addi v586 c2048_i32
  let c1_i32_118 : BitVec 32 := 1#32
  let v588 : BitVec 32 := Scalar.subi v587 c1_i32_118
  let c0_i32_120 : BitVec 32 := 0#32
  let v590 : BitVec 1 := Scalar.cmpi .sgt v588 c0_i32_120
  let v591 : BitVec 32 := Scalar.extui v590
  let c0_i32_121 : BitVec 32 := 0#32
  let v592 : BitVec 1 := Scalar.cmpi .slt v588 c0_i32_121
  let v593 : BitVec 32 := Scalar.extui v592
  let v594 : BitVec 32 := Scalar.subi v591 v593
  let c2048_i32_119 : BitVec 32 := 2048#32
  let c0_i32_122 : BitVec 32 := 0#32
  let v595 : BitVec 1 := Scalar.cmpi .sgt c2048_i32_119 c0_i32_122
  let v596 : BitVec 32 := Scalar.extui v595
  let c0_i32_123 : BitVec 32 := 0#32
  let v597 : BitVec 1 := Scalar.cmpi .slt c2048_i32_119 c0_i32_123
  let v598 : BitVec 32 := Scalar.extui v597
  let v599 : BitVec 32 := Scalar.subi v596 v598
  let v600 : BitVec 1 := Scalar.cmpi .ne v594 v599
  let v601 : BitVec 32 := Scalar.remsi v588 c2048_i32_119
  let c0_i32_124 : BitVec 32 := 0#32
  let v602 : BitVec 1 := Scalar.cmpi .ne v601 c0_i32_124
  let v603 : BitVec 1 := Scalar.andi v600 v602
  let v589 : BitVec 32 := Scalar.divsi v588 c2048_i32_119
  let c1_i32_125 : BitVec 32 := 1#32
  let v604 : BitVec 32 := Scalar.subi v589 c1_i32_125
  let v605 : BitVec 32 := Scalar.select v603 v604 v589
  let v606 : BitVec 32 := Scalar.subi v605 c0_i32_127
  let c1_i32_128 : BitVec 32 := 1#32
  let v608 : BitVec 32 := Scalar.divsi v606 c1_i32_128
  let v609 : BitVec 32 := Scalar.muli v608 c1_i32_128
  let v610 : BitVec 32 := Scalar.addi c0_i32_127 v609
  let c1_i32_130 : BitVec 32 := 1#32
  let arg7 : BitVec 32 := Scf.iv v610 c1_i32_130 k0_t3
  let c2048_i32_132 : BitVec 32 := 2048#32
  let v612 : BitVec 32 := Scalar.muli arg7 c2048_i32_132
  let v613 : BitVec 32 := Scalar.addi v611 v612
  let c3072_i32 : BitVec 32 := 3072#32
  let v614 : BitVec 32 := Scalar.minsi v613 c3072_i32
  let v615 : Index := Scalar.indexCast v614
  ![0, v615.toNat]
def k0_off8 (k0_t1 : Fin k0_t1_loop.trips) (k0_t3 : Fin (k0_t3_loop k0_t1).trips) : Fin 2 → Nat :=
  let c0_140 : Index := 0#32
  let c0_i32_1 : BitVec 32 := 0#32
  let c1_i32 : BitVec 32 := 1#32
  let arg6 : BitVec 32 := Scf.iv c0_i32_1 c1_i32 k0_t1
  let c128_i32 : BitVec 32 := 128#32
  let v506 : BitVec 32 := Scalar.muli arg6 c128_i32
  let c128_i32_131 : BitVec 32 := 128#32
  let v611 : BitVec 32 := Scalar.addi v506 c128_i32_131
  let c0_i32_127 : BitVec 32 := 0#32
  let c5120_i32 : BitVec 32 := 5120#32
  let v585 : BitVec 32 := Scalar.subi c5120_i32 v506
  let c128_i32_117 : BitVec 32 := 128#32
  let v586 : BitVec 32 := Scalar.subi v585 c128_i32_117
  let c2048_i32 : BitVec 32 := 2048#32
  let v587 : BitVec 32 := Scalar.addi v586 c2048_i32
  let c1_i32_118 : BitVec 32 := 1#32
  let v588 : BitVec 32 := Scalar.subi v587 c1_i32_118
  let c0_i32_120 : BitVec 32 := 0#32
  let v590 : BitVec 1 := Scalar.cmpi .sgt v588 c0_i32_120
  let v591 : BitVec 32 := Scalar.extui v590
  let c0_i32_121 : BitVec 32 := 0#32
  let v592 : BitVec 1 := Scalar.cmpi .slt v588 c0_i32_121
  let v593 : BitVec 32 := Scalar.extui v592
  let v594 : BitVec 32 := Scalar.subi v591 v593
  let c2048_i32_119 : BitVec 32 := 2048#32
  let c0_i32_122 : BitVec 32 := 0#32
  let v595 : BitVec 1 := Scalar.cmpi .sgt c2048_i32_119 c0_i32_122
  let v596 : BitVec 32 := Scalar.extui v595
  let c0_i32_123 : BitVec 32 := 0#32
  let v597 : BitVec 1 := Scalar.cmpi .slt c2048_i32_119 c0_i32_123
  let v598 : BitVec 32 := Scalar.extui v597
  let v599 : BitVec 32 := Scalar.subi v596 v598
  let v600 : BitVec 1 := Scalar.cmpi .ne v594 v599
  let v601 : BitVec 32 := Scalar.remsi v588 c2048_i32_119
  let c0_i32_124 : BitVec 32 := 0#32
  let v602 : BitVec 1 := Scalar.cmpi .ne v601 c0_i32_124
  let v603 : BitVec 1 := Scalar.andi v600 v602
  let v589 : BitVec 32 := Scalar.divsi v588 c2048_i32_119
  let c1_i32_125 : BitVec 32 := 1#32
  let v604 : BitVec 32 := Scalar.subi v589 c1_i32_125
  let v605 : BitVec 32 := Scalar.select v603 v604 v589
  let v606 : BitVec 32 := Scalar.subi v605 c0_i32_127
  let c1_i32_128 : BitVec 32 := 1#32
  let v608 : BitVec 32 := Scalar.divsi v606 c1_i32_128
  let v609 : BitVec 32 := Scalar.muli v608 c1_i32_128
  let v610 : BitVec 32 := Scalar.addi c0_i32_127 v609
  let c1_i32_130 : BitVec 32 := 1#32
  let arg7 : BitVec 32 := Scf.iv v610 c1_i32_130 k0_t3
  let c2048_i32_132 : BitVec 32 := 2048#32
  let v612 : BitVec 32 := Scalar.muli arg7 c2048_i32_132
  let v613 : BitVec 32 := Scalar.addi v611 v612
  let c3072_i32 : BitVec 32 := 3072#32
  let v614 : BitVec 32 := Scalar.minsi v613 c3072_i32
  let v661 : Index := Scalar.indexCast v614
  ![0, v661.toNat]
abbrev stage0_0 : Fin 1 → Memref sig .tc .vmem S5120x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S100 : Shape := ⟨1, ![100]⟩
abbrev S100x1 : Shape := ⟨2, ![100, 1]⟩
abbrev S100x4 : Shape := ⟨2, ![100, 4]⟩

abbrev nBuf : Space → Nat
  | .hbm => 173
  | .vmem => 0
  | .smem => 0
  | _ => 0

abbrev hbmTy0_0 (i : Nat) : BufTy := match i % 128 with
  | 0 => ⟨S5000x4, .f32⟩
  | 1 => ⟨S5000, .f32⟩
  | 2 => ⟨S5000, .i32⟩
  | 3 => ⟨S_, .f32⟩
  | 4 => ⟨S_, .f32⟩
  | 5 => ⟨S_, .f32⟩
  | 6 => ⟨S_, .f32⟩
  | 7 => ⟨S5000, .f32⟩
  | 8 => ⟨S5000, .f32⟩
  | 9 => ⟨S5000, .f32⟩
  | 10 => ⟨S5000x1, .f32⟩
  | 11 => ⟨S5000x4, .f32⟩
  | 12 => ⟨S5000x4, .f32⟩
  | 13 => ⟨S5000, .f32⟩
  | 14 => ⟨S5000, .i32⟩
  | 15 => ⟨S5000, .f32⟩
  | 16 => ⟨S5000, .i32⟩
  | 17 => ⟨S_, .i32⟩
  | 18 => ⟨S5000, .i32⟩
  | 19 => ⟨S5000, .i1⟩
  | 20 => ⟨S_, .i32⟩
  | 21 => ⟨S5000, .i32⟩
  | 22 => ⟨S5000, .i32⟩
  | 23 => ⟨S5000, .i32⟩
  | 24 => ⟨S5000x1, .i32⟩
  | 25 => ⟨S5000x4, .f32⟩
  | 26 => ⟨S5000x1, .f32⟩
  | 27 => ⟨S5000, .f32⟩
  | 28 => ⟨S5000x1, .f32⟩
  | 29 => ⟨S5000, .f32⟩
  | 30 => ⟨S5000, .f32⟩
  | 31 => ⟨S5000x1, .f32⟩
  | 32 => ⟨S5000, .f32⟩
  | 33 => ⟨S5000x1, .f32⟩
  | 34 => ⟨S5000, .f32⟩
  | 35 => ⟨S5000, .f32⟩
  | 36 => ⟨S5000, .f32⟩
  | 37 => ⟨S5000x2, .f32⟩
  | 38 => ⟨S5000x1x2, .f32⟩
  | 39 => ⟨S5000x2, .f32⟩
  | 40 => ⟨S1x5000x2, .f32⟩
  | 41 => ⟨S5000x5000x2, .f32⟩
  | 42 => ⟨S5000x5000x2, .f32⟩
  | 43 => ⟨S5000x5000x2, .f32⟩
  | 44 => ⟨S5000x2, .f32⟩
  | 45 => ⟨S5000x1x2, .f32⟩
  | 46 => ⟨S5000x2, .f32⟩
  | 47 => ⟨S1x5000x2, .f32⟩
  | 48 => ⟨S5000x5000x2, .f32⟩
  | 49 => ⟨S5000x5000x2, .f32⟩
  | 50 => ⟨S5000x5000x2, .f32⟩
  | 51 => ⟨S5000x5000x2, .f32⟩
  | 52 => ⟨S_, .f32⟩
  | 53 => ⟨S_, .f32⟩
  | 54 => ⟨S5000x5000x2, .f32⟩
  | 55 => ⟨S5000x5000x2, .f32⟩
  | 56 => ⟨S5000x5000x1, .f32⟩
  | 57 => ⟨S5000x5000, .f32⟩
  | 58 => ⟨S5000x5000x1, .f32⟩
  | 59 => ⟨S5000x5000, .f32⟩
  | 60 => ⟨S5000x5000, .f32⟩
  | 61 => ⟨S5000x1, .f32⟩
  | 62 => ⟨S1x5000, .f32⟩
  | 63 => ⟨S5000x5000, .f32⟩
  | 64 => ⟨S5000x5000, .f32⟩
  | 65 => ⟨S5000x5000, .f32⟩
  | 66 => ⟨S5000x5000, .f32⟩
  | 67 => ⟨S_, .f32⟩
  | 68 => ⟨S5000x5000, .f32⟩
  | 69 => ⟨S5000x5000, .f32⟩
  | 70 => ⟨S5000x5000, .f32⟩
  | 71 => ⟨S5000, .i32⟩
  | 72 => ⟨S_, .i1⟩
  | 73 => ⟨S5000, .i1⟩
  | 74 => ⟨S_, .i32⟩
  | 75 => ⟨S_, .i32⟩
  | 76 => ⟨S5000x5000, .f32⟩
  | 77 => ⟨S5000, .i32⟩
  | 78 => ⟨S_, .i32⟩
  | 79 => ⟨S_, .i32⟩
  | 80 => ⟨S5000, .i1⟩
  | 81 => ⟨S_, .i32⟩
  | 82 => ⟨S_, .i1⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1, .i1⟩
  | 92 => ⟨S_, .i1⟩
  | 93 => ⟨S_, .i1⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S1x5000, .f32⟩
  | 109 => ⟨S5000, .f32⟩
  | 110 => ⟨S_, .f32⟩
  | 111 => ⟨S5000, .f32⟩
  | 112 => ⟨S5000, .i1⟩
  | 113 => ⟨S5000, .i1⟩
  | 114 => ⟨S5000, .i1⟩
  | 115 => ⟨S_, .i32⟩
  | 116 => ⟨S5000, .i32⟩
  | 117 => ⟨S5000, .i1⟩
  | 118 => ⟨S5000, .i1⟩
  | 119 => ⟨S5000, .i1⟩
  | 120 => ⟨S_, .i32⟩
  | 121 => ⟨S_, .i32⟩
  | 122 => ⟨S_, .i32⟩
  | 123 => ⟨S5000, .i32⟩
  | 124 => ⟨S5000, .i1⟩
  | 125 => ⟨S_, .i32⟩
  | 126 => ⟨S5000, .i32⟩
  | 127 => ⟨S5000, .i32⟩
  | _ => ⟨S5000x4, .f32⟩

abbrev hbmTy0_1 (i : Nat) : BufTy := match i % 128 with
  | 0 => ⟨S5000, .i32⟩
  | 1 => ⟨S5000x1, .i32⟩
  | 2 => ⟨S5000, .f32⟩
  | 3 => ⟨S_, .f32⟩
  | 4 => ⟨S_, .f32⟩
  | 5 => ⟨S5000, .f32⟩
  | 6 => ⟨S5000, .f32⟩
  | 7 => ⟨S100, .f32⟩
  | 8 => ⟨S100, .i32⟩
  | 9 => ⟨S_, .i32⟩
  | 10 => ⟨S100, .i32⟩
  | 11 => ⟨S100, .i1⟩
  | 12 => ⟨S_, .i32⟩
  | 13 => ⟨S100, .i32⟩
  | 14 => ⟨S100, .i32⟩
  | 15 => ⟨S100, .i32⟩
  | 16 => ⟨S100x1, .i32⟩
  | 17 => ⟨S100, .i32⟩
  | 18 => ⟨S_, .i32⟩
  | 19 => ⟨S100, .i32⟩
  | 20 => ⟨S100, .i1⟩
  | 21 => ⟨S_, .i32⟩
  | 22 => ⟨S100, .i32⟩
  | 23 => ⟨S100, .i32⟩
  | 24 => ⟨S100, .i32⟩
  | 25 => ⟨S100x1, .i32⟩
  | 26 => ⟨S100x4, .f32⟩
  | 27 => ⟨S_, .i32⟩
  | 28 => ⟨S100, .i32⟩
  | 29 => ⟨S100, .i1⟩
  | 30 => ⟨S_, .i32⟩
  | 31 => ⟨S100, .i32⟩
  | 32 => ⟨S100, .i32⟩
  | 33 => ⟨S100, .i32⟩
  | 34 => ⟨S100x1, .i32⟩
  | 35 => ⟨S100, .f32⟩
  | 36 => ⟨S_, .i32⟩
  | 37 => ⟨S100, .i32⟩
  | 38 => ⟨S100, .i1⟩
  | 39 => ⟨S_, .i32⟩
  | 40 => ⟨S100, .i32⟩
  | 41 => ⟨S100, .i32⟩
  | 42 => ⟨S100, .i32⟩
  | 43 => ⟨S100x1, .i32⟩
  | 44 => ⟨S100, .i32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1_0 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_3 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_c_4 : Ref sig .tc := ⟨.hbm, 72, rfl⟩
abbrev main_v59 : Ref sig .tc := ⟨.hbm, 73, rfl⟩
abbrev main_c_5 : Ref sig .tc := ⟨.hbm, 74, rfl⟩
abbrev main_c_6 : Ref sig .tc := ⟨.hbm, 75, rfl⟩
abbrev main_v60_0 : Ref sig .tc := ⟨.hbm, 76, rfl⟩
abbrev main_v60_1 : Ref sig .tc := ⟨.hbm, 77, rfl⟩
abbrev main_v60_2 : Ref sig .tc := ⟨.hbm, 78, rfl⟩
abbrev main_v60_3 : Ref sig .tc := ⟨.hbm, 79, rfl⟩
abbrev main_v60_4 : Ref sig .tc := ⟨.hbm, 80, rfl⟩
abbrev main_while0c_c_22 : Ref sig .tc := ⟨.hbm, 81, rfl⟩
abbrev main_while0c_v97 : Ref sig .tc := ⟨.hbm, 82, rfl⟩
abbrev main_while0b_c_22 : Ref sig .tc := ⟨.hbm, 83, rfl⟩
abbrev main_while0b_v97 : Ref sig .tc := ⟨.hbm, 84, rfl⟩
abbrev main_while0b_c_23 : Ref sig .tc := ⟨.hbm, 85, rfl⟩
abbrev main_while0b_v98 : Ref sig .tc := ⟨.hbm, 86, rfl⟩
abbrev main_while0b_v99 : Ref sig .tc := ⟨.hbm, 87, rfl⟩
abbrev main_while0b_c_24 : Ref sig .tc := ⟨.hbm, 88, rfl⟩
abbrev main_while0b_v100 : Ref sig .tc := ⟨.hbm, 89, rfl⟩
abbrev main_while0b_v101 : Ref sig .tc := ⟨.hbm, 90, rfl⟩
abbrev main_while0b_v102 : Ref sig .tc := ⟨.hbm, 91, rfl⟩
abbrev main_while0b_v103 : Ref sig .tc := ⟨.hbm, 92, rfl⟩
abbrev main_while0b_v104 : Ref sig .tc := ⟨.hbm, 93, rfl⟩
abbrev main_while0b_v105 : Ref sig .tc := ⟨.hbm, 94, rfl⟩
abbrev main_while0b_c_25 : Ref sig .tc := ⟨.hbm, 95, rfl⟩
abbrev main_while0b_v106 : Ref sig .tc := ⟨.hbm, 96, rfl⟩
abbrev main_while0b_c_26 : Ref sig .tc := ⟨.hbm, 97, rfl⟩
abbrev main_while0b_v107 : Ref sig .tc := ⟨.hbm, 98, rfl⟩
abbrev main_while0b_v108 : Ref sig .tc := ⟨.hbm, 99, rfl⟩
abbrev main_while0b_c_27 : Ref sig .tc := ⟨.hbm, 100, rfl⟩
abbrev main_while0b_c_28 : Ref sig .tc := ⟨.hbm, 101, rfl⟩
abbrev main_while0b_v109 : Ref sig .tc := ⟨.hbm, 102, rfl⟩
abbrev main_while0b_c_29 : Ref sig .tc := ⟨.hbm, 103, rfl⟩
abbrev main_while0b_c_30 : Ref sig .tc := ⟨.hbm, 104, rfl⟩
abbrev main_while0b_v110 : Ref sig .tc := ⟨.hbm, 105, rfl⟩
abbrev main_while0b_c_31 : Ref sig .tc := ⟨.hbm, 106, rfl⟩
abbrev main_while0b_v111 : Ref sig .tc := ⟨.hbm, 107, rfl⟩
abbrev main_while0b_v112 : Ref sig .tc := ⟨.hbm, 108, rfl⟩
abbrev main_while0b_v113 : Ref sig .tc := ⟨.hbm, 109, rfl⟩
abbrev main_while0b_cst_32 : Ref sig .tc := ⟨.hbm, 110, rfl⟩
abbrev main_while0b_v114 : Ref sig .tc := ⟨.hbm, 111, rfl⟩
abbrev main_while0b_v115 : Ref sig .tc := ⟨.hbm, 112, rfl⟩
abbrev main_while0b_v116 : Ref sig .tc := ⟨.hbm, 113, rfl⟩
abbrev main_while0b_v117 : Ref sig .tc := ⟨.hbm, 114, rfl⟩
abbrev main_while0b_v118 : Ref sig .tc := ⟨.hbm, 115, rfl⟩
abbrev main_while0b_v119 : Ref sig .tc := ⟨.hbm, 116, rfl⟩
abbrev main_while0b_v120 : Ref sig .tc := ⟨.hbm, 117, rfl⟩
abbrev main_while0b_v121 : Ref sig .tc := ⟨.hbm, 118, rfl⟩
abbrev main_while0b_v122 : Ref sig .tc := ⟨.hbm, 119, rfl⟩
abbrev main_while0b_c_33 : Ref sig .tc := ⟨.hbm, 120, rfl⟩
abbrev main_while0b_v123 : Ref sig .tc := ⟨.hbm, 121, rfl⟩
abbrev main_c_7 : Ref sig .tc := ⟨.hbm, 122, rfl⟩
abbrev main_v61 : Ref sig .tc := ⟨.hbm, 123, rfl⟩
abbrev main_v62 : Ref sig .tc := ⟨.hbm, 124, rfl⟩
abbrev main_c_8 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_9 : Ref sig .tc := ⟨.hbm, 131, rfl⟩
abbrev main_call2_v0 : Ref sig .tc := ⟨.hbm, 132, rfl⟩
abbrev main_call2_v1 : Ref sig .tc := ⟨.hbm, 133, rfl⟩
abbrev main_v68 : Ref sig .tc := ⟨.hbm, 134, rfl⟩
abbrev main_values : Ref sig .tc := ⟨.hbm, 135, rfl⟩
abbrev main_indices : Ref sig .tc := ⟨.hbm, 136, rfl⟩
abbrev main_c_10 : Ref sig .tc := ⟨.hbm, 137, rfl⟩
abbrev main_v69 : Ref sig .tc := ⟨.hbm, 138, rfl⟩
abbrev main_v70 : Ref sig .tc := ⟨.hbm, 139, rfl⟩
abbrev main_c_11 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_c_12 : Ref sig .tc := ⟨.hbm, 146, rfl⟩
abbrev main_v76 : Ref sig .tc := ⟨.hbm, 147, rfl⟩
abbrev main_v77 : Ref sig .tc := ⟨.hbm, 148, rfl⟩
abbrev main_c_13 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_c_14 : Ref sig .tc := ⟨.hbm, 155, rfl⟩
abbrev main_v83 : Ref sig .tc := ⟨.hbm, 156, rfl⟩
abbrev main_v84 : Ref sig .tc := ⟨.hbm, 157, rfl⟩
abbrev main_c_15 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_c_16 : Ref sig .tc := ⟨.hbm, 164, rfl⟩
abbrev main_v90 : Ref sig .tc := ⟨.hbm, 165, rfl⟩
abbrev main_v91 : Ref sig .tc := ⟨.hbm, 166, rfl⟩
abbrev main_c_17 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩

abbrev nD : Nat := 1
abbrev τ : Topo := Topo.v7x

variable {F : FTy → Type} [FloatOps F]

abbrev main_while0_count : Scf.Loop 32 := ⟨0#32, 5000#32, 1#32⟩
-- ==== Proof.IdealWhile.lean ====
module

public import proofs.«01_k».proof.Proof.Gen.KernelIdeal.Skeleton
public import Idealize.ShloMosaic.Lib.Tactic
public import Idealize.ShloMosaic.Lib.Pointwise
public import Idealize.ShloMosaic.Lib.WordCmp
public import Idealize.ShloMosaic.Lib.Pipeline.Kit

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic

variable {F : FTy → Type} [FloatOps F]

/-! ### Words that are flags -/

/-- A word that is 0 or 1. -/
def Flag (w : BitVec 32) : Prop := w = 0#32 ∨ w = 1#32

theorem flag_bit (b : BitVec 1) : Flag (BitVec.setWidth 32 b) := by
  revert b; unfold Flag; decide

theorem flag_pos {w : BitVec 32} (h : Flag w) : (0 < w.toInt) ↔ w = 1#32 := by
  rcases h with rfl | rfl <;> decide

theorem flag_ne_one {w : BitVec 32} (h : Flag w) : w ≠ 1#32 ↔ w = 0#32 := by
  rcases h with rfl | rfl <;> decide

/-! ### The loop's test and the lane it picks -/

/-- The lane words of a row of 128. -/
def lanes : IVec S1x128 32 := iota .tc S1x128 32 [1] iota_S1x128_d1_w32

/-- The greatest of a row's words, as the loop's condition reads it. -/
def top (a : IVec S1x128 32) : BitVec 32 := extractAt ![0, 0, 0] (k0_pay2 a) inpos_S1x1x1_p0_0_0

/-- The least lane whose word is positive, as the loop's body reads it. -/
def pick (a : IVec S1x128 32) : BitVec 32 := extractAt ![0, 0, 0] (k0_pay3 lanes a) inpos_S1x1x1_p0_0_0

/-- Another trip is run: the greatest word is positive. -/
def more (a : IVec S1x128 32) : Prop := Scalar.cmpi .sgt (top a) 0#32 = 1#1

theorem toInt_maxsi (x y : BitVec 32) : (IntOp.maxsi x y).toInt = max x.toInt y.toInt := by
  unfold IntOp.maxsi; simp only [BitVec.slt, decide_eq_true_eq]; split <;> omega

theorem toInt_minsi (x y : BitVec 32) : (IntOp.minsi x y).toInt = min x.toInt y.toInt := by
  unfold IntOp.minsi; simp only [BitVec.slt, decide_eq_true_eq]; split <;> omega

theorem ofBool_one (p : Prop) [Decidable p] : BitVec.ofBool (decide p) = 1#1 ↔ p := by
  by_cases h : p <;> simp [h]

theorem select_ofBool {α : Type} (p : Prop) [Decidable p] (x y : α) : Scalar.select (BitVec.ofBool (decide p)) x y = if p then x else y := by
  by_cases h : p <;> simp [h, Scalar.select]

theorem lanes_at (l : Fin 128) : lanes (ix2 0 l) = BitVec.ofNat 32 l.val := by
  pointwise [lanes]

theorem pick_fold (v4 a : IVec S1x128 32) : extractAt ![0, 0, 0] (k0_pay3 v4 a) inpos_S1x1x1_p0_0_0
    = Finset.fold IntOp.minsi (2147483647#32) (fun x : Fin 1 × Fin 128 => Scalar.select (IntOp.cmpi .sgt (a (ix2 0 x.2)) 0#32)
        (v4 (ix2 0 x.2)) 128#32) Finset.univ := by
  pointwise [k0_pay3]

theorem fold_maxsi_pos {ι : Type} (S : Finset ι) (f : ι → BitVec 32) :
    0 < (Finset.fold IntOp.maxsi (2147483648#32) f S).toInt ↔ ∃ i ∈ S, 0 < (f i).toInt := by
  classical
  induction S using Finset.induction_on with
  | empty => simp
  | insert a S ha ih => rw [Finset.fold_insert ha, toInt_maxsi, lt_max_iff, ih]; simp

theorem fold_minsi_le {ι : Type} (S : Finset ι) (f : ι → BitVec 32) (b : BitVec 32) :
    ∀ i ∈ S, (Finset.fold IntOp.minsi b f S).toInt ≤ (f i).toInt := by
  classical
  induction S using Finset.induction_on with
  | empty => simp
  | insert a S ha ih =>
    intro i hi
    rw [Finset.fold_insert ha, toInt_minsi]
    rcases Finset.mem_insert.1 hi with rfl | h
    · exact min_le_left _ _
    · exact (min_le_right _ _).trans (ih i h)

theorem fold_minsi_mem {ι : Type} (S : Finset ι) (f : ι → BitVec 32) (b : BitVec 32) :
    Finset.fold IntOp.minsi b f S = b ∨ ∃ i ∈ S, Finset.fold IntOp.minsi b f S = f i := by
  classical
  induction S using Finset.induction_on with
  | empty => simp
  | insert a S ha ih =>
    rw [Finset.fold_insert ha]
    have hm : ∀ x y : BitVec 32, IntOp.minsi x y = x ∨ IntOp.minsi x y = y := by
      intro x y; unfold IntOp.minsi; split <;> simp
    rcases hm (f a) (Finset.fold IntOp.minsi b f S) with h | h
    · exact .inr ⟨a, by simp, h⟩
    · rw [h]
      rcases ih with h' | ⟨i, hi, h'⟩
      · exact .inl h'
      · exact .inr ⟨i, by simp [hi], h'⟩

/-- Another trip is run exactly if some lane's word is positive. -/
theorem more_iff (a : IVec S1x128 32) : more a ↔ ∃ l : Fin 128, 0 < (a (ix2 0 l)).toInt := by
  have e : top a = Finset.fold IntOp.maxsi (2147483648#32) (fun x : Fin 1 × Fin 128 => a (ix2 0 x.2)) Finset.univ := by
    unfold top; pointwise [k0_pay2]
  have h0 : more a ↔ 0 < (top a).toInt := by
    unfold more Scalar.cmpi; rw [WordCmp.cmpi_sgt_eq, ofBool_one]; simp
  rw [h0, e, fold_maxsi_pos]
  exact ⟨fun ⟨i, _, h⟩ => ⟨i.2, h⟩, fun ⟨l, h⟩ => ⟨(0, l), Finset.mem_univ _, h⟩⟩

theorem toInt_lane (l : Fin 128) : (BitVec.ofNat 32 l.val).toInt = l.val := by
  have := l.isLt
  rw [BitVec.toInt_eq_toNat_cond, BitVec.toNat_ofNat, Nat.mod_eq_of_lt (by omega)]
  split <;> omega

/-- Where another trip is run, the lane picked is the first of those whose word is positive. -/
theorem pick_spec (a : IVec S1x128 32) (h : more a) : ∃ l : Fin 128, pick a = BitVec.ofNat 32 l.val ∧ 0 < (a (ix2 0 l)).toInt
    ∧ ∀ l' : Fin 128, l'.val < l.val → ¬ 0 < (a (ix2 0 l')).toInt := by
  obtain ⟨l₀, h₀⟩ := (more_iff a).1 h
  have e : pick a = Finset.fold IntOp.minsi (2147483647#32) (fun x : Fin 1 × Fin 128 =>
      if 0 < (a (ix2 0 x.2)).toInt then BitVec.ofNat 32 x.2.val else 128#32) Finset.univ := by
    unfold pick; rw [pick_fold]
    refine Finset.fold_congr fun x _ => ?_
    rw [lanes_at, WordCmp.cmpi_sgt_eq, select_ofBool]; rfl
  have hle := fold_minsi_le Finset.univ (fun x : Fin 1 × Fin 128 =>
      if 0 < (a (ix2 0 x.2)).toInt then BitVec.ofNat 32 x.2.val else 128#32) (2147483647#32)
  have hmem := fold_minsi_mem Finset.univ (fun x : Fin 1 × Fin 128 =>
      if 0 < (a (ix2 0 x.2)).toInt then BitVec.ofNat 32 x.2.val else 128#32) (2147483647#32)
  rw [← e] at hle hmem
  have hl₀ := hle (0, l₀) (Finset.mem_univ _)
  simp only [h₀, if_true, toInt_lane] at hl₀
  have := l₀.isLt
  rcases hmem with hm | ⟨⟨z, l⟩, -, hm⟩
  · rw [hm] at hl₀
    have : (2147483647#32).toInt = 2147483647 := by decide
    omega
  · by_cases hl : 0 < (a (ix2 0 l)).toInt
    · simp only [hl, if_true] at hm
      refine ⟨l, hm, hl, fun l' hlt hpos => ?_⟩
      have := hle (0, l') (Finset.mem_univ _)
      simp only [hpos, if_true, toInt_lane, hm] at this
      omega
    · simp only [hl, if_false] at hm
      rw [hm] at hl₀
      have : (128#32).toInt = 128 := by decide
      omega

/-- The side condition of the overlap table's row load holds of a lane. -/
theorem chk_lane (l : Fin 128) : k0_chk1 (BitVec.ofNat 32 l.val) := by
  revert l; unfold k0_chk1 k0_off4; decide

/-! ### One trip -/

/-- Row `w` of the overlap table, as the body loads it. -/
def rowAt (S : Vec F S128x128 .i32) (w : BitVec 32) : Vec F S1x128 .i32 :=
  if h : k0_chk1 w then
    ((Memref.whole cc0_scratch0 : Memref sig .tc .vmem S128x128 .i32).access (Rect.unit (s := S128x128) (k0_off4 w) S1x128.size (k0_off4_inb w h)) :
      View sig .tc _ _ _).read (Elt F) S
  else fun _ => 0#32

/-- The two carried rows after one trip. -/
def step (S : Vec F S128x128 .i32) (p : IVec S1x128 32 × IVec S1x128 32) : IVec S1x128 32 × IVec S1x128 32 :=
  (k0_pay4 (F := F) lanes p.1 p.2 (rowAt S (pick p.2)), k0_pay5 (F := F) lanes p.1 p.2 (rowAt S (pick p.2)))

open Classical in
/-- The carried rows after at most `n` trips. -/
def wrun (S : Vec F S128x128 .i32) : ℕ → IVec S1x128 32 × IVec S1x128 32 → IVec S1x128 32 × IVec S1x128 32
  | 0, p => p
  | n + 1, p => if more p.2 then wrun S n (step S p) else p

theorem pay4_at (v4 sb a : IVec S1x128 32) (row : Vec F S1x128 .i32) (l : Fin 128) :
    k0_pay4 (F := F) v4 sb a row (ix2 0 l) = IntOp.ori (sb (ix2 0 l)) (BitVec.setWidth 32 (IntOp.andi
      (IntOp.cmpi .sgt (v4 (ix2 0 l)) (extractAt ![0, 0, 0] (k0_pay3 v4 a) inpos_S1x1x1_p0_0_0)) (IntOp.cmpi .sgt (row (ix2 0 l)) 0#32))) := by
  pointwise [k0_pay4]

theorem pay5_at (v4 sb a : IVec S1x128 32) (row : Vec F S1x128 .i32) (l : Fin 128) :
    k0_pay5 (F := F) v4 sb a row (ix2 0 l) = IntOp.andi (IntOp.andi (a (ix2 0 l)) (IntOp.subi 1#32 (k0_pay4 (F := F) v4 sb a row (ix2 0 l))))
      (BitVec.setWidth 32 (IntOp.cmpi .ne (v4 (ix2 0 l)) (extractAt ![0, 0, 0] (k0_pay3 v4 a) inpos_S1x1x1_p0_0_0))) := by
  pointwise [k0_pay5]

theorem setWidth_ofBool (p : Prop) [Decidable p] : BitVec.setWidth 32 (BitVec.ofBool (decide p)) = if p then 1#32 else 0#32 := by
  by_cases h : p <;> simp [h]

theorem andi_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The marks after a trip that picks lane `j`: lane by lane, or-ed with "behind the picked lane, and overlapped by it". -/
theorem step_fst (S : Vec F S128x128 .i32) (p : IVec S1x128 32 × IVec S1x128 32) (j : Fin 128) (hj : pick p.2 = BitVec.ofNat 32 j.val) (l : Fin 128) :
    (step S p).1 (ix2 0 l) = IntOp.ori (p.1 (ix2 0 l))
      (if j.val < l.val ∧ 0 < (rowAt S (BitVec.ofNat 32 j.val) (ix2 0 l)).toInt then 1#32 else 0#32) := by
  unfold step; dsimp only
  rw [pay4_at, ← hj, lanes_at, show extractAt ![0, 0, 0] (k0_pay3 lanes p.2) inpos_S1x1x1_p0_0_0 = pick p.2 from rfl,
    WordCmp.cmpi_sgt_eq, WordCmp.cmpi_sgt_eq, andi_ofBool, setWidth_ofBool, hj, toInt_lane, toInt_lane]
  simp

/-- The active lanes after a trip that picks lane `j`: those still active that are not marked and not picked. -/
theorem step_snd (S : Vec F S128x128 .i32) (p : IVec S1x128 32 × IVec S1x128 32) (j : Fin 128) (hj : pick p.2 = BitVec.ofNat 32 j.val) (l : Fin 128) :
    (step S p).2 (ix2 0 l) = IntOp.andi (IntOp.andi (p.2 (ix2 0 l)) (IntOp.subi 1#32 ((step S p).1 (ix2 0 l))))
      (if l ≠ j then 1#32 else 0#32) := by
  unfold step; dsimp only
  rw [pay5_at, lanes_at, show extractAt ![0, 0, 0] (k0_pay3 lanes p.2) inpos_S1x1x1_p0_0_0 = pick p.2 from rfl,
    WordCmp.cmpi_ne_eq, setWidth_ofBool, hj]
  congr 1
  refine if_congr ?_ rfl rfl
  rw [not_iff_not]
  constructor
  · intro h; have := congrArg BitVec.toInt h; rw [toInt_lane, toInt_lane] at this; exact Fin.ext (by omega)
  · rintro rfl; rfl

theorem flag_and {w : BitVec 32} (v b : BitVec 32) (h : Flag w) (hb : Flag b) : Flag (IntOp.andi (IntOp.andi w v) b) := by
  unfold Flag IntOp.andi at *
  rcases h with rfl | rfl
  · simp
  · have : (1#32 &&& v) = 0#32 ∨ (1#32 &&& v) = 1#32 := by
      rcases (show v.getLsbD 0 = true ∨ v.getLsbD 0 = false by cases v.getLsbD 0 <;> simp) with h | h
      · right; ext i hi; by_cases h0 : i = 0 <;> simp_all [BitVec.getElem_one]
      · left; ext i hi; by_cases h0 : i = 0 <;> simp_all [BitVec.getElem_one]
    rcases this with h | h <;> rw [h] <;> rcases hb with rfl | rfl <;> simp

/-- The number of active lanes. -/
def active (a : IVec S1x128 32) : ℕ := (Finset.univ.filter fun l : Fin 128 => a (ix2 0 l) = 1#32).card

theorem active_le (a : IVec S1x128 32) : active a ≤ 128 := by
  unfold active; exact (Finset.card_le_univ _).trans (by simp)

theorem step_flag (S : Vec F S128x128 .i32) (p : IVec S1x128 32 × IVec S1x128 32) (hf : ∀ l, Flag (p.2 (ix2 0 l))) (h : more p.2) :
    ∀ l, Flag ((step S p).2 (ix2 0 l)) := by
  obtain ⟨j, hj, -⟩ := pick_spec p.2 h
  intro l
  rw [step_snd S p j hj]
  exact flag_and _ _ (hf l) (by unfold Flag; split <;> simp)

/-- A trip leaves fewer lanes active. -/
theorem step_active (S : Vec F S128x128 .i32) (p : IVec S1x128 32 × IVec S1x128 32) (hf : ∀ l, Flag (p.2 (ix2 0 l))) (h : more p.2) :
    active (step S p).2 < active p.2 := by
  obtain ⟨j, hj, hpos, -⟩ := pick_spec p.2 h
  unfold active
  refine Finset.card_lt_card ⟨fun l hl => ?_, fun hsub => ?_⟩
  · simp only [Finset.mem_filter, Finset.mem_univ, true_and] at hl ⊢
    rw [step_snd S p j hj] at hl
    rcases hf l with h0 | h1
    · rw [h0] at hl; simp [IntOp.andi] at hl
    · exact h1
  · have hj1 := (flag_pos (hf j)).1 hpos
    have := hsub (show j ∈ _ by simp [hj1])
    simp only [Finset.mem_filter, Finset.mem_univ, true_and] at this
    rw [step_snd S p j hj] at this
    simp [IntOp.andi] at this

theorem not_more_of_active (a : IVec S1x128 32) (hf : ∀ l, Flag (a (ix2 0 l))) (h : active a = 0) : ¬ more a := by
  intro hm
  obtain ⟨l, hl⟩ := (more_iff a).1 hm
  have := (flag_pos (hf l)).1 hl
  unfold active at h
  rw [Finset.card_eq_zero] at h
  have hmem : l ∈ Finset.univ.filter fun l : Fin 128 => a (ix2 0 l) = 1#32 := by simp [this]
  rw [h] at hmem; simp at hmem

/-- The initial activity of a block is a row of flags. -/
theorem act_flag (over : IVec S128x128 1) (row : Vec F S1x128 .i32) (l : Fin 128) : Flag (k0_pay21 (F := F) over row (ix2 0 l)) := by
  have : ∃ b : BitVec 1, k0_pay21 (F := F) over row (ix2 0 l) = BitVec.setWidth 32 b := ⟨_, by unfold k0_pay21; rfl⟩
  obtain ⟨b, h⟩ := this
  rw [h]; exact flag_bit b

end Cert.KernelIdeal.Body

end
-- ==== Proof.IdealBody.lean ====
module

public import proofs.«01_k».proof.Proof.IdealWhile
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.Exec
public import Idealize.ShloMosaic.Lib.Pipeline.Kit
public import Idealize.ShloMosaic.Lib.Pipeline.FrameTail
public import Idealize.ShloMosaic.Lib.Pipeline.FrameSuffix

@[expose] public section

set_option maxRecDepth 16384
set_option cleanup.letToHave false

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR sig nD τ) ℕ

/-- The six buffers the kernel body works on: the three staged operands, the staged result, the block's overlap table
    and the row of suppression marks. -/
abbrev mB : Memref sig .tc .vmem S5120x4 .f32 := Memref.whole cc0_stg0_0
abbrev mT : Memref sig .tc .vmem S4x5120 .f32 := Memref.whole cc0_stg1_0
abbrev mD : Memref sig .tc .vmem S8x5120 .f32 := Memref.whole cc0_stg2_0
abbrev mO : Memref sig .tc .vmem S8x128 .f32 := Memref.whole cc0_stg3_0
abbrev mK : Memref sig .tc .vmem S128x128 .i32 := Memref.whole cc0_scratch0
abbrev mS : Memref sig .tc .vmem S1x5120 .i32 := Memref.whole cc0_scratch1

/-! ### One chunk of columns -/

/-- The marks after one chunk: the chunk's columns or-ed with "some kept box of the block overlaps this column, and the
    column lies behind the block". -/
def colStep (v5 : IVec S1x2048 32) (i : Fin k0_t1_loop.trips) (v506 : BitVec 32) (x1 y1 x2 y2 ar : FVec F S128x1 .f32)
    (kept : FVec F S1x128 .f32) (T : Vec F S4x5120 .f32) (m : Fin (k0_t2_loop i).trips) (f : Vec F S1x5120 .i32) : Vec F S1x5120 .i32 :=
  (mS.access (Rect.unit (s := S1x5120) (k0_off6 i m) S1x2048.size (k0_off6_inb i m)) : View sig .tc _ _ _).write (Elt F) f
    (k0_pay25 (k0_pay6 x1 y1 x2 y2 ar kept
        ((mT.access (Rect.unit (s := S4x5120) (k0_off5 i m) S4x2048.size (k0_off5_inb i m)) : View sig .tc _ _ _).read (Elt F) T))
      (k0_pay7 v5 i v506 0#32 1#32 m) (k0_pay8 v506)
      ((mS.access (Rect.unit (s := S1x5120) (k0_off6 i m) S1x2048.size (k0_off6_inb i m)) : View sig .tc _ _ _).read (Elt F) f))
    Finset.univ

theorem t2_trip (𝒱 : Variants) (c : Dev nD) (bd : Option 𝒱.V) (E : Set ℕ) (v5 : IVec S1x2048 32) (i : Fin k0_t1_loop.trips) (v506 : BitVec 32)
    (x1 y1 x2 y2 ar : FVec F S128x1 .f32) (kept : FVec F S1x128 .f32) (T : Vec F S4x5120 .f32) (m : Fin (k0_t2_loop i).trips)
    (f : Vec F S1x5120 .i32) (u : Unit) :
    (iprop((((c : Thread nD τ).loc cc0_stg1_0) ↦{fullShare} T) ∗ (((c : Thread nD τ).loc cc0_scratch1) ↦{fullShare} f)) : sProp 𝕄)
    ⊢ wp frame (wpE (defs₀ (F := F)) 𝒱 (c : Thread nD τ) bd) E
        (k0_t2_body (F := F) mB (Memref.isWhole_whole _) mT (Memref.isWhole_whole _) mD (Memref.isWhole_whole _) mO (Memref.isWhole_whole _)
          mK (Memref.isWhole_whole _) mS (Memref.isWhole_whole _) v5 i v506 x1 y1 x2 y2 ar kept m u)
        (fun _ => iprop((((c : Thread nD τ).loc cc0_stg1_0) ↦{fullShare} T)
          ∗ (((c : Thread nD τ).loc cc0_scratch1) ↦{fullShare} (colStep v5 i v506 x1 y1 x2 y2 ar kept T m f)))) := by
  unfold k0_t2_body
  simp only [k0_part1_eq_skeleton]; unfold k0_part1_skel
  simp only [Prog.lift, Prog.bind_op, Prog.bind_ret, Prog.pure_eq_ret]
  iintro ⟨HT, HS⟩
  iapply (wp_load 𝒱 (c : Thread nD τ) bd E (m := mT) (Finset.subset_univ _)) $$ HT; iintro HT
  iapply (wp_load 𝒱 (c : Thread nD τ) bd E (m := mS) (Finset.subset_univ _)) $$ HS; iintro HS
  iapply (wp_load 𝒱 (c : Thread nD τ) bd E (m := mS) (Finset.subset_univ _)) $$ HS; iintro HS
  iapply (wp_store 𝒱 (c : Thread nD τ) bd E (m := mS) (r := Rect.unit (s := S1x5120) (k0_off6 i m) S1x2048.size (k0_off6_inb i m))
    (Mk := Finset.univ) (Finset.subset_univ _)) $$ HS; iintro HS
  rw [wp_ret]; imodintro
  isplitl [HT]; · iexact HT
  iexact HS

/-- The marks after the first `n` chunks. -/
def colAt (v5 : IVec S1x2048 32) (i : Fin k0_t1_loop.trips) (v506 : BitVec 32) (x1 y1 x2 y2 ar : FVec F S128x1 .f32)
    (kept : FVec F S1x128 .f32) (T : Vec F S4x5120 .f32) (f : Vec F S1x5120 .i32) : ℕ → Vec F S1x5120 .i32
  | 0 => f
  | n + 1 => if h : n < (k0_t2_loop i).trips then colStep v5 i v506 x1 y1 x2 y2 ar kept T ⟨n, h⟩ (colAt v5 i v506 x1 y1 x2 y2 ar kept T f n)
      else colAt v5 i v506 x1 y1 x2 y2 ar kept T f n

/-- The remainder loop over the chunks runs no trip: its step is one. -/
theorem t3_trips : ∀ i : Fin k0_t1_loop.trips, (k0_t3_loop i).trips = 0 := by decide

/-! ### The block's while -/

abbrev 𝒱₀ : Variants := Variants.nat

/-- The while's label with at most `n` lanes active: holding the overlap table, it returns the rows after at most `n`
    trips and hands the table back. -/
def spec (c : Dev nD) (S : Vec F S128x128 .i32) (n : ℕ) (p : IVec S1x128 32 × IVec S1x128 32) : sWPT 𝕄 (IVec S1x128 32 × IVec S1x128 32) := do
  sWPT.consume (iprop(((c : Thread nD τ).loc cc0_scratch0) ↦{fullShare} S) : sProp 𝕄)
  sWPT.produce (iprop(((c : Thread nD τ).loc cc0_scratch0) ↦{fullShare} S) : sProp 𝕄)
  pure (wrun S n p)

theorem spec_apply (c : Dev nD) (S : Vec F S128x128 .i32) (n : ℕ) (p : IVec S1x128 32 × IVec S1x128 32) (K : IVec S1x128 32 × IVec S1x128 32 → sProp 𝕄) :
    spec c S n p K = iprop((((c : Thread nD τ).loc cc0_scratch0) ↦{fullShare} S)
      ∗ ((((c : Thread nD τ).loc cc0_scratch0) ↦{fullShare} S) -∗ K (wrun S n p))) := rfl

/-- The label's function is the printed while. -/
theorem defs_while (c : Dev nD) (i : Fin k0_t1_loop.trips) (v4 : IVec S1x128 32) (h : mK.IsWhole) (a b : IVec S1x128 32) :
    defs₀ (F := F) (c : Thread nD τ).2 1 (⟨i, v4, mK, h, a, b⟩ : Cc0While1 F) = cc0_while1 i v4 mK h a b := by unfold defs₀; rw [Defs.onTc]

/-- A call of the label, given what its function does. -/
theorem call_gen (c : Dev nD) (E : Set ℕ) (i : Fin k0_t1_loop.trips) (S : Vec F S128x128 .i32) (n : ℕ) (sb a : IVec S1x128 32)
    (z : Prog (TpuEff nD τ sig (Elt F) (Λ₀ F) .tc) (IVec S1x128 32 × IVec S1x128 32))
    (hz : defs₀ (F := F) (c : Thread nD τ).2 1 (⟨i, lanes, mK, Memref.isWhole_whole _, sb, a⟩ : Cc0While1 F) = z)
    (hT : ∀ K, spec c S n (sb, a) K ⊢ wp frame (wpE (defs₀ (F := F)) 𝒱₀ (c : Thread nD τ) (some n)) E z K)
    (bd : Option ℕ) (hv : ∀ u ∈ bd, n < u)
    {β : Type} (kk : IVec S1x128 32 × IVec S1x128 32 → Prog (TpuEff nD τ sig (Elt F) (Λ₀ F) .tc) β) (Q : β → sProp 𝕄) :
    (iprop((((c : Thread nD τ).loc cc0_scratch0) ↦{fullShare} S)
      ∗ ((((c : Thread nD τ).loc cc0_scratch0) ↦{fullShare} S) -∗ wp frame (wpE (defs₀ (F := F)) 𝒱₀ (c : Thread nD τ) bd) E (kk (wrun S n (sb, a))) Q)) : sProp 𝕄)
    ⊢ wp frame (wpE (defs₀ (F := F)) 𝒱₀ (c : Thread nD τ) bd) E
        (Prog.op (.call (1 : (Λ₀ F).Label) ⟨i, lanes, mK, Memref.isWhole_whole _, sb, a⟩) kk) Q := by
  refine wp_call_spec (defs := defs₀ (F := F)) (ℓ := (1 : (Λ₀ F).Label)) (a := (⟨i, lanes, mK, Memref.isWhole_whole _, sb, a⟩ : Cc0While1 F)) 𝒱₀ (c : Thread nD τ) bd E (spec c S n (sb, a)) n hv ?_
  intro K
  rw [hz, PendingWaitsCtx.descend_none]
  exact hT K

/-- The same at operands known by equations. -/
theorem call_gen' (c : Dev nD) (E : Set ℕ) (i : Fin k0_t1_loop.trips) (S : Vec F S128x128 .i32) (n : ℕ) (sb' a' sb a : IVec S1x128 32)
    (hsb : sb' = sb) (ha : a' = a)
    (z : Prog (TpuEff nD τ sig (Elt F) (Λ₀ F) .tc) (IVec S1x128 32 × IVec S1x128 32))
    (hz : defs₀ (F := F) (c : Thread nD τ).2 1 (⟨i, lanes, mK, Memref.isWhole_whole _, sb, a⟩ : Cc0While1 F) = z)
    (hT : ∀ K, spec c S n (sb, a) K ⊢ wp frame (wpE (defs₀ (F := F)) 𝒱₀ (c : Thread nD τ) (some n)) E z K)
    (bd : Option ℕ) (hv : ∀ u ∈ bd, n < u)
    {β : Type} (kk : IVec S1x128 32 × IVec S1x128 32 → Prog (TpuEff nD τ sig (Elt F) (Λ₀ F) .tc) β) (Q : β → sProp 𝕄) :
    (iprop((((c : Thread nD τ).loc cc0_scratch0) ↦{fullShare} S)
      ∗ ((((c : Thread nD τ).loc cc0_scratch0) ↦{fullShare} S) -∗ wp frame (wpE (defs₀ (F := F)) 𝒱₀ (c : Thread nD τ) bd) E (kk (wrun S n (sb, a))) Q)) : sProp 𝕄)
    ⊢ wp frame (wpE (defs₀ (F := F)) 𝒱₀ (c : Thread nD τ) bd) E
        (Prog.op (.call (1 : (Λ₀ F).Label) ⟨i, lanes, mK, Memref.isWhole_whole _, sb', a'⟩) kk) Q := by
  subst hsb; subst ha
  exact call_gen c E i S n _ _ z hz hT bd hv kk Q

/-- One trip's rows in the words of the printed while, `w` being the lane it picks. -/
theorem step_eq (S : Vec F S128x128 .i32) (sb a : IVec S1x128 32) (w : BitVec 32) (hw : pick a = w) (hchk : k0_chk1 w) :
    step S (sb, a) = (k0_pay4 (F := F) lanes sb a (mK.view.readAt (Elt F)
            (Rect.unit (s := S128x128) (k0_off4 w) S1x128.size (k0_off4_inb w hchk)).toLoadRect S),
          k0_pay5 (F := F) lanes sb a (mK.view.readAt (Elt F)
            (Rect.unit (s := S128x128) (k0_off4 w) S1x128.size (k0_off4_inb w hchk)).toLoadRect S)) := by
  unfold step rowAt; rw [hw, dif_pos hchk]; rfl

theorem chk_pick (a : IVec S1x128 32) (w : BitVec 32) (hw : pick a = w) (h : more a) : k0_chk1 w := by
  obtain ⟨j, hj, -⟩ := pick_spec a h
  rw [← hw, hj]; exact chk_lane j

/-- The label's function meets its specification: by induction on the number of active lanes, which every trip lowers. -/
theorem spec_le (c : Dev nD) (E : Set ℕ) (i : Fin k0_t1_loop.trips) (S : Vec F S128x128 .i32) :
    ∀ n (sb a : IVec S1x128 32), (∀ l, Flag (a (ix2 0 l))) → active a ≤ n → ∀ z, z = cc0_while1 (F := F) i lanes mK (Memref.isWhole_whole _) sb a →
      ∀ K, spec c S n (sb, a) K ⊢ wp frame (wpE (defs₀ (F := F)) 𝒱₀ (c : Thread nD τ) (some n)) E z K := by
  intro n
  induction n with
  | zero =>
    intro sb a hf hn z hz K
    rw [spec_apply, hz]
    simp only [cc0_while1_eq_skeleton]; unfold cc0_while1_skel
    have htest : ¬ more a := not_more_of_active a hf (by omega)
    unfold more top at htest
    simp only [htest, ↓reduceIte, Prog.pure_eq_ret]
    iintro ⟨H, Hk⟩
    rw [wp_ret]; imodintro
    simp only [wrun]
    iapply Hk; iexact H
  | succ n ih =>
    intro sb a hf hn z hz K
    rw [spec_apply, hz]
    simp only [cc0_while1_eq_skeleton]; unfold cc0_while1_skel
    rcases Classical.em (more a) with hm | hm
    · have hw : wrun S (n + 1) (sb, a) = wrun S n (step S (sb, a)) := by simp only [wrun, hm, if_true]
      rw [hw]
      have htest := hm
      unfold more top at htest
      simp only [htest, ↓reduceIte, Prog.lift, Prog.bind_op, Prog.bind_ret, Prog.pure_eq_ret]
      have hchk := chk_pick a _ rfl hm
      have hst := @step_eq F _ S sb a _ rfl hchk
      have hfl := @step_flag F _ S (sb, a) hf hm
      have hac := @step_active F _ S (sb, a) hf hm
      rw [hst] at hfl hac ⊢
      iintro ⟨H, Hk⟩
      iapply (wp_assume 𝒱₀ (c : Thread nD τ) (some (n + 1)) E hchk)
      iapply (wp_load 𝒱₀ (c : Thread nD τ) (some (n + 1)) E (m := mK) (Finset.subset_univ _)) $$ H; iintro H
      obtain ⟨sb2, hsb⟩ : ∃ x, k0_pay4 (F := F) lanes sb a (mK.view.readAt (Elt F)
          (Rect.unit (s := S128x128) (k0_off4 (pick a)) S1x128.size (k0_off4_inb (pick a) hchk)).toLoadRect S) = x := ⟨_, rfl⟩
      obtain ⟨a2, ha⟩ : ∃ x, k0_pay5 (F := F) lanes sb a (mK.view.readAt (Elt F)
          (Rect.unit (s := S128x128) (k0_off4 (pick a)) S1x128.size (k0_off4_inb (pick a) hchk)).toLoadRect S) = x := ⟨_, rfl⟩
      rw [hsb, ha] at hfl hac
      rw [hsb, ha]
      have hac' : active a2 ≤ n := Nat.le_of_lt_succ (lt_of_lt_of_le hac hn)
      obtain ⟨z2, hz2⟩ : ∃ z2, z2 = cc0_while1 (F := F) i lanes mK (Memref.isWhole_whole _) sb2 a2 := ⟨_, rfl⟩
      have hih := ih sb2 a2 hfl hac' z2 hz2
      have hd : defs₀ (F := F) (c : Thread nD τ).2 1 (⟨i, lanes, mK, Memref.isWhole_whole _, sb2, a2⟩ : Cc0While1 F) = z2 := by rw [hz2]; exact defs_while c i _ _ _ _
      iapply (call_gen' c E i S n _ _ sb2 a2 hsb ha z2 hd hih (some (n + 1)) (fun u hu => by cases hu; exact Nat.lt_succ_self n))
      isplitl [H]; · iexact H
      iintro H
      rw [wp_ret]; imodintro
      iapply Hk; iexact H
    · have hw : wrun S (n + 1) (sb, a) = (sb, a) := by simp only [wrun, hm, if_false]
      rw [hw]
      have htest := hm
      unfold more top at htest
      simp only [htest, ↓reduceIte, Prog.pure_eq_ret]
      iintro ⟨H, Hk⟩
      rw [wp_ret]; imodintro
      iapply Hk; iexact H

/-- A bound on the trips of one block's while: its lanes. -/
def cap : ℕ := 128
theorem cap_eq : cap = 128 := rfl

/-- The block's call of the while. -/
theorem call_while (c : Dev nD) (E : Set ℕ) (i : Fin k0_t1_loop.trips) (S : Vec F S128x128 .i32) (sb a : IVec S1x128 32)
    (n : ℕ) (hf : ∀ l, Flag (a (ix2 0 l))) (hn : active a ≤ n) {β : Type} (kk : IVec S1x128 32 × IVec S1x128 32 → Prog (TpuEff nD τ sig (Elt F) (Λ₀ F) .tc) β) (Q : β → sProp 𝕄) :
    (iprop((((c : Thread nD τ).loc cc0_scratch0) ↦{fullShare} S)
      ∗ ((((c : Thread nD τ).loc cc0_scratch0) ↦{fullShare} S) -∗ wp frame (wpE (defs₀ (F := F)) 𝒱₀ (c : Thread nD τ) none) E (kk (wrun S n (sb, a))) Q)) : sProp 𝕄)
    ⊢ wp frame (wpE (defs₀ (F := F)) 𝒱₀ (c : Thread nD τ) none) E
        (Prog.op (.call (1 : (Λ₀ F).Label) ⟨i, lanes, mK, Memref.isWhole_whole _, sb, a⟩) kk) Q := by
  obtain ⟨z, hz⟩ : ∃ z, z = cc0_while1 (F := F) i lanes mK (Memref.isWhole_whole _) sb a := ⟨_, rfl⟩
  exact call_gen c E i S n sb a z (by rw [hz]; exact defs_while c i _ _ _ _) (spec_le c E i S n sb a hf hn z hz) none (fun u hu => nomatch hu) kk Q

/-! ### One block -/

/-- The rectangle of the block's own columns of the marks. -/
abbrev rOwn (i : Fin k0_t1_loop.trips) : Rect S1x5120 := Rect.unit (s := S1x5120) (k0_off3 i) S1x128.size (k0_off3_inb i)

/-- The block's rows of the boxes and its columns of the transposed boxes. -/
def rowsOf (i : Fin k0_t1_loop.trips) (B : Vec F S5120x4 .f32) : Vec F S128x4 .f32 :=
  (mB.access (Rect.unit (s := S5120x4) (k0_off1 i) S128x4.size (k0_off1_inb i)) : View sig .tc _ _ _).read (Elt F) B
def colsOf (i : Fin k0_t1_loop.trips) (T : Vec F S4x5120 .f32) : Vec F S4x128 .f32 :=
  (mT.access (Rect.unit (s := S4x5120) (k0_off2 i) S4x128.size (k0_off2_inb i)) : View sig .tc _ _ _).read (Elt F) T
/-- The block's own marks as it finds them. -/
def ownOf (i : Fin k0_t1_loop.trips) (f : Vec F S1x5120 .i32) : Vec F S1x128 .i32 :=
  (mS.access (rOwn i) : View sig .tc _ _ _).read (Elt F) f
/-- The block's own marks once the while has run. -/
def ownDone (i : Fin k0_t1_loop.trips) (B : Vec F S5120x4 .f32) (T : Vec F S4x5120 .f32) (f : Vec F S1x5120 .i32) : Vec F S1x128 .i32 :=
  (wrun (F := F) (k0_pay20 (k0_pay19 (rowsOf i B) (colsOf i T))) cap
    (ownOf i f, k0_pay21 (F := F) (k0_pay18 (rowsOf i B) (colsOf i T)) (ownOf i f))).1

/-- The marks with the block's own settled. -/
def ownPut (i : Fin k0_t1_loop.trips) (B : Vec F S5120x4 .f32) (T : Vec F S4x5120 .f32) (f : Vec F S1x5120 .i32) : Vec F S1x5120 .i32 :=
  (mS.access (rOwn i) : View sig .tc _ _ _).write (Elt F) f (k0_pay22 (ownDone i B T f)) Finset.univ

/-- The marks after one block. -/
def blkStep (v5 : IVec S1x2048 32) (i : Fin k0_t1_loop.trips) (B : Vec F S5120x4 .f32) (T : Vec F S4x5120 .f32) (f : Vec F S1x5120 .i32) : Vec F S1x5120 .i32 :=
  colAt v5 i (Scalar.muli (Scf.iv 0#32 1#32 i) 128#32) (k0_pay13 (rowsOf i B)) (k0_pay14 (rowsOf i B)) (k0_pay15 (rowsOf i B))
    (k0_pay16 (rowsOf i B)) (k0_pay17 (rowsOf i B)) (k0_pay23 (F := F) (ownDone i B T f)) T (ownPut i B T f) (k0_t2_loop i).trips

theorem write_whole_K (f w : Vec F S128x128 .i32) :
    (mK.access (Rect.unit (s := S128x128) ![0, 0] S128x128.size inb_S128x128_S128x128_0_0) : View sig .tc _ _ _).write (Elt F) f w Finset.univ = w :=
  Memref.write_access_unit_zero_univ (Elt F) cc0_scratch0 (funext fun a => by fin_cases a <;> rfl) _ f w

theorem t1_trip (c : Dev nD) (E : Set ℕ) (v5 : IVec S1x2048 32) (i : Fin k0_t1_loop.trips) (B : Vec F S5120x4 .f32) (T : Vec F S4x5120 .f32)
    (S : Vec F S128x128 .i32) (f : Vec F S1x5120 .i32) (u : Unit) :
    (iprop((((c : Thread nD τ).loc cc0_stg0_0) ↦{fullShare} B) ∗ (((c : Thread nD τ).loc cc0_stg1_0) ↦{fullShare} T)
      ∗ (((c : Thread nD τ).loc cc0_scratch0) ↦{fullShare} S) ∗ (((c : Thread nD τ).loc cc0_scratch1) ↦{fullShare} f)) : sProp 𝕄)
    ⊢ wp frame (wpE (defs₀ (F := F)) 𝒱₀ (c : Thread nD τ) none) E
        (k0_t1_body (F := F) mB (Memref.isWhole_whole _) mT (Memref.isWhole_whole _) mD (Memref.isWhole_whole _) mO (Memref.isWhole_whole _)
          mK (Memref.isWhole_whole _) mS (Memref.isWhole_whole _) lanes v5 i u)
        (fun _ => iprop((((c : Thread nD τ).loc cc0_stg0_0) ↦{fullShare} B) ∗ (((c : Thread nD τ).loc cc0_stg1_0) ↦{fullShare} T)
          ∗ (∃ S' : Vec F S128x128 .i32, (((c : Thread nD τ).loc cc0_scratch0) ↦{fullShare} S'))
          ∗ (((c : Thread nD τ).loc cc0_scratch1) ↦{fullShare} (blkStep v5 i B T f)))) := by
  unfold k0_t1_body
  simp only [k0_part3_eq_skeleton, k0_part4_eq_skeleton]; unfold k0_part3_skel k0_part4_skel
  simp only [Prog.lift, Prog.bind_op, Prog.bind_ret, Prog.pure_eq_ret]
  iintro ⟨HB, HT, HK, HS⟩
  iapply (wp_load 𝒱₀ (c : Thread nD τ) none E (m := mB) (Finset.subset_univ _)) $$ HB; iintro HB
  iapply (wp_load 𝒱₀ (c : Thread nD τ) none E (m := mT) (Finset.subset_univ _)) $$ HT; iintro HT
  iapply (wp_load 𝒱₀ (c : Thread nD τ) none E (m := mK) (Finset.subset_univ _)) $$ HK; iintro HK
  iapply (wp_store 𝒱₀ (c : Thread nD τ) none E (m := mK) (r := Rect.unit (s := S128x128) ![0, 0] S128x128.size inb_S128x128_S128x128_0_0)
    (Mk := Finset.univ) (Finset.subset_univ _)) $$ HK; iintro HK
  rw [write_whole_K]
  iapply (wp_load 𝒱₀ (c : Thread nD τ) none E (m := mS) (Finset.subset_univ _)) $$ HS; iintro HS
  rw [show mB.view.readAt (Elt F) (Rect.unit (s := S5120x4) (k0_off1 i) S128x4.size (k0_off1_inb i)).toLoadRect B = rowsOf i B from rfl,
    show mT.view.readAt (Elt F) (Rect.unit (s := S4x5120) (k0_off2 i) S4x128.size (k0_off2_inb i)).toLoadRect T = colsOf i T from rfl,
    show mS.view.readAt (Elt F) (rOwn i).toLoadRect f = ownOf i f from rfl]
  iapply (call_while c E i (k0_pay20 (k0_pay19 (rowsOf i B) (colsOf i T))) (ownOf i f)
    (k0_pay21 (F := F) (k0_pay18 (rowsOf i B) (colsOf i T)) (ownOf i f)) cap (act_flag (F := F) (k0_pay18 (rowsOf i B) (colsOf i T)) (ownOf i f)) (active_le _))
  isplitl [HK]; · iexact HK
  iintro HK
  simp only [Prog.bind_op]
  iapply (wp_load 𝒱₀ (c : Thread nD τ) none E (m := mS) (Finset.subset_univ _)) $$ HS; iintro HS
  iapply (wp_store 𝒱₀ (c : Thread nD τ) none E (m := mS) (r := rOwn i)
    (Mk := Finset.univ) (Finset.subset_univ _)) $$ HS; iintro HS
  rw [show (wrun (F := F) (k0_pay20 (k0_pay19 (rowsOf i B) (colsOf i T))) cap
    (ownOf i f, k0_pay21 (F := F) (k0_pay18 (rowsOf i B) (colsOf i T)) (ownOf i f))).1 = ownDone i B T f from rfl]
  iapply (Scf.wp_for_bind frame (wpE (defs₀ (F := F)) 𝒱₀ (c : Thread nD τ) none) E (k0_t2_loop i).lb (k0_t2_loop i).ub (k0_t2_loop i).st (k0_t2_ok i) PUnit.unit _
    (fun n (_ : Unit) => (iprop((((c : Thread nD τ).loc cc0_stg1_0) ↦{fullShare} T) ∗ (((c : Thread nD τ).loc cc0_scratch1) ↦{fullShare}
      (colAt v5 i (Scalar.muli (Scf.iv 0#32 1#32 i) 128#32) (k0_pay13 (rowsOf i B)) (k0_pay14 (rowsOf i B)) (k0_pay15 (rowsOf i B))
        (k0_pay16 (rowsOf i B)) (k0_pay17 (rowsOf i B)) (k0_pay23 (F := F) (ownDone i B T f)) T (ownPut i B T f) n))) : sProp 𝕄))
    (fun m acc => by
      refine (t2_trip 𝒱₀ c none E v5 i (Scalar.muli (Scf.iv 0#32 1#32 i) 128#32) (k0_pay13 (rowsOf i B)) (k0_pay14 (rowsOf i B)) (k0_pay15 (rowsOf i B))
        (k0_pay16 (rowsOf i B)) (k0_pay17 (rowsOf i B)) (k0_pay23 (F := F) (ownDone i B T f)) T m _ acc).trans ?_
      simp only [colAt, dif_pos m.2]
      exact .rfl)) $$ [HT HS]
  · isplitl [HT]; · iexact HT
    iexact HS
  iintro %_ ⟨HT, HS⟩
  iapply (Scf.wp_for_bind frame (wpE (defs₀ (F := F)) 𝒱₀ (c : Thread nD τ) none) E (k0_t3_loop i).lb (k0_t3_loop i).ub (k0_t3_loop i).st (k0_t3_ok i) PUnit.unit _
    (fun n (_ : Unit) => (iprop(emp) : sProp 𝕄)) (fun m acc => absurd (lt_of_lt_of_eq m.2 (t3_trips i)) (Nat.not_lt_zero _))) $$ []
  · iempintro
  iintro %_ H
  rw [wp_ret]; imodintro
  isplitl [HB]; · iexact HB
  isplitl [HT]; · iexact HT
  isplitl [HK]; · iexists _; iexact HK
  iexact HS

end Cert.KernelIdeal.Body

end
-- ==== Proof.IdealTail.lean ====
module

public import proofs.«01_k».proof.Proof.IdealBody
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic
public import Idealize.ShloMosaic.Lib.Exec
public import Idealize.ShloMosaic.Lib.Pipeline.Kit
public import Idealize.ShloMosaic.Lib.Pipeline.FrameTail
public import Idealize.ShloMosaic.Lib.Pipeline.FrameSuffix

@[expose] public section

set_option maxRecDepth 16384
set_option cleanup.letToHave false

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR sig nD τ) ℕ

/-! ### The values the body forms behind the suppression -/

/-- A block of 128 columns of the data. -/
def dcol (k : ℕ) (h : ∀ a, (![0, k] : Fin 2 → ℕ) a + S8x128.size a ≤ S8x5120.size a) (D : Vec F S8x5120 .f32) : Vec F S8x128 .f32 :=
  (mD.access (Rect.unit (s := S8x5120) ![0, k] S8x128.size h) : View sig .tc _ _ _).read (Elt F) D
theorem dcol_read (k : ℕ) (h : ∀ a, (![0, k] : Fin 2 → ℕ) a + S8x128.size a ≤ S8x5120.size a) (D : Vec F S8x5120 .f32) :
    View.readAt (Elt F) (View.whole cc0_stg2_0) (Rect.unit (s := S8x5120) ![0, k] ![8, 128] h).toLoadRect D = dcol k h D := rfl
/-- The marks as the body reads them back, and the row that tells the padding from the boxes. -/
def marksOf (f : Vec F S1x5120 .i32) : Vec F S1x5120 .i32 :=
  (mS.access (Rect.unit (s := S1x5120) ![0, 0] S1x5120.size inb_S1x5120_S1x5120_0_0) : View sig .tc _ _ _).read (Elt F) f
def realOf (D : Vec F S8x5120 .f32) : Vec F S1x5120 .f32 :=
  (mD.access (Rect.unit (s := S8x5120) ![6, 0] S1x5120.size inb_S8x5120_S1x5120_6_0) : View sig .tc _ _ _).read (Elt F) D

/-- The kept boxes and the suppressed ones, 40 rows of 128. -/
def keptT (s : Vec F S1x5120 .i32) (r : Vec F S1x5120 .f32) : FVec F S40x128 .f32 :=
  k0_pay52 (k0_pay28 s r) (k0_pay30 s r) (k0_pay31 s r) (k0_pay32 s r) (k0_pay33 s r) (k0_pay34 s r) (k0_pay35 s r) (k0_pay36 s r) (k0_pay37 s r) (k0_pay38 s r) (k0_pay39 s r) (k0_pay40 s r) (k0_pay41 s r) (k0_pay42 s r) (k0_pay43 s r) (k0_pay44 s r) (k0_pay45 s r) (k0_pay46 s r) (k0_pay47 s r) (k0_pay48 s r) (k0_pay49 s r) (k0_pay50 s r) (k0_pay51 s r)
def suppT (s : Vec F S1x5120 .i32) (r : Vec F S1x5120 .f32) : FVec F S40x128 .f32 := k0_pay53 (k0_pay29 s r)

/-- The accumulator after each group of blocks. -/
def acc8 (u v : FVec F S40x128 .f32) (D : Vec F S8x5120 .f32) : FVec F S8x128 .f32 :=
  k0_pay59 (k0_pay54 u v) (k0_pay55 (F := F)) (k0_pay56 (F := F)) (k0_pay57 u v) (k0_pay58 (dcol 0 inb_S8x5120_S8x128_0_0 D)) (dcol 128 inb_S8x5120_S8x128_0_128 D) (dcol 256 inb_S8x5120_S8x128_0_256 D) (dcol 384 inb_S8x5120_S8x128_0_384 D) (dcol 512 inb_S8x5120_S8x128_0_512 D)
def acc9 (u v : FVec F S40x128 .f32) (D : Vec F S8x5120 .f32) : FVec F S8x128 .f32 :=
  k0_pay62 (k0_pay54 u v) (k0_pay55 (F := F)) (acc8 u v D) (k0_pay60 (k0_pay54 u v) (k0_pay55 (F := F))) (k0_pay61 (dcol 640 inb_S8x5120_S8x128_0_640 D)) (dcol 768 inb_S8x5120_S8x128_0_768 D) (dcol 896 inb_S8x5120_S8x128_0_896 D) (dcol 1024 inb_S8x5120_S8x128_0_1024 D) (dcol 1152 inb_S8x5120_S8x128_0_1152 D)
def acc10 (u v : FVec F S40x128 .f32) (D : Vec F S8x5120 .f32) : FVec F S8x128 .f32 :=
  k0_pay65 (k0_pay54 u v) (k0_pay55 (F := F)) (acc9 u v D) (k0_pay63 (k0_pay54 u v) (k0_pay55 (F := F))) (k0_pay64 (dcol 1280 inb_S8x5120_S8x128_0_1280 D)) (dcol 1408 inb_S8x5120_S8x128_0_1408 D) (dcol 1536 inb_S8x5120_S8x128_0_1536 D) (dcol 1664 inb_S8x5120_S8x128_0_1664 D) (dcol 1792 inb_S8x5120_S8x128_0_1792 D)
def acc11 (u v : FVec F S40x128 .f32) (D : Vec F S8x5120 .f32) : FVec F S8x128 .f32 :=
  k0_pay68 (k0_pay54 u v) (k0_pay55 (F := F)) (acc10 u v D) (k0_pay66 (k0_pay54 u v) (k0_pay55 (F := F))) (k0_pay67 (dcol 1920 inb_S8x5120_S8x128_0_1920 D)) (dcol 2048 inb_S8x5120_S8x128_0_2048 D) (dcol 2176 inb_S8x5120_S8x128_0_2176 D) (dcol 2304 inb_S8x5120_S8x128_0_2304 D) (dcol 2432 inb_S8x5120_S8x128_0_2432 D)
def acc12 (u v : FVec F S40x128 .f32) (D : Vec F S8x5120 .f32) : FVec F S8x128 .f32 :=
  k0_pay71 (k0_pay54 u v) (k0_pay55 (F := F)) (acc11 u v D) (k0_pay69 (k0_pay54 u v) (k0_pay55 (F := F))) (k0_pay70 (dcol 2560 inb_S8x5120_S8x128_0_2560 D)) (dcol 2688 inb_S8x5120_S8x128_0_2688 D) (dcol 2816 inb_S8x5120_S8x128_0_2816 D) (dcol 2944 inb_S8x5120_S8x128_0_2944 D) (dcol 3072 inb_S8x5120_S8x128_0_3072 D)
def acc13 (u v : FVec F S40x128 .f32) (D : Vec F S8x5120 .f32) : FVec F S8x128 .f32 :=
  k0_pay74 (k0_pay54 u v) (k0_pay55 (F := F)) (acc12 u v D) (k0_pay72 (k0_pay54 u v) (k0_pay55 (F := F))) (k0_pay73 (dcol 3200 inb_S8x5120_S8x128_0_3200 D)) (dcol 3328 inb_S8x5120_S8x128_0_3328 D) (dcol 3456 inb_S8x5120_S8x128_0_3456 D) (dcol 3584 inb_S8x5120_S8x128_0_3584 D) (dcol 3712 inb_S8x5120_S8x128_0_3712 D)
def acc14 (u v : FVec F S40x128 .f32) (D : Vec F S8x5120 .f32) : FVec F S8x128 .f32 :=
  k0_pay77 (k0_pay54 u v) (k0_pay55 (F := F)) (acc13 u v D) (k0_pay75 (k0_pay54 u v) (k0_pay55 (F := F))) (k0_pay76 (dcol 3840 inb_S8x5120_S8x128_0_3840 D)) (dcol 3968 inb_S8x5120_S8x128_0_3968 D) (dcol 4096 inb_S8x5120_S8x128_0_4096 D) (dcol 4224 inb_S8x5120_S8x128_0_4224 D) (dcol 4352 inb_S8x5120_S8x128_0_4352 D)
def acc15 (u v : FVec F S40x128 .f32) (D : Vec F S8x5120 .f32) : FVec F S8x128 .f32 :=
  k0_pay80 (k0_pay54 u v) (k0_pay55 (F := F)) (acc14 u v D) (k0_pay78 (k0_pay54 u v) (k0_pay55 (F := F))) (k0_pay79 (dcol 4480 inb_S8x5120_S8x128_0_4480 D)) (dcol 4608 inb_S8x5120_S8x128_0_4608 D) (dcol 4736 inb_S8x5120_S8x128_0_4736 D) (dcol 4864 inb_S8x5120_S8x128_0_4864 D)

/-- What the body stores: the accumulator over all forty blocks. -/
def outOf (u v : FVec F S40x128 .f32) (D : Vec F S8x5120 .f32) : FVec F S8x128 .f32 :=
  k0_pay1 (acc15 u v D) (k0_pay81 (k0_pay54 u v) (k0_pay55 (F := F)) (dcol 4992 inb_S8x5120_S8x128_0_4992 D))

/-- The marks after the first `n` blocks, starting from none. -/
def supAt (B : Vec F S5120x4 .f32) (T : Vec F S4x5120 .f32) : ℕ → Vec F S1x5120 .i32
  | 0 => k0_pay24
  | n + 1 => if h : n < k0_t1_loop.trips then blkStep (iota .tc S1x2048 32 [1] iota_S1x2048_d1_w32) ⟨n, h⟩ B T (supAt B T n) else supAt B T n

/-- The kernel's result as a function of its operands. -/
def bodyOut (B : Vec F S5120x4 .f32) (T : Vec F S4x5120 .f32) (D : Vec F S8x5120 .f32) : FVec F S8x128 .f32 :=
  outOf (keptT (marksOf (supAt B T k0_t1_loop.trips)) (realOf D)) (suppT (marksOf (supAt B T k0_t1_loop.trips)) (realOf D)) D

/-! ### The parts of the body -/

theorem part6_spec (c : Dev nD) (E : Set ℕ) (v16 : FVec F S1x5120 .f32) (v21 : FVec F S1x5120 .f32) (v22 : FVec F S1x128 .f32) (v23 : FVec F S1x128 .f32) (v24 : FVec F S1x128 .f32) (v25 : FVec F S1x128 .f32) (v26 : FVec F S1x128 .f32) (v27 : FVec F S1x128 .f32) (v28 : FVec F S1x128 .f32) (v29 : FVec F S1x128 .f32) (v30 : FVec F S1x128 .f32) (v31 : FVec F S1x128 .f32) (v32 : FVec F S1x128 .f32) (v33 : FVec F S1x128 .f32) (v34 : FVec F S1x128 .f32) (v35 : FVec F S1x128 .f32) (v36 : FVec F S1x128 .f32) (v37 : FVec F S1x128 .f32) (v38 : FVec F S1x128 .f32) (v39 : FVec F S1x128 .f32) (v40 : FVec F S1x128 .f32) (v41 : FVec F S1x128 .f32) (v42 : FVec F S1x128 .f32) (v43 : FVec F S1x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay52 v16 v22 v23 v24 v25 v26 v27 v28 v29 v30 v31 v32 v33 v34 v35 v36 v37 v38 v39 v40 v41 v42 v43, k0_pay53 v21⟩)) : sProp 𝕄)
    ⊢ wp frame (wpE (defs₀ (F := F)) 𝒱₀ (c : Thread nD τ) none) E
        (k0_part6 (F := F) mB (Memref.isWhole_whole _) mT (Memref.isWhole_whole _) mD (Memref.isWhole_whole _) mO (Memref.isWhole_whole _)
          mK (Memref.isWhole_whole _) mS (Memref.isWhole_whole _) v16 v21 v22 v23 v24 v25 v26 v27 v28 v29 v30 v31 v32 v33 v34 v35 v36 v37 v38 v39 v40 v41 v42 v43) Q := by
  rw [k0_part6_eq_skeleton]; unfold k0_part6_skel
  simp only [Prog.lift, Prog.bind_op, Prog.bind_ret, Prog.pure_eq_ret]
  iintro ⟨HD, HQ⟩
  skip
  rw [wp_ret]; imodintro
  iapply HQ; iexact HD

theorem part7_spec (c : Dev nD) (E : Set ℕ) (v62 : FVec F S40x128 .f32) (v103 : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay54 v62 v103, k0_pay55 (F := F), k0_pay56 (F := F), k0_pay57 v62 v103, k0_pay58 (dcol 0 inb_S8x5120_S8x128_0_0 D)⟩)) : sProp 𝕄)
    ⊢ wp frame (wpE (defs₀ (F := F)) 𝒱₀ (c : Thread nD τ) none) E
        (k0_part7 (F := F) mB (Memref.isWhole_whole _) mT (Memref.isWhole_whole _) mD (Memref.isWhole_whole _) mO (Memref.isWhole_whole _)
          mK (Memref.isWhole_whole _) mS (Memref.isWhole_whole _) v62 v103) Q := by
  rw [k0_part7_eq_skeleton]; unfold k0_part7_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  simp only [dcol_read]
  rw [wp_ret]; imodintro
  iapply HQ; iexact HD

theorem part8_spec (c : Dev nD) (E : Set ℕ) (v141 : FVec F S40x128 .f32) (v143 : FVec F S128x128 .f32) (v144 : FVec F S8x128 .f32) (v149 : FVec F S128x128 .f32) (v151 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay59 v141 v143 v144 v149 v151 (dcol 128 inb_S8x5120_S8x128_0_128 D) (dcol 256 inb_S8x5120_S8x128_0_256 D) (dcol 384 inb_S8x5120_S8x128_0_384 D) (dcol 512 inb_S8x5120_S8x128_0_512 D), k0_pay60 v141 v143, k0_pay61 (dcol 640 inb_S8x5120_S8x128_0_640 D)⟩)) : sProp 𝕄)
    ⊢ wp frame (wpE (defs₀ (F := F)) 𝒱₀ (c : Thread nD τ) none) E
        (k0_part8 (F := F) mB (Memref.isWhole_whole _) mT (Memref.isWhole_whole _) mD (Memref.isWhole_whole _) mO (Memref.isWhole_whole _)
          mK (Memref.isWhole_whole _) mS (Memref.isWhole_whole _) v141 v143 v144 v149 v151) Q := by
  rw [k0_part8_eq_skeleton]; unfold k0_part8_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part9_spec (c : Dev nD) (E : Set ℕ) (v141 : FVec F S40x128 .f32) (v143 : FVec F S128x128 .f32) (v189 : FVec F S8x128 .f32) (v194 : FVec F S128x128 .f32) (v196 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay62 v141 v143 v189 v194 v196 (dcol 768 inb_S8x5120_S8x128_0_768 D) (dcol 896 inb_S8x5120_S8x128_0_896 D) (dcol 1024 inb_S8x5120_S8x128_0_1024 D) (dcol 1152 inb_S8x5120_S8x128_0_1152 D), k0_pay63 v141 v143, k0_pay64 (dcol 1280 inb_S8x5120_S8x128_0_1280 D)⟩)) : sProp 𝕄)
    ⊢ wp frame (wpE (defs₀ (F := F)) 𝒱₀ (c : Thread nD τ) none) E
        (k0_part9 (F := F) mB (Memref.isWhole_whole _) mT (Memref.isWhole_whole _) mD (Memref.isWhole_whole _) mO (Memref.isWhole_whole _)
          mK (Memref.isWhole_whole _) mS (Memref.isWhole_whole _) v141 v143 v189 v194 v196) Q := by
  rw [k0_part9_eq_skeleton]; unfold k0_part9_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part10_spec (c : Dev nD) (E : Set ℕ) (v141 : FVec F S40x128 .f32) (v143 : FVec F S128x128 .f32) (v234 : FVec F S8x128 .f32) (v239 : FVec F S128x128 .f32) (v241 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay65 v141 v143 v234 v239 v241 (dcol 1408 inb_S8x5120_S8x128_0_1408 D) (dcol 1536 inb_S8x5120_S8x128_0_1536 D) (dcol 1664 inb_S8x5120_S8x128_0_1664 D) (dcol 1792 inb_S8x5120_S8x128_0_1792 D), k0_pay66 v141 v143, k0_pay67 (dcol 1920 inb_S8x5120_S8x128_0_1920 D)⟩)) : sProp 𝕄)
    ⊢ wp frame (wpE (defs₀ (F := F)) 𝒱₀ (c : Thread nD τ) none) E
        (k0_part10 (F := F) mB (Memref.isWhole_whole _) mT (Memref.isWhole_whole _) mD (Memref.isWhole_whole _) mO (Memref.isWhole_whole _)
          mK (Memref.isWhole_whole _) mS (Memref.isWhole_whole _) v141 v143 v234 v239 v241) Q := by
  rw [k0_part10_eq_skeleton]; unfold k0_part10_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part11_spec (c : Dev nD) (E : Set ℕ) (v141 : FVec F S40x128 .f32) (v143 : FVec F S128x128 .f32) (v279 : FVec F S8x128 .f32) (v284 : FVec F S128x128 .f32) (v286 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay68 v141 v143 v279 v284 v286 (dcol 2048 inb_S8x5120_S8x128_0_2048 D) (dcol 2176 inb_S8x5120_S8x128_0_2176 D) (dcol 2304 inb_S8x5120_S8x128_0_2304 D) (dcol 2432 inb_S8x5120_S8x128_0_2432 D), k0_pay69 v141 v143, k0_pay70 (dcol 2560 inb_S8x5120_S8x128_0_2560 D)⟩)) : sProp 𝕄)
    ⊢ wp frame (wpE (defs₀ (F := F)) 𝒱₀ (c : Thread nD τ) none) E
        (k0_part11 (F := F) mB (Memref.isWhole_whole _) mT (Memref.isWhole_whole _) mD (Memref.isWhole_whole _) mO (Memref.isWhole_whole _)
          mK (Memref.isWhole_whole _) mS (Memref.isWhole_whole _) v141 v143 v279 v284 v286) Q := by
  rw [k0_part11_eq_skeleton]; unfold k0_part11_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part12_spec (c : Dev nD) (E : Set ℕ) (v141 : FVec F S40x128 .f32) (v143 : FVec F S128x128 .f32) (v324 : FVec F S8x128 .f32) (v329 : FVec F S128x128 .f32) (v331 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay71 v141 v143 v324 v329 v331 (dcol 2688 inb_S8x5120_S8x128_0_2688 D) (dcol 2816 inb_S8x5120_S8x128_0_2816 D) (dcol 2944 inb_S8x5120_S8x128_0_2944 D) (dcol 3072 inb_S8x5120_S8x128_0_3072 D), k0_pay72 v141 v143, k0_pay73 (dcol 3200 inb_S8x5120_S8x128_0_3200 D)⟩)) : sProp 𝕄)
    ⊢ wp frame (wpE (defs₀ (F := F)) 𝒱₀ (c : Thread nD τ) none) E
        (k0_part12 (F := F) mB (Memref.isWhole_whole _) mT (Memref.isWhole_whole _) mD (Memref.isWhole_whole _) mO (Memref.isWhole_whole _)
          mK (Memref.isWhole_whole _) mS (Memref.isWhole_whole _) v141 v143 v324 v329 v331) Q := by
  rw [k0_part12_eq_skeleton]; unfold k0_part12_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part13_spec (c : Dev nD) (E : Set ℕ) (v141 : FVec F S40x128 .f32) (v143 : FVec F S128x128 .f32) (v369 : FVec F S8x128 .f32) (v374 : FVec F S128x128 .f32) (v376 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay74 v141 v143 v369 v374 v376 (dcol 3328 inb_S8x5120_S8x128_0_3328 D) (dcol 3456 inb_S8x5120_S8x128_0_3456 D) (dcol 3584 inb_S8x5120_S8x128_0_3584 D) (dcol 3712 inb_S8x5120_S8x128_0_3712 D), k0_pay75 v141 v143, k0_pay76 (dcol 3840 inb_S8x5120_S8x128_0_3840 D)⟩)) : sProp 𝕄)
    ⊢ wp frame (wpE (defs₀ (F := F)) 𝒱₀ (c : Thread nD τ) none) E
        (k0_part13 (F := F) mB (Memref.isWhole_whole _) mT (Memref.isWhole_whole _) mD (Memref.isWhole_whole _) mO (Memref.isWhole_whole _)
          mK (Memref.isWhole_whole _) mS (Memref.isWhole_whole _) v141 v143 v369 v374 v376) Q := by
  rw [k0_part13_eq_skeleton]; unfold k0_part13_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part14_spec (c : Dev nD) (E : Set ℕ) (v141 : FVec F S40x128 .f32) (v143 : FVec F S128x128 .f32) (v414 : FVec F S8x128 .f32) (v419 : FVec F S128x128 .f32) (v421 : FVec F S8x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨k0_pay77 v141 v143 v414 v419 v421 (dcol 3968 inb_S8x5120_S8x128_0_3968 D) (dcol 4096 inb_S8x5120_S8x128_0_4096 D) (dcol 4224 inb_S8x5120_S8x128_0_4224 D) (dcol 4352 inb_S8x5120_S8x128_0_4352 D), k0_pay78 v141 v143, k0_pay79 (dcol 4480 inb_S8x5120_S8x128_0_4480 D)⟩)) : sProp 𝕄)
    ⊢ wp frame (wpE (defs₀ (F := F)) 𝒱₀ (c : Thread nD τ) none) E
        (k0_part14 (F := F) mB (Memref.isWhole_whole _) mT (Memref.isWhole_whole _) mD (Memref.isWhole_whole _) mO (Memref.isWhole_whole _)
          mK (Memref.isWhole_whole _) mS (Memref.isWhole_whole _) v141 v143 v414 v419 v421) Q := by
  rw [k0_part14_eq_skeleton]; unfold k0_part14_skel
  simp only [Prog.lift, Prog.bind_op, Prog.bind_ret, Prog.pure_eq_ret]
  iintro ⟨HD, HQ⟩
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ; iexact HD

theorem part6_spec' (c : Dev nD) (E : Set ℕ) (s : Vec F S1x5120 .i32) (r : Vec F S1x5120 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨keptT s r, suppT s r⟩)) : sProp 𝕄)
    ⊢ wp frame (wpE (defs₀ (F := F)) 𝒱₀ (c : Thread nD τ) none) E
        (k0_part6 (F := F) mB (Memref.isWhole_whole _) mT (Memref.isWhole_whole _) mD (Memref.isWhole_whole _) mO (Memref.isWhole_whole _)
          mK (Memref.isWhole_whole _) mS (Memref.isWhole_whole _) (k0_pay28 s r) (k0_pay29 s r) (k0_pay30 s r) (k0_pay31 s r) (k0_pay32 s r) (k0_pay33 s r) (k0_pay34 s r) (k0_pay35 s r) (k0_pay36 s r) (k0_pay37 s r) (k0_pay38 s r) (k0_pay39 s r) (k0_pay40 s r) (k0_pay41 s r) (k0_pay42 s r) (k0_pay43 s r) (k0_pay44 s r) (k0_pay45 s r) (k0_pay46 s r) (k0_pay47 s r) (k0_pay48 s r) (k0_pay49 s r) (k0_pay50 s r) (k0_pay51 s r)) Q :=
  part6_spec (F := F) c E (k0_pay28 s r) (k0_pay29 s r) (k0_pay30 s r) (k0_pay31 s r) (k0_pay32 s r) (k0_pay33 s r) (k0_pay34 s r) (k0_pay35 s r) (k0_pay36 s r) (k0_pay37 s r) (k0_pay38 s r) (k0_pay39 s r) (k0_pay40 s r) (k0_pay41 s r) (k0_pay42 s r) (k0_pay43 s r) (k0_pay44 s r) (k0_pay45 s r) (k0_pay46 s r) (k0_pay47 s r) (k0_pay48 s r) (k0_pay49 s r) (k0_pay50 s r) (k0_pay51 s r) D Q

theorem part8_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc8 u v D, k0_pay60 (k0_pay54 u v) (k0_pay55 (F := F)), k0_pay61 (dcol 640 inb_S8x5120_S8x128_0_640 D)⟩)) : sProp 𝕄)
    ⊢ wp frame (wpE (defs₀ (F := F)) 𝒱₀ (c : Thread nD τ) none) E
        (k0_part8 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (k0_pay56 (F := F)) (k0_pay57 u v) (k0_pay58 (dcol 0 inb_S8x5120_S8x128_0_0 D))) Q :=
  part8_spec (F := F) c E (k0_pay54 u v) _ _ (k0_pay57 u v) (k0_pay58 (dcol 0 inb_S8x5120_S8x128_0_0 D)) D Q

theorem part9_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc9 u v D, k0_pay63 (k0_pay54 u v) (k0_pay55 (F := F)), k0_pay64 (dcol 1280 inb_S8x5120_S8x128_0_1280 D)⟩)) : sProp 𝕄)
    ⊢ wp frame (wpE (defs₀ (F := F)) 𝒱₀ (c : Thread nD τ) none) E
        (k0_part9 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (acc8 u v D) (k0_pay60 (k0_pay54 u v) (k0_pay55 (F := F))) (k0_pay61 (dcol 640 inb_S8x5120_S8x128_0_640 D))) Q :=
  part9_spec (F := F) c E (k0_pay54 u v) _ (acc8 u v D) (k0_pay60 (k0_pay54 u v) _) (k0_pay61 (dcol 640 inb_S8x5120_S8x128_0_640 D)) D Q

theorem part10_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc10 u v D, k0_pay66 (k0_pay54 u v) (k0_pay55 (F := F)), k0_pay67 (dcol 1920 inb_S8x5120_S8x128_0_1920 D)⟩)) : sProp 𝕄)
    ⊢ wp frame (wpE (defs₀ (F := F)) 𝒱₀ (c : Thread nD τ) none) E
        (k0_part10 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (acc9 u v D) (k0_pay63 (k0_pay54 u v) (k0_pay55 (F := F))) (k0_pay64 (dcol 1280 inb_S8x5120_S8x128_0_1280 D))) Q :=
  part10_spec (F := F) c E (k0_pay54 u v) _ (acc9 u v D) (k0_pay63 (k0_pay54 u v) _) (k0_pay64 (dcol 1280 inb_S8x5120_S8x128_0_1280 D)) D Q

theorem part11_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc11 u v D, k0_pay69 (k0_pay54 u v) (k0_pay55 (F := F)), k0_pay70 (dcol 2560 inb_S8x5120_S8x128_0_2560 D)⟩)) : sProp 𝕄)
    ⊢ wp frame (wpE (defs₀ (F := F)) 𝒱₀ (c : Thread nD τ) none) E
        (k0_part11 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (acc10 u v D) (k0_pay66 (k0_pay54 u v) (k0_pay55 (F := F))) (k0_pay67 (dcol 1920 inb_S8x5120_S8x128_0_1920 D))) Q :=
  part11_spec (F := F) c E (k0_pay54 u v) _ (acc10 u v D) (k0_pay66 (k0_pay54 u v) _) (k0_pay67 (dcol 1920 inb_S8x5120_S8x128_0_1920 D)) D Q

theorem part12_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc12 u v D, k0_pay72 (k0_pay54 u v) (k0_pay55 (F := F)), k0_pay73 (dcol 3200 inb_S8x5120_S8x128_0_3200 D)⟩)) : sProp 𝕄)
    ⊢ wp frame (wpE (defs₀ (F := F)) 𝒱₀ (c : Thread nD τ) none) E
        (k0_part12 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (acc11 u v D) (k0_pay69 (k0_pay54 u v) (k0_pay55 (F := F))) (k0_pay70 (dcol 2560 inb_S8x5120_S8x128_0_2560 D))) Q :=
  part12_spec (F := F) c E (k0_pay54 u v) _ (acc11 u v D) (k0_pay69 (k0_pay54 u v) _) (k0_pay70 (dcol 2560 inb_S8x5120_S8x128_0_2560 D)) D Q

theorem part13_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc13 u v D, k0_pay75 (k0_pay54 u v) (k0_pay55 (F := F)), k0_pay76 (dcol 3840 inb_S8x5120_S8x128_0_3840 D)⟩)) : sProp 𝕄)
    ⊢ wp frame (wpE (defs₀ (F := F)) 𝒱₀ (c : Thread nD τ) none) E
        (k0_part13 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (acc12 u v D) (k0_pay72 (k0_pay54 u v) (k0_pay55 (F := F))) (k0_pay73 (dcol 3200 inb_S8x5120_S8x128_0_3200 D))) Q :=
  part13_spec (F := F) c E (k0_pay54 u v) _ (acc12 u v D) (k0_pay72 (k0_pay54 u v) _) (k0_pay73 (dcol 3200 inb_S8x5120_S8x128_0_3200 D)) D Q

theorem part14_spec' (c : Dev nD) (E : Set ℕ) (u v : FVec F S40x128 .f32) (D : Vec F S8x5120 .f32) (Q : _ → sProp 𝕄) :
    (iprop((((c : Thread nD τ).loc cc0_stg2_0) ↦{fullShare} D) ∗ ((((c : Thread nD τ).loc cc0_stg2_0) ↦{fullShare} D) -∗ Q ⟨acc14 u v D, k0_pay78 (k0_pay54 u v) (k0_pay55 (F := F)), k0_pay79 (dcol 4480 inb_S8x5120_S8x128_0_4480 D)⟩)) : sProp 𝕄)
    ⊢ wp frame (wpE (defs₀ (F := F)) 𝒱₀ (c : Thread nD τ) none) E
        (k0_part14 (F := F) mB (Memref.isWhole_whole _) mT (Memref.isWhole_whole _) mD (Memref.isWhole_whole _) mO (Memref.isWhole_whole _)
          mK (Memref.isWhole_whole _) mS (Memref.isWhole_whole _) (k0_pay54 u v) (k0_pay55 (F := F)) (acc13 u v D) (k0_pay75 (k0_pay54 u v) (k0_pay55 (F := F))) (k0_pay76 (dcol 3840 inb_S8x5120_S8x128_0_3840 D))) Q :=
  part14_spec (F := F) c E (k0_pay54 u v) _ (acc13 u v D) (k0_pay75 (k0_pay54 u v) _) (k0_pay76 (dcol 3840 inb_S8x5120_S8x128_0_3840 D)) D Q

theorem zero_whole_S (f w : Vec F S1x5120 .i32) :
    (mS.access (Rect.unit (s := S1x5120) ![0, 0] S1x5120.size inb_S1x5120_S1x5120_0_0) : View sig .tc _ _ _).write (Elt F) f w Finset.univ = w :=
  Memref.write_access_unit_zero_univ (Elt F) cc0_scratch1 (funext fun a => by fin_cases a <;> rfl) _ f w

theorem part5_spec (c : Dev nD) (E : Set ℕ) (B : Vec F S5120x4 .f32) (T : Vec F S4x5120 .f32) (D : Vec F S8x5120 .f32)
    (S : Vec F S128x128 .i32) (f : Vec F S1x5120 .i32) (Q : _ → sProp 𝕄) :
    (iprop((((c : Thread nD τ).loc cc0_stg0_0) ↦{fullShare} B) ∗ (((c : Thread nD τ).loc cc0_stg1_0) ↦{fullShare} T) ∗ (((c : Thread nD τ).loc cc0_stg2_0) ↦{fullShare} D) ∗ (((c : Thread nD τ).loc cc0_scratch0) ↦{fullShare} S) ∗ (((c : Thread nD τ).loc cc0_scratch1) ↦{fullShare} f)
      ∗ (((((c : Thread nD τ).loc cc0_stg0_0) ↦{fullShare} B) ∗ (((c : Thread nD τ).loc cc0_stg1_0) ↦{fullShare} T) ∗ (((c : Thread nD τ).loc cc0_stg2_0) ↦{fullShare} D) ∗ (∃ S' : Vec F S128x128 .i32, ((c : Thread nD τ).loc cc0_scratch0) ↦{fullShare} S') ∗ (∃ f' : Vec F S1x5120 .i32, ((c : Thread nD τ).loc cc0_scratch1) ↦{fullShare} f'))
        -∗ Q ⟨k0_pay28 (marksOf (supAt B T k0_t1_loop.trips)) (realOf D), k0_pay29 (marksOf (supAt B T k0_t1_loop.trips)) (realOf D), k0_pay30 (marksOf (supAt B T k0_t1_loop.trips)) (realOf D), k0_pay31 (marksOf (supAt B T k0_t1_loop.trips)) (realOf D), k0_pay32 (marksOf (supAt B T k0_t1_loop.trips)) (realOf D), k0_pay33 (marksOf (supAt B T k0_t1_loop.trips)) (realOf D), k0_pay34 (marksOf (supAt B T k0_t1_loop.trips)) (realOf D), k0_pay35 (marksOf (supAt B T k0_t1_loop.trips)) (realOf D), k0_pay36 (marksOf (supAt B T k0_t1_loop.trips)) (realOf D), k0_pay37 (marksOf (supAt B T k0_t1_loop.trips)) (realOf D), k0_pay38 (marksOf (supAt B T k0_t1_loop.trips)) (realOf D), k0_pay39 (marksOf (supAt B T k0_t1_loop.trips)) (realOf D), k0_pay40 (marksOf (supAt B T k0_t1_loop.trips)) (realOf D), k0_pay41 (marksOf (supAt B T k0_t1_loop.trips)) (realOf D), k0_pay42 (marksOf (supAt B T k0_t1_loop.trips)) (realOf D), k0_pay43 (marksOf (supAt B T k0_t1_loop.trips)) (realOf D), k0_pay44 (marksOf (supAt B T k0_t1_loop.trips)) (realOf D), k0_pay45 (marksOf (supAt B T k0_t1_loop.trips)) (realOf D), k0_pay46 (marksOf (supAt B T k0_t1_loop.trips)) (realOf D), k0_pay47 (marksOf (supAt B T k0_t1_loop.trips)) (realOf D), k0_pay48 (marksOf (supAt B T k0_t1_loop.trips)) (realOf D), k0_pay49 (marksOf (supAt B T k0_t1_loop.trips)) (realOf D), k0_pay50 (marksOf (supAt B T k0_t1_loop.trips)) (realOf D), k0_pay51 (marksOf (supAt B T k0_t1_loop.trips)) (realOf D)⟩)) : sProp 𝕄)
    ⊢ wp frame (wpE (defs₀ (F := F)) 𝒱₀ (c : Thread nD τ) none) E
        (k0_part5 (F := F) mB (Memref.isWhole_whole _) mT (Memref.isWhole_whole _) mD (Memref.isWhole_whole _) mO (Memref.isWhole_whole _)
          mK (Memref.isWhole_whole _) mS (Memref.isWhole_whole _)) Q := by
  rw [k0_part5_eq_skeleton]; unfold k0_part5_skel
  simp only [Prog.lift, Prog.bind_op, Prog.bind_ret, Prog.pure_eq_ret]
  iintro ⟨HB, HT, HD, HK, HS, HQ⟩
  iapply (wp_load 𝒱₀ (c : Thread nD τ) none E (m := mS) (Finset.subset_univ _)) $$ HS; iintro HS
  iapply (wp_store 𝒱₀ (c : Thread nD τ) none E (m := mS) (r := Rect.unit (s := S1x5120) ![0, 0] S1x5120.size inb_S1x5120_S1x5120_0_0)
    (Mk := Finset.univ) (Finset.subset_univ _)) $$ HS; iintro HS
  rw [zero_whole_S]
  iapply (Scf.wp_for_bind frame (wpE (defs₀ (F := F)) 𝒱₀ (c : Thread nD τ) none) E k0_t1_loop.lb k0_t1_loop.ub k0_t1_loop.st k0_t1_ok PUnit.unit _
    (fun n (_ : Unit) => (iprop((((c : Thread nD τ).loc cc0_stg0_0) ↦{fullShare} B) ∗ (((c : Thread nD τ).loc cc0_stg1_0) ↦{fullShare} T) ∗ (∃ S' : Vec F S128x128 .i32, ((c : Thread nD τ).loc cc0_scratch0) ↦{fullShare} S') ∗ (((c : Thread nD τ).loc cc0_scratch1) ↦{fullShare} (supAt B T n))) : sProp 𝕄))
    (fun m acc => by
      iintro ⟨HB, HT, ⟨%S', HK⟩, HS⟩
      have h := t1_trip (F := F) c E (iota .tc S1x2048 32 [1] iota_S1x2048_d1_w32) m B T S' (supAt B T m) acc
      simp only [supAt, dif_pos m.2]
      iapply h
      isplitl [HB]; · iexact HB
      isplitl [HT]; · iexact HT
      isplitl [HK]; · iexact HK
      iexact HS)) $$ [HB HT HK HS]
  · isplitl [HB]; · iexact HB
    isplitl [HT]; · iexact HT
    isplitl [HK]; · iexists S; iexact HK
    iexact HS
  iintro %_ ⟨HB, HT, HK, HS⟩
  iapply (wp_load 𝒱₀ (c : Thread nD τ) none E (m := mS) (Finset.subset_univ _)) $$ HS; iintro HS
  iapply (wp_load 𝒱₀ (c : Thread nD τ) none E (m := mD) (Finset.subset_univ _)) $$ HD; iintro HD
  rw [show mS.view.readAt (Elt F) (Rect.unit (s := S1x5120) ![0, 0] S1x5120.size inb_S1x5120_S1x5120_0_0).toLoadRect
      (supAt B T (Scf.trips k0_t1_loop.lb k0_t1_loop.ub k0_t1_loop.st)) = marksOf (supAt B T k0_t1_loop.trips) from rfl,
    show mD.view.readAt (Elt F) (Rect.unit (s := S8x5120) ![6, 0] S1x5120.size inb_S8x5120_S1x5120_6_0).toLoadRect D = realOf D from rfl]
  rw [wp_ret]; imodintro
  iapply HQ
  isplitl [HB]; · iexact HB
  isplitl [HT]; · iexact HT
  isplitl [HD]; · iexact HD
  isplitl [HK]; · iexact HK
  iexists _; iexact HS

theorem part15_spec (c : Dev nD) (E : Set ℕ) (B : Vec F S5120x4 .f32) (T : Vec F S4x5120 .f32) (D : Vec F S8x5120 .f32)
    (S : Vec F S128x128 .i32) (f : Vec F S1x5120 .i32) (Q : _ → sProp 𝕄) :
    (iprop((((c : Thread nD τ).loc cc0_stg0_0) ↦{fullShare} B) ∗ (((c : Thread nD τ).loc cc0_stg1_0) ↦{fullShare} T) ∗ (((c : Thread nD τ).loc cc0_stg2_0) ↦{fullShare} D) ∗ (((c : Thread nD τ).loc cc0_scratch0) ↦{fullShare} S) ∗ (((c : Thread nD τ).loc cc0_scratch1) ↦{fullShare} f)
      ∗ (((((c : Thread nD τ).loc cc0_stg0_0) ↦{fullShare} B) ∗ (((c : Thread nD τ).loc cc0_stg1_0) ↦{fullShare} T) ∗ (((c : Thread nD τ).loc cc0_stg2_0) ↦{fullShare} D) ∗ (∃ S' : Vec F S128x128 .i32, ((c : Thread nD τ).loc cc0_scratch0) ↦{fullShare} S') ∗ (∃ f' : Vec F S1x5120 .i32, ((c : Thread nD τ).loc cc0_scratch1) ↦{fullShare} f'))
        -∗ Q ⟨k0_pay80 (k0_pay54 (keptT (marksOf (supAt B T k0_t1_loop.trips)) (realOf D)) (suppT (marksOf (supAt B T k0_t1_loop.trips)) (realOf D))) (k0_pay55 (F := F)) (acc14 (keptT (marksOf (supAt B T k0_t1_loop.trips)) (realOf D)) (suppT (marksOf (supAt B T k0_t1_loop.trips)) (realOf D)) D) (k0_pay78 (k0_pay54 (keptT (marksOf (supAt B T k0_t1_loop.trips)) (realOf D)) (suppT (marksOf (supAt B T k0_t1_loop.trips)) (realOf D))) (k0_pay55 (F := F))) (k0_pay79 (dcol 4480 inb_S8x5120_S8x128_0_4480 D)) (dcol 4608 inb_S8x5120_S8x128_0_4608 D) (dcol 4736 inb_S8x5120_S8x128_0_4736 D) (dcol 4864 inb_S8x5120_S8x128_0_4864 D), k0_pay81 (k0_pay54 (keptT (marksOf (supAt B T k0_t1_loop.trips)) (realOf D)) (suppT (marksOf (supAt B T k0_t1_loop.trips)) (realOf D))) (k0_pay55 (F := F)) (dcol 4992 inb_S8x5120_S8x128_0_4992 D)⟩)) : sProp 𝕄)
    ⊢ wp frame (wpE (defs₀ (F := F)) 𝒱₀ (c : Thread nD τ) none) E
        (k0_part15 (F := F) mB (Memref.isWhole_whole _) mT (Memref.isWhole_whole _) mD (Memref.isWhole_whole _) mO (Memref.isWhole_whole _)
          mK (Memref.isWhole_whole _) mS (Memref.isWhole_whole _)) Q := by
  rw [k0_part15_eq_skeleton]; unfold k0_part15_skel
  iintro ⟨HB, HT, HD, HK, HS, HQ⟩
  rw [wp_bind]
  iapply (part5_spec (F := F) c E B T D S f)
  isplitl [HB]; · iexact HB
  isplitl [HT]; · iexact HT
  isplitl [HD]; · iexact HD
  isplitl [HK]; · iexact HK
  isplitl [HS]; · iexact HS
  iintro ⟨HB, HT, HD, HK, HS⟩
  rw [wp_bind]
  iapply (part6_spec' (F := F) c E (marksOf (supAt B T k0_t1_loop.trips)) (realOf D) D)
  isplitl [HD]; · iexact HD
  iintro HD
  rw [wp_bind]
  iapply (part7_spec (F := F) c E (keptT (marksOf (supAt B T k0_t1_loop.trips)) (realOf D)) (suppT (marksOf (supAt B T k0_t1_loop.trips)) (realOf D)) D)
  isplitl [HD]; · iexact HD
  iintro HD
  rw [wp_bind]
  iapply (part8_spec' (F := F) c E (keptT (marksOf (supAt B T k0_t1_loop.trips)) (realOf D)) (suppT (marksOf (supAt B T k0_t1_loop.trips)) (realOf D)) D)
  isplitl [HD]; · iexact HD
  iintro HD
  rw [wp_bind]
  iapply (part9_spec' (F := F) c E (keptT (marksOf (supAt B T k0_t1_loop.trips)) (realOf D)) (suppT (marksOf (supAt B T k0_t1_loop.trips)) (realOf D)) D)
  isplitl [HD]; · iexact HD
  iintro HD
  rw [wp_bind]
  iapply (part10_spec' (F := F) c E (keptT (marksOf (supAt B T k0_t1_loop.trips)) (realOf D)) (suppT (marksOf (supAt B T k0_t1_loop.trips)) (realOf D)) D)
  isplitl [HD]; · iexact HD
  iintro HD
  rw [wp_bind]
  iapply (part11_spec' (F := F) c E (keptT (marksOf (supAt B T k0_t1_loop.trips)) (realOf D)) (suppT (marksOf (supAt B T k0_t1_loop.trips)) (realOf D)) D)
  isplitl [HD]; · iexact HD
  iintro HD
  rw [wp_bind]
  iapply (part12_spec' (F := F) c E (keptT (marksOf (supAt B T k0_t1_loop.trips)) (realOf D)) (suppT (marksOf (supAt B T k0_t1_loop.trips)) (realOf D)) D)
  isplitl [HD]; · iexact HD
  iintro HD
  rw [wp_bind]
  iapply (part13_spec' (F := F) c E (keptT (marksOf (supAt B T k0_t1_loop.trips)) (realOf D)) (suppT (marksOf (supAt B T k0_t1_loop.trips)) (realOf D)) D)
  isplitl [HD]; · iexact HD
  iintro HD
  rw [wp_bind]
  iapply (part14_spec' (F := F) c E (keptT (marksOf (supAt B T k0_t1_loop.trips)) (realOf D)) (suppT (marksOf (supAt B T k0_t1_loop.trips)) (realOf D)) D)
  isplitl [HD]; · iexact HD
  iintro HD
  simp only [Prog.lift, Prog.bind_op, Prog.bind_ret, Prog.pure_eq_ret]
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  iapply (wp_load 𝒱₀ (c : Thread nD τ) none E (m := mD) (Finset.subset_univ _)) $$ HD; iintro HD
  simp only [dcol_read]
  rw [wp_ret]; imodintro
  iapply HQ
  isplitl [HB]; · iexact HB
  isplitl [HT]; · iexact HT
  isplitl [HD]; · iexact HD
  isplitl [HK]; · iexact HK
  iexact HS

theorem write_whole_O (f w : Vec F S8x128 .f32) :
    (mO.access (Rect.unit (s := S8x128) ![0, 0] S8x128.size inb_S8x128_S8x128_0_0) : View sig .tc _ _ _).write (Elt F) f w Finset.univ = w :=
  Memref.write_access_unit_zero_univ (Elt F) cc0_stg3_0 (funext fun a => by fin_cases a <;> rfl) _ f w

/-- The kernel body: from the three operands, it leaves them, the scratch at anything and the result at its value. -/
theorem body_spec (c : Dev nD) (E : Set ℕ) (B : Vec F S5120x4 .f32) (T : Vec F S4x5120 .f32) (D : Vec F S8x5120 .f32) (O : Vec F S8x128 .f32)
    (S : Vec F S128x128 .i32) (f : Vec F S1x5120 .i32) (Q : PUnit → sProp 𝕄) :
    (iprop((((c : Thread nD τ).loc cc0_stg0_0) ↦{fullShare} B) ∗ (((c : Thread nD τ).loc cc0_stg1_0) ↦{fullShare} T) ∗ (((c : Thread nD τ).loc cc0_stg2_0) ↦{fullShare} D) ∗ (((c : Thread nD τ).loc cc0_stg3_0) ↦{fullShare} O) ∗ (((c : Thread nD τ).loc cc0_scratch0) ↦{fullShare} S) ∗ (((c : Thread nD τ).loc cc0_scratch1) ↦{fullShare} f)
      ∗ (((((c : Thread nD τ).loc cc0_stg0_0) ↦{fullShare} B) ∗ (((c : Thread nD τ).loc cc0_stg1_0) ↦{fullShare} T) ∗ (((c : Thread nD τ).loc cc0_stg2_0) ↦{fullShare} D) ∗ (((c : Thread nD τ).loc cc0_stg3_0) ↦{fullShare} (bodyOut B T D)) ∗ (∃ S' : Vec F S128x128 .i32, ((c : Thread nD τ).loc cc0_scratch0) ↦{fullShare} S') ∗ (∃ f' : Vec F S1x5120 .i32, ((c : Thread nD τ).loc cc0_scratch1) ↦{fullShare} f'))
        -∗ Q ⟨⟩)) : sProp 𝕄)
    ⊢ wp frame (wpE (defs₀ (F := F)) 𝒱₀ (c : Thread nD τ) none) E
        (cc0__nms_kernel (F := F) mB (Memref.isWhole_whole _) mT (Memref.isWhole_whole _) mD (Memref.isWhole_whole _) mO (Memref.isWhole_whole _)
          mK (Memref.isWhole_whole _) mS (Memref.isWhole_whole _)) Q := by
  rw [cc0__nms_kernel_eq_skeleton]; unfold cc0__nms_kernel_skel
  iintro ⟨HB, HT, HD, HO, HK, HS, HQ⟩
  rw [wp_bind]
  iapply (part15_spec (F := F) c E B T D S f)
  isplitl [HB]; · iexact HB
  isplitl [HT]; · iexact HT
  isplitl [HD]; · iexact HD
  isplitl [HK]; · iexact HK
  isplitl [HS]; · iexact HS
  iintro ⟨HB, HT, HD, HK, HS⟩
  simp only [Prog.lift, Prog.bind_op, Prog.bind_ret, Prog.pure_eq_ret]
  iapply (wp_load 𝒱₀ (c : Thread nD τ) none E (m := mO) (Finset.subset_univ _)) $$ HO; iintro HO
  iapply (wp_store 𝒱₀ (c : Thread nD τ) none E (m := mO) (r := Rect.unit (s := S8x128) ![0, 0] S8x128.size inb_S8x128_S8x128_0_0)
    (Mk := Finset.univ) (Finset.subset_univ _)) $$ HO; iintro HO
  rw [write_whole_O]
  rw [show k0_pay1 (k0_pay80 (k0_pay54 (keptT (marksOf (supAt B T k0_t1_loop.trips)) (realOf D)) (suppT (marksOf (supAt B T k0_t1_loop.trips)) (realOf D))) (k0_pay55 (F := F)) (acc14 (keptT (marksOf (supAt B T k0_t1_loop.trips)) (realOf D)) (suppT (marksOf (supAt B T k0_t1_loop.trips)) (realOf D)) D) (k0_pay78 (k0_pay54 (keptT (marksOf (supAt B T k0_t1_loop.trips)) (realOf D)) (suppT (marksOf (supAt B T k0_t1_loop.trips)) (realOf D))) (k0_pay55 (F := F))) (k0_pay79 (dcol 4480 inb_S8x5120_S8x128_0_4480 D)) (dcol 4608 inb_S8x5120_S8x128_0_4608 D) (dcol 4736 inb_S8x5120_S8x128_0_4736 D) (dcol 4864 inb_S8x5120_S8x128_0_4864 D))
    (k0_pay81 (k0_pay54 (keptT (marksOf (supAt B T k0_t1_loop.trips)) (realOf D)) (suppT (marksOf (supAt B T k0_t1_loop.trips)) (realOf D))) (k0_pay55 (F := F)) (dcol 4992 inb_S8x5120_S8x128_0_4992 D)) = bodyOut B T D from rfl]
  rw [wp_ret]; imodintro
  iapply HQ
  isplitl [HB]; · iexact HB
  isplitl [HT]; · iexact HT
  isplitl [HD]; · iexact HD
  isplitl [HO]; · iexact HO
  isplitl [HK]; · iexact HK
  iexact HS

end Cert.KernelIdeal.Body

end
-- ==== Proof.IdealLaunch.lean ====
module

public import proofs.«01_k».proof.Proof.IdealTail
public import Idealize.ShloMosaic.Lib.Pipeline.FrameBody
public import Idealize.ShloMosaic.Lib.StableHlo.RunRead

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every buffer of a device holds when the kernel starts: the launch contents behind the host lines. -/
@[irreducible] def V₀ (c : Dev nD) : Valuation τ sig (Elt F) := StableHlo.after hostOps0 (fun b => m (c, b))

theorem V₀_eq (c : Dev nD) : V₀ m c = StableHlo.after hostOps0 (fun b => m (c, b)) := by unfold V₀; rfl

/-- The three operands as the pipeline hands them to the body. -/
def bIn (c : Dev nD) : Vec F S5120x4 .f32 :=
  (win0_0.blk (t0_0)).view.read (Elt F) (V₀ m c (Proc.devRef .tc main_v27))
def tIn (c : Dev nD) : Vec F S4x5120 .f32 :=
  (win0_1.blk (t0_0)).view.read (Elt F) (V₀ m c (Proc.devRef .tc main_v28))
def dIn (c : Dev nD) : Vec F S8x5120 .f32 :=
  (win0_2.blk (t0_0)).view.read (Elt F) (V₀ m c (Proc.devRef .tc main_v42))

/-- The proof data of the pipeline: the arrays as the host lines leave them; behind the body the inputs as fetched and
    the result at the body's value. -/
def dats (_ : Fin 1) (c : Dev nD) : Dat τ (Elt F) Unit ℕ (UR sig nD τ) ℕ (cfg0 (F := F)) c where
  A w := V₀ m c (Proc.devRef .tc (Pipeline.arrRef spec0 w))
  after w _ := match w with
    | ⟨0, _⟩ => bIn m c
    | ⟨1, _⟩ => tIn m c
    | ⟨2, _⟩ => dIn m c
    | ⟨3, _⟩ => bodyOut (bIn m c) (tIn m c) (dIn m c)
  Φ _ := Pipeline.ΦA spec0 c
  q _ := fullShare
  owed _ := 0

theorem bigSep_W (Φ : Fin (cfg0 (F := F)).W → sProp 𝕄) :
    bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UR sig nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is called with at the one point, -/
def bodyPre (c : Dev nD) : sProp 𝕄 :=
  iprop((dats m 0 c).Φ (t0_0).castSucc ∗ (dats m 0 c).owesAt () (t0_0).castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

/-- and what it returns. -/
def bodyPost (c : Dev nD) : sProp 𝕄 :=
  iprop((dats m 0 c).Φ (t0_0).succ ∗ (dats m 0 c).owesAt () (t0_0).succ
    ∗ stg c cc0_stg0_0 (bIn m c) ∗ stg c cc0_stg1_0 (tIn m c) ∗ stg c cc0_stg2_0 (dIn m c)
    ∗ stg c cc0_stg3_0 (bodyOut (bIn m c) (tIn m c) (dIn m c)))

theorem Φ_eq (c : Dev nD) (t) : (dats m 0 c).Φ t = iprop(((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)) ∗ ∃ r, prngReg c r) := by
  show Pipeline.ΦA spec0 c = _
  unfold Pipeline.ΦA; rw [scopedRest0_eq]

theorem sound_body (c : Dev nD) (K : PUnit → sProp 𝕄) :
    iprop(bodyPre m c ∗ (bodyPost m c -∗ K ⟨⟩))
      ⊢ wp frame (wpE (defs₀ (F := F)) 𝒱₀ c none) Set.univ
          (cc0__nms_kernel (F := F) mB (Memref.isWhole_whole _) mT (Memref.isWhole_whole _) mD (Memref.isWhole_whole _) mO (Memref.isWhole_whole _)
          mK (Memref.isWhole_whole _) mS (Memref.isWhole_whole _)) K := by
  unfold bodyPre
  rw [Φ_eq]
  iintro ⟨⟨HΦ, Howes, ⟨%d0, %fb, %hb, Hb⟩, ⟨%d1, %ft, %ht, Ht⟩, ⟨%d2, %fd, %hd, Hd⟩, ⟨%d3, %fo, %ho, Ho⟩⟩, Hk⟩
  have hb' : fb = bIn m c := by rw [hb]; unfold Dat.before; exact (if_pos (fetch0_0 (F := F) t0_0)).trans rfl
  have ht' : ft = tIn m c := by rw [ht]; unfold Dat.before; exact (if_pos (fetch0_1 (F := F) t0_0)).trans rfl
  have hd' : fd = dIn m c := by rw [hd]; unfold Dat.before; exact (if_pos (fetch0_2 (F := F) t0_0)).trans rfl
  subst hb' ht' hd'
  icases HΦ with ⟨⟨⟨%fs, HK⟩, ⟨%fm, HS⟩⟩, HP⟩
  iapply (body_spec (F := F) c Set.univ (bIn m c) (tIn m c) (dIn m c) fo fs fm K)
  isplitl [Hb]; · iexact Hb
  isplitl [Ht]; · iexact Ht
  isplitl [Hd]; · iexact Hd
  isplitl [Ho]; · iexact Ho
  isplitl [HK]; · iexact HK
  isplitl [HS]; · iexact HS
  iintro ⟨Hb, Ht, Hd, Ho, HK, HS⟩
  iapply Hk
  unfold bodyPost
  rw [Φ_eq, show (dats m 0 c).owesAt () (t0_0).succ = (dats m 0 c).owesAt () (t0_0).castSucc from rfl]
  isplitl [HK HS HP]
  · isplitr [HP]
    · isplitl [HK]; · iexact HK
      iexact HS
    iexact HP
  isplitl [Howes]; · iexact Howes
  isplitl [Hb]
  · iexists _; isplitr; · (ipureintro; rfl)
    iexact Hb
  isplitl [Ht]
  · iexists _; isplitr; · (ipureintro; rfl)
    iexact Ht
  isplitl [Hd]
  · iexists _; isplitr; · (ipureintro; rfl)
    iexact Hd
  iexists _; isplitr; · (ipureintro; rfl)
  iexact Ho

theorem after_0 (c : Dev nD) (t : Fin (cfg0 (F := F)).N) : (dats m 0 c).after 0 t = bIn m c := by dsimp only [dats]; rfl
theorem after_1 (c : Dev nD) (t : Fin (cfg0 (F := F)).N) : (dats m 0 c).after 1 t = tIn m c := by dsimp only [dats]; rfl
theorem after_2 (c : Dev nD) (t : Fin (cfg0 (F := F)).N) : (dats m 0 c).after 2 t = dIn m c := by dsimp only [dats]; rfl
theorem after_3 (c : Dev nD) (t : Fin (cfg0 (F := F)).N) : (dats m 0 c).after 3 t = bodyOut (bIn m c) (tIn m c) (dIn m c) := by
  dsimp only [dats]; rfl

theorem body_obligation (c : Dev nD) :
    BodyObligation (dats (F := F) m 0 c) (defs₀ (F := F)) 𝒱₀ () Set.univ := fun t => by
  rw [fin_N0 t]
  rw [bigSep_W, bigSep_W]
  sl_whnfR [defs₀, Defs.onTc]
  simp only [owns_whole_eq]
  simp only [show stage0_0 0 = Memref.whole cc0_stg0_0 from rfl, show stage0_1 0 = Memref.whole cc0_stg1_0 from rfl,
    show stage0_2 0 = Memref.whole cc0_stg2_0 from rfl, show stage0_3 0 = Memref.whole cc0_stg3_0 from rfl]
  rw [after_0, after_1, after_2, after_3]
  iintro H
  iapply (sound_body m c fun _ => bodyPost m c)
  unfold bodyPre
  isplitl [H]; · iexact H
  iintro H; iexact H

theorem ops0_fresh : (hostOps0 : List (HloOp τ sig (Elt F))).Forall fun op => op.fresh = ∅ := StableHlo.forall_fresh_of_map rfl
theorem ops1_fresh : (hostOps1 : List (HloOp τ sig (Elt F))).Forall fun op => op.fresh = ∅ := StableHlo.forall_fresh_of_map rfl
abbrev ops1_W : List (Ref sig .tc) := [main_v44, main_v45, main_v46, main_v47, main_v48, main_v49, main_v50]
theorem ops1_writes : (hostOps1 : List (HloOp τ sig (Elt F))).Forall fun op => op.writes ⊆ (ops1_W.map (Proc.devRef (τ := τ) .tc)).toFinset :=
  StableHlo.forall_writes_sub_of_map rfl

theorem arr_not_ops1 : ∀ w : Fin 4, Pipeline.arrRef spec0 w ∉ ops1_W := by decide

set_option backward.isDefEq.respectTransparency.types false in
/-- The whole run, for any float values: it terminates, every buffer holds what the host lines behind the kernel leave
    there, and every semaphore counter is zero. -/
theorem run : θ_run defs (onTc (τ := τ) (main (F := F))) ⟨m, fun _ => 0, ρ⟩ (fun r =>
    Pipeline.FramePost cfgs (dats m) 0 (Pipeline.afterTail₀ cfgs (dats m) 0 (V₀ m) [hostOps1]) r ∧ r.2.sem = fun _ => 0) :=
  Pipeline.θ_run_frame_around cfgs (dats m) 0 launch0 defs₀ 𝒱₀ m ρ main
    (hbody := fun c => (body_obligation m c).loose)
    (hshare := fun c => (dats m 0 c).share_full fun _ => rfl) (howed := fun _ _ => rfl)
    (V₀ := V₀ m) (opss := [hostOps1])
    (hsub := fun ops h => by
      rw [List.mem_singleton] at h; subst h
      intro op hop
      rw [Pipeline.tailRefs_none spec0 (by decide)]
      exact Pipeline.sub_ucRefs op ((List.forall_iff_forall_mem.mp hostOps1_sub) op hop))
    (hfresh := fun ops h => by
      rw [List.mem_singleton] at h; subst h
      exact List.forall_iff_forall_mem.mp ops1_fresh)
    (hkeep := fun ops h => by
      rw [List.mem_singleton] at h; subst h
      intro op hop w hw
      obtain ⟨y, hy, he⟩ := List.mem_map.mp (List.mem_toFinset.mp ((List.forall_iff_forall_mem.mp ops1_writes) op hop hw))
      exact arr_not_ops1 w (Proc.devRef_injective _ he ▸ hy))
    (hmain := by
      have h := Pipeline.hmain_around (Ix := Unit) (Name := ℕ) (U := UR sig nD τ) (Lvl := ℕ) cfgs 0 defs₀ 𝒱₀ m main [hostOps0] [hostOps1] hostOps0_sub ops0_fresh main_chain
      rw [show (V₀ m) = fun c => StableHlo.after [hostOps0].flatten (fun b => m (c, b)) from funext fun c => V₀_eq m c]
      exact h)
    (hA := fun _ _ => rfl) (hΦ := fun _ _ => rfl)
    (Q' := fun r => Pipeline.FramePost cfgs (dats m) 0 (Pipeline.afterTail₀ cfgs (dats m) 0 (V₀ m) [hostOps1]) r ∧ r.2.sem = fun _ => 0)

abbrev ops0_W : List (Ref sig .tc) := [main_cst, main_v0, main_cst_0, main_v1, main_v2, main_v3, main_v4, main_v5, main_v6, main_v7, main_v8, main_v9, main_v10, main_v11, main_v12_0, main_v12_1, main_v12_2, main_v12_3, main_v12_4, main_v12_5, main_v13, main_v14, main_v15, main_v16, main_v17, main_v18, main_v19, main_v20, main_v21, main_v22, main_v23, main_v24, main_cst_1, main_v25, main_c, main_v26, main_v27, main_v28, main_cst_2, main_v29, main_cst_3, main_v30, main_v31, main_v32, main_v33, main_v34, main_v35, main_v36, main_v37, main_v38, main_c_4, main_v39, main_c_5, main_v40, main_v41, main_v42]
theorem ops0_writes : (hostOps0 : List (HloOp τ sig (Elt F))).Forall fun op => op.writes ⊆ (ops0_W.map (Proc.devRef (τ := τ) .tc)).toFinset :=
  StableHlo.forall_writes_sub_of_map rfl

/-- A buffer that no host line writes and no window carries holds at the end what it held at launch. -/
theorem tail_kept (c : Dev nD) (b : Ref sig .tc) (h0 : b ∉ ops0_W) (h1 : b ∉ ops1_W) (hw : ∀ w : Fin 4, Pipeline.arrRef spec0 w ≠ b) :
    Pipeline.afterTail₀ cfgs (dats m) 0 (V₀ m) [hostOps1] c b = m ((c.tc : Thread nD τ).loc b) := by
  unfold Pipeline.afterTail₀
  rw [show [hostOps1 (F := F)].flatten = hostOps1 from List.append_nil _, StableHlo.after_of_writes_sub hostOps1 _ ops1_writes h1,
    Pipeline.withArrays_of_ne _ _ _ _ _ hw, V₀_eq, StableHlo.after_of_writes_sub hostOps0 _ ops0_writes h0]

theorem rest_0 : main_arg0 ∈ Pipeline.restRefs sig spec0 := by decide
theorem rest_1 : main_arg1 ∈ Pipeline.restRefs sig spec0 := by decide
theorem rest_2 : main_arg2 ∈ Pipeline.restRefs sig spec0 := by decide

/-- The frame: the run ends, the three arguments are unchanged, every semaphore counter is zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun _ h => ⟨fun c =>
      ⟨((h.1 c).2 main_arg0 rest_0).trans (tail_kept m c main_arg0 (by decide) (by decide) (by decide)),
       ((h.1 c).2 main_arg1 rest_1).trans (tail_kept m c main_arg1 (by decide) (by decide) (by decide)),
       ((h.1 c).2 main_arg2 rest_2).trans (tail_kept m c main_arg2 (by decide) (by decide) (by decide))⟩, h.2⟩)
    (run (F := F) m ρ)

end Cert.KernelIdeal.Body

end
-- ==== Proof.RefFrame.lean ====
module

public import proofs.«01_k».proof.Proof.Gen.ReferenceIdeal.Run
public import Idealize.ShloMosaic.Lib.Quiescent
public import Idealize.ShloMosaic.Lib.StableHlo.RunRead

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

abbrev post5_W : List (Ref sig .tc) := [main_c_7, main_v61, main_v62, main_c_8, main_v63, main_v64, main_v65, main_v66, main_v67, main_cst_9]
theorem post5_writes : (hostOps0_5 : List (HloOp τ sig (Elt F))).Forall fun op => op.writes ⊆ (post5_W.map (Proc.devRef (τ := τ) .tc)).toFinset :=
  StableHlo.forall_writes_sub_of_map rfl
abbrev post6_W : List (Ref sig .tc) := [main_call2_v0, main_call2_v1, main_v68]
theorem post6_writes : (hostOps0_6 : List (HloOp τ sig (Elt F))).Forall fun op => op.writes ⊆ (post6_W.map (Proc.devRef (τ := τ) .tc)).toFinset :=
  StableHlo.forall_writes_sub_of_map rfl
abbrev post7_W : List (Ref sig .tc) := [main_values, main_indices, main_c_10, main_v69, main_v70, main_c_11, main_v71, main_v72, main_v73, main_v74, main_v75, main_c_12, main_v76, main_v77, main_c_13, main_v78, main_v79, main_v80, main_v81, main_v82, main_c_14, main_v83, main_v84, main_c_15, main_v85, main_v86, main_v87, main_v88, main_v89, main_c_16, main_v90, main_v91, main_c_17, main_v92, main_v93, main_v94, main_v95, main_v96]
theorem post7_writes : (hostOps0_7 : List (HloOp τ sig (Elt F))).Forall fun op => op.writes ⊆ (post7_W.map (Proc.devRef (τ := τ) .tc)).toFinset :=
  StableHlo.forall_writes_sub_of_map rfl

/-- A buffer that neither a trip's host lines nor its test write keeps its contents through every trip. -/
theorem atK_kept (c : Dev nD) (b : Ref sig .tc) (hc : b ∉ condOps_W) (hb : b ∉ while0Ops0_W) :
    ∀ k, atK m k c (Proc.devRef .tc b) = entryContents preI m c (Proc.devRef .tc b)
  | 0 => rfl
  | k + 1 => by
    show afterL bodyI (after condOps (atK m k c)) (Proc.devRef .tc b) = _
    rw [show (bodyI (F := F)) = [while0Ops0] from rfl, afterL_cons, afterL_nil,
      StableHlo.after_of_writes_sub while0Ops0 _ while0Ops0_writes hb, StableHlo.after_of_writes_sub condOps _ condOps_writes hc]
    exact atK_kept c b hc hb k

/-- A buffer that no host line before the loop writes holds at its entry what it held at launch. -/
theorem entry_kept (c : Dev nD) (b : Ref sig .tc) (h0 : b ∉ hostOps0_W) (h1 : b ∉ hostOps0_1_W) (h2 : b ∉ hostOps0_2_W)
    (h3 : b ∉ hostOps0_3_W) (h4 : b ∉ hostOps0_4_W) :
    entryContents preI m c (Proc.devRef .tc b) = m ((c.tc : Thread nD τ).loc b) := by
  show afterL preI (launchContents m c) (Proc.devRef .tc b) = _
  rw [show (preI (F := F)) = [hostOps0, hostOps0_1, hostOps0_2, hostOps0_3, hostOps0_4] from rfl, afterL_cons, afterL_cons, afterL_cons,
    afterL_cons, afterL_cons, afterL_nil, StableHlo.after_of_writes_sub hostOps0_4 _ hostOps0_4_writes h4,
    StableHlo.after_of_writes_sub hostOps0_3 _ hostOps0_3_writes h3, StableHlo.after_of_writes_sub hostOps0_2 _ hostOps0_2_writes h2,
    StableHlo.after_of_writes_sub hostOps0_1 _ hostOps0_1_writes h1, StableHlo.after_of_writes_sub hostOps0 _ hostOps0_writes h0]

/-- A buffer that nothing writes holds at the end what it held at launch. -/
theorem final_kept (c : Dev nD) (b : Ref sig .tc) (h0 : b ∉ hostOps0_W) (h1 : b ∉ hostOps0_1_W) (h2 : b ∉ hostOps0_2_W)
    (h3 : b ∉ hostOps0_3_W) (h4 : b ∉ hostOps0_4_W) (hc : b ∉ condOps_W) (hb : b ∉ while0Ops0_W)
    (h5 : b ∉ post5_W) (h6 : b ∉ post6_W) (h7 : b ∉ post7_W) :
    finalContents condOps preI bodyI postI 5000 m c (Proc.devRef .tc b) = m ((c.tc : Thread nD τ).loc b) := by
  show afterL postI (after condOps (atK m 5000 c)) (Proc.devRef .tc b) = _
  rw [show (postI (F := F)) = [hostOps0_5, hostOps0_6, hostOps0_7] from rfl, afterL_cons, afterL_cons, afterL_cons, afterL_nil,
    StableHlo.after_of_writes_sub hostOps0_7 _ post7_writes h7, StableHlo.after_of_writes_sub hostOps0_6 _ post6_writes h6,
    StableHlo.after_of_writes_sub hostOps0_5 _ post5_writes h5, StableHlo.after_of_writes_sub condOps _ condOps_writes hc,
    atK_kept m c b hc hb, entry_kept m c b h0 h1 h2 h3 h4]

theorem kept_0 (c : Dev nD) : finalContents condOps preI bodyI postI 5000 m c (Proc.devRef .tc main_arg0) = m ((c.tc : Thread nD τ).loc main_arg0) :=
  final_kept m c main_arg0 (by decide) (by decide) (by decide) (by decide) (by decide) (by decide) (by decide) (by decide) (by decide) (by decide)
theorem kept_1 (c : Dev nD) : finalContents condOps preI bodyI postI 5000 m c (Proc.devRef .tc main_arg1) = m ((c.tc : Thread nD τ).loc main_arg1) :=
  final_kept m c main_arg1 (by decide) (by decide) (by decide) (by decide) (by decide) (by decide) (by decide) (by decide) (by decide) (by decide)
theorem kept_2 (c : Dev nD) : finalContents condOps preI bodyI postI 5000 m c (Proc.devRef .tc main_arg2) = m ((c.tc : Thread nD τ).loc main_arg2) :=
  final_kept m c main_arg2 (by decide) (by decide) (by decide) (by decide) (by decide) (by decide) (by decide) (by decide) (by decide) (by decide)

/-- The frame of the reference: it ends, its arguments are unchanged, and it has no semaphore to leave behind. -/
theorem quiescent : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono
    (fun r h => ⟨fun c => ⟨(h c main_arg0 rfl).trans (kept_0 m c), (h c main_arg1 rfl).trans (kept_1 m c),
      (h c main_arg2 rfl).trans (kept_2 m c)⟩, sem_eq_zero_of_no_sems (by decide) r.2⟩)
    (run_fold (F := F) m ρ)

end Cert.ReferenceIdeal.Ref

end
-- ==== Proof.Overlap.lean ====
/- When two boxes overlap by more than half, over the extended reals. -/
module

public import Idealize.ShloMosaic.Lib.Pointwise

@[expose] public section

noncomputable section

namespace Overlap

open Idealize.ShloMosaic

/-- The area of the common part of two boxes, each given as left, top, right, bottom. -/
def inter (p q : Fin 4 → EReal) : EReal :=
  max (min (p 2) (q 2) - max (p 0) (q 0)) 0 * max (min (p 3) (q 3) - max (p 1) (q 1)) 0

/-- Intersection over union. -/
def iou (p q : Fin 4 → EReal) : EReal :=
  Ideal.div (inter p q) ((p 2 - p 0) * (p 3 - p 1) + (q 2 - q 0) * (q 3 - q 1) - inter p q + Ideal.ofBits FTy.f32 814313567#32)

/-- The two boxes overlap by more than half. -/
def Over (p q : Fin 4 → EReal) : Prop := Ideal.ofBits FTy.f32 1056964608#32 < iou p q

theorem inter_comm (p q : Fin 4 → EReal) : inter p q = inter q p := by
  unfold inter
  rw [min_comm (p 2), max_comm (p 0), min_comm (p 3), max_comm (p 1)]

theorem iou_comm (p q : Fin 4 → EReal) : iou p q = iou q p := by
  unfold iou
  rw [inter_comm p q, add_comm ((p 2 - p 0) * (p 3 - p 1))]

theorem over_comm {p q : Fin 4 → EReal} : Over p q ↔ Over q p := by
  unfold Over; rw [iou_comm]

end Overlap

end
-- ==== Proof.IdealPoint.lean ====
/- The suppression's payloads over the extended reals, read at an index. -/
module

public import proofs.«01_k».proof.Proof.IdealBody
public import proofs.«01_k».proof.Proof.Overlap

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Overlap (Over iou inter)

open Classical in
/-- The flag of a proposition, as a word. -/
def bit (p : Prop) : BitVec 32 := if p then 1#32 else 0#32

open Classical in
/-- The flag of a proposition, as a bit. -/
def b1 (p : Prop) : BitVec 1 := BitVec.ofBool (decide p)

open Classical in
/-- The flag of a proposition, as a number. -/
def num (p : Prop) : EReal := if p then 1 else 0

theorem bit_flag (p : Prop) : Flag (bit p) := by unfold bit Flag; split <;> simp
theorem bit_pos {p : Prop} : 0 < (bit p).toInt ↔ p := by unfold bit; split <;> simp_all
theorem bit_eq_zero {p : Prop} : bit p = 0#32 ↔ ¬ p := by unfold bit; split <;> simp_all
theorem bit_congr {p q : Prop} (h : p ↔ q) : bit p = bit q := by rw [propext h]
theorem num_congr {p q : Prop} (h : p ↔ q) : num p = num q := by rw [propext h]
theorem b1_congr {p q : Prop} (h : p ↔ q) : b1 p = b1 q := by rw [propext h]
theorem bit_or (p q : Prop) : IntOp.ori (bit p) (bit q) = bit (p ∨ q) := by
  unfold bit IntOp.ori; by_cases p <;> by_cases q <;> simp [*]
theorem bit_and (p q : Prop) : IntOp.andi (bit p) (bit q) = bit (p ∧ q) := by
  unfold bit IntOp.andi; by_cases p <;> by_cases q <;> simp [*]
theorem bit_not (p : Prop) : IntOp.subi 1#32 (bit p) = bit (¬ p) := by
  unfold bit IntOp.subi; by_cases p <;> simp [*]
theorem bit_ite (p : Prop) [Decidable p] : (if p then 1#32 else 0#32) = bit p := by
  unfold bit; by_cases h : p <;> simp [h]
theorem num_ite (p : Prop) [Decidable p] : (if p then (1 : EReal) else 0) = num p := by
  unfold num; by_cases h : p <;> simp [h]
theorem num_bit (p : Prop) : (((bit p).toInt : ℝ) : EReal) = num p := by
  unfold bit num; by_cases p <;> simp [*]
theorem num_sitofp (p : Prop) : (FloatOps.sitofp FTy.f32 (bit p) : Ideal .f32) = num p := num_bit p
theorem b1_decide (p : Prop) [Decidable p] : BitVec.ofBool (decide p) = b1 p := by
  unfold b1; by_cases h : p <;> simp [h]
theorem b1_and (p q : Prop) : IntOp.andi (b1 p) (b1 q) = b1 (p ∧ q) := by
  unfold b1 IntOp.andi; by_cases p <;> by_cases q <;> simp [*]
theorem b1_or (p q : Prop) : IntOp.ori (b1 p) (b1 q) = b1 (p ∨ q) := by
  unfold b1 IntOp.ori; by_cases p <;> by_cases q <;> simp [*]
theorem b1_word (p : Prop) : BitVec.setWidth 32 (b1 p) = bit p := by
  unfold b1 bit; by_cases p <;> simp [*]
theorem b1_num (p : Prop) : Scalar.select (b1 p) (1 : EReal) 0 = num p := by
  unfold b1 num; by_cases p <;> simp [*, Scalar.select]
theorem b1_one (p : Prop) : b1 p = 1#1 ↔ p := by
  unfold b1; by_cases p <;> simp [*]
theorem num_pos {p : Prop} : 0 < num p ↔ p := by unfold num; by_cases p <;> simp [*]
theorem num_mul (p q : Prop) : num p * num q = num (p ∧ q) := by
  unfold num; by_cases p <;> by_cases q <;> simp [*]
theorem eq_word (x y : BitVec 32) : IntOp.cmpi .eq x y = b1 (x = y) := by rw [WordCmp.cmpi_eq_eq, b1_decide]
theorem gt_lane (a b : ℕ) (ha : a < 2 ^ 31) (hb : b < 2 ^ 31) : IntOp.cmpi .sgt (BitVec.ofNat 32 a) (BitVec.ofNat 32 b) = b1 (b < a) := by
  rw [WordCmp.cmpi_sgt_ofNat (by simpa using ha) (by simpa using hb), b1_decide]

/-- Box `r` of a block of rows, and box `c` of a table of columns. -/
def rowBox {n : ℕ} (B : FVec Ideal ⟨2, ![n, 4]⟩ .f32) (r : Fin n) : Fin 4 → EReal := fun k => B (ix2 r k)
def colBox {n : ℕ} (T : FVec Ideal ⟨2, ![4, n]⟩ .f32) (c : Fin n) : Fin 4 → EReal := fun k => T (ix2 k c)

theorem over_at (B : Vec Ideal S128x4 .f32) (T : Vec Ideal S4x128 .f32) (r c : Fin 128) :
    k0_pay18 B T (ix2 r c) = b1 (Over (rowBox B r) (colBox T c)) := by
  pointwise [k0_pay18, k0_pay17, k0_pay16, k0_pay15, k0_pay14, k0_pay13, k0_pay12]
  simp only [Over, iou, inter, rowBox, colBox, b1_decide]

/-- The overlap table. -/
theorem table_at (B : Vec Ideal S128x4 .f32) (T : Vec Ideal S4x128 .f32) (r c : Fin 128) :
    k0_pay20 (k0_pay19 B T) (ix2 r c) = bit (Over (rowBox B r) (colBox T c)) := by
  have : k0_pay20 (k0_pay19 B T) (ix2 r c) = BitVec.setWidth 32 (k0_pay18 B T (ix2 r c)) := by
    pointwise [k0_pay20, k0_pay19]
  rw [this, over_at, b1_word]

theorem fold_max_pos {ι : Type} (S : Finset ι) (f : ι → EReal) (b : EReal) (hb : ¬ 0 < b) :
    0 < Finset.fold max b f S ↔ ∃ i ∈ S, 0 < f i := by
  classical
  induction S using Finset.induction_on with
  | empty => simp [hb]
  | insert a S ha ih => rw [Finset.fold_insert ha, lt_max_iff, ih]; simp

theorem bot_f32 : Ideal.ofBits FTy.f32 4286578688#32 = ⊥ := by
  simp [Ideal.ofBits, Ideal.ieee]

/-- The lanes that start active: not marked, and overlapped by a later box of the block. -/
theorem act_at (o : IVec S128x128 1) (R : Fin 128 → Fin 128 → Prop) (ho : ∀ r c, o (ix2 r c) = b1 (R r c))
    (f : Vec Ideal S1x128 .i32) (c : Fin 128) :
    k0_pay21 (F := Ideal) o f (ix2 0 c) = bit ((∃ x : Fin 128, R x c ∧ c.val < x.val) ∧ f (ix2 0 c) = 0#32) := by
  pointwise [k0_pay21]
  simp only [b1_decide]
  rw [eq_word, b1_and, b1_word]
  refine bit_congr (and_congr_left' ?_)
  rw [fold_max_pos _ _ _ (by rw [bot_f32]; simp)]
  simp only [Finset.mem_univ, true_and]
  refine exists_congr fun x => ?_
  have hx := x.isLt
  have hc := c.isLt
  rw [ho, gt_lane _ _ (by omega) (by omega), b1_and, b1_num, num_pos]

/-- The kept boxes of a block, as the numbers 0 and 1. -/
theorem keep_at (f : Vec Ideal S1x128 .i32) (c : Fin 128) :
    k0_pay23 (F := Ideal) f (ix2 0 c) = num (f (ix2 0 c) = 0#32) := by
  pointwise [k0_pay23]
  rw [eq_word, b1_word, num_sitofp]

theorem num_nonneg (p : Prop) : 0 ≤ num p := by unfold num; split <;> simp

theorem sum_pos_iff {ι : Type} (S : Finset ι) (p : ι → Prop) :
    0 < ∑ i ∈ S, num (p i) ↔ ∃ i ∈ S, p i := by
  classical
  induction S using Finset.induction_on with
  | empty => simp
  | insert a S ha ih =>
    rw [Finset.sum_insert ha]
    by_cases h : p a
    · exact iff_of_true (lt_of_lt_of_le (num_pos.2 h) (le_add_of_nonneg_right (Finset.sum_nonneg fun i _ => num_nonneg _)))
        ⟨a, by simp, h⟩
    · have : num (p a) = 0 := by unfold num; simp [h]
      rw [this, zero_add, ih]; simp [h]

/-- A column is reached by a chunk's product exactly if a kept box of the block overlaps it. -/
theorem contrib_at (B : Vec Ideal S128x4 .f32) (kept : FVec Ideal S1x128 .f32) (K : Fin 128 → Prop)
    (hk : ∀ l, kept (ix2 0 l) = num (K l)) (T : Vec Ideal S4x2048 .f32) (c : Fin 2048) :
    0 < k0_pay6 (F := Ideal) (k0_pay13 B) (k0_pay14 B) (k0_pay15 B) (k0_pay16 B) (k0_pay17 B) kept T (ix2 0 c)
      ↔ ∃ l : Fin 128, K l ∧ Over (rowBox B l) (colBox T c) := by
  have e : k0_pay6 (F := Ideal) (k0_pay13 B) (k0_pay14 B) (k0_pay15 B) (k0_pay16 B) (k0_pay17 B) kept T (ix2 0 c)
      = ∑ l : Fin 128, num (K l ∧ Over (rowBox B l) (colBox T c)) := by
    pointwise [k0_pay6, k0_pay17, k0_pay16, k0_pay15, k0_pay14, k0_pay13, k0_pay12]
    refine Finset.sum_congr rfl fun l _ => ?_
    rw [hk, b1_decide, b1_word, num_sitofp, num_mul]
    simp only [Over, iou, inter, rowBox, colBox]
  rw [e, sum_pos_iff]
  simp

/-- The marks a chunk stores. -/
theorem mark_at (a : FVec Ideal S1x2048 .f32) (b d : IVec S1x2048 32) (e : Vec Ideal S1x2048 .i32) (c : Fin 2048) :
    k0_pay25 (F := Ideal) a b d e (ix2 0 c) = IntOp.ori (e (ix2 0 c))
      (bit (0 < a (ix2 0 c) ∧ (d (ix2 0 c)).toInt ≤ (b (ix2 0 c)).toInt)) := by
  pointwise [k0_pay25]
  rw [WordCmp.cmpi_sge_eq, b1_decide, b1_decide, b1_and, b1_word]

theorem own_put_at (f : Vec Ideal S1x128 .i32) : k0_pay22 f = f := by
  funext j
  pointwise [k0_pay22]

/-! ### Loads and stores of a rectangle -/

section Rects
variable {Val : EltTy → Type} (b : Ref sig .tc)

theorem read_rect {off size : Fin b.ty.shape.rank → ℕ} (inb : ∀ a, off a + size a ≤ b.ty.shape.size a) (f : b.ty.Contents Val)
    (x : (Rect.unit off size inb).shape.Idx) (y : b.ty.shape.Idx) (h : ∀ a, (y a).val = off a + (x a).val) :
    (((Memref.whole b).access (Rect.unit off size inb) : View sig .tc _ _ _).read Val f x) = f y := by
  have hy : (Rect.unit off size inb).emb x = y := funext fun a => Fin.ext (by
    show off a + 1 * (x a).val = (y a).val
    rw [h a, Nat.one_mul])
  rw [← hy]; rfl

theorem write_rect {off size : Fin b.ty.shape.rank → ℕ} (inb : ∀ a, off a + size a ≤ b.ty.shape.size a) (f : b.ty.Contents Val)
    (w : (Rect.unit off size inb).shape.Idx → Val b.ty.elt)
    (x : (Rect.unit off size inb).shape.Idx) (y : b.ty.shape.Idx) (h : ∀ a, (y a).val = off a + (x a).val) :
    ((Memref.whole b).access (Rect.unit off size inb) : View sig .tc _ _ _).write Val f w Finset.univ y = w x := by
  have hy : (Rect.unit off size inb).emb x = y := funext fun a => Fin.ext (by
    show off a + 1 * (x a).val = (y a).val
    rw [h a, Nat.one_mul])
  rw [← hy]
  exact View.write_emb_of_mem (v := ((Memref.whole b).access (Rect.unit off size inb) : View sig .tc _ _ _)) (Val := Val) f w
    (M := Finset.univ) (x := x) (Finset.mem_univ _)

theorem write_rect_off {off size : Fin b.ty.shape.rank → ℕ} (inb : ∀ a, off a + size a ≤ b.ty.shape.size a) (f : b.ty.Contents Val)
    (w : (Rect.unit off size inb).shape.Idx → Val b.ty.elt)
    (y : b.ty.shape.Idx) (a : Fin b.ty.shape.rank) (h : (y a).val < off a ∨ off a + size a ≤ (y a).val) :
    ((Memref.whole b).access (Rect.unit off size inb) : View sig .tc _ _ _).write Val f w Finset.univ y = f y := by
  refine View.write_of_not_mem (v := ((Memref.whole b).access (Rect.unit off size inb) : View sig .tc _ _ _)) (Val := Val) f w Finset.univ ?_
  intro hm
  obtain ⟨x, -, hx⟩ := Finset.mem_map.1 hm
  have e : off a + 1 * (x a).val = (y a).val := congrArg (fun z => (z a).val) hx
  have := (x a).isLt
  have h2 : (x a).val < size a := this
  omega

end Rects

/-! ### The offsets -/

theorem trips_eq : k0_t1_loop.trips = 40 := by decide
theorem off1_eq : ∀ i : Fin k0_t1_loop.trips, k0_off1 i = ![128 * i.val, 0] := by decide
theorem off2_eq : ∀ i : Fin k0_t1_loop.trips, k0_off2 i = ![0, 128 * i.val] := by decide
theorem off3_eq : ∀ i : Fin k0_t1_loop.trips, k0_off3 i = ![0, 128 * i.val] := by decide
theorem off4_eq : ∀ j : Fin 128, k0_off4 (BitVec.ofNat 32 j.val) = ![j.val, 0] := by decide
theorem off5_eq : ∀ (i : Fin k0_t1_loop.trips) (m : Fin (k0_t2_loop i).trips),
    k0_off5 i m = ![0, min (128 * i.val + 128 + 2048 * m.val) 3072] := by decide
theorem off6_eq : ∀ (i : Fin k0_t1_loop.trips) (m : Fin (k0_t2_loop i).trips),
    k0_off6 i m = ![0, min (128 * i.val + 128 + 2048 * m.val) 3072] := by decide
theorem trips2_eq : ∀ i : Fin k0_t1_loop.trips, (k0_t2_loop i).trips = (5120 - 128 * i.val - 128 + 2047) / 2048 := by decide

end Cert.KernelIdeal.Body

end
-- ==== Proof.Counting.lean ====
/- Counting the places where a proposition holds, in the extended reals. -/
module

public import proofs.«01_k».proof.Proof.IdealPoint

@[expose] public section

noncomputable section

namespace Cert.KernelIdeal.Body

/-- A natural number among the extended reals. -/
def nat (n : ℕ) : EReal := ((n : ℝ) : EReal)
theorem nat_zero : nat 0 = 0 := by simp [nat]
theorem nat_one : nat 1 = 1 := by simp [nat]
theorem nat_add (a b : ℕ) : nat (a + b) = nat a + nat b := by unfold nat; push_cast; rfl
theorem nat_inj {a b : ℕ} : nat a = nat b ↔ a = b := by simp [nat]

open Classical in
/-- How many numbers below `n` have the property. -/
def cnt (p : ℕ → Prop) : ℕ → ℕ
  | 0 => 0
  | n + 1 => cnt p n + if p n then 1 else 0

theorem num_nat (p : Prop) [Decidable p] : num p = nat (if p then 1 else 0) := by
  unfold num; by_cases h : p <;> simp [h, nat_one, nat_zero]
theorem cnt_succ (p : ℕ → Prop) (n : ℕ) : nat (cnt p (n + 1)) = nat (cnt p n) + num (p n) := by
  classical
  rw [cnt, nat_add, ← num_nat]
theorem nat_sub_num (p : ℕ → Prop) (n : ℕ) : nat (cnt p (n + 1)) - num (p n) = nat (cnt p n) := by
  classical
  rw [cnt, num_nat (p n)]
  unfold nat
  rw [← EReal.coe_sub]
  refine congrArg _ ?_
  push_cast
  split <;> simp

theorem cnt_mono (p : ℕ → Prop) {m n : ℕ} (h : m ≤ n) : cnt p m ≤ cnt p n := by
  induction n with
  | zero => obtain rfl : m = 0 := by omega
            exact le_rfl
  | succ n ih =>
    rcases Nat.lt_or_ge m (n + 1) with h' | h'
    · exact (ih (by omega)).trans (by rw [cnt]; omega)
    · obtain rfl : m = n + 1 := by omega
      exact le_rfl
theorem cnt_lt (p : ℕ → Prop) {m n : ℕ} (h : m < n) (hp : p m) : cnt p m < cnt p n :=
  lt_of_lt_of_le (show cnt p m < cnt p (m + 1) by rw [cnt, if_pos hp]; omega) (cnt_mono p h)

/-- A row of flags added up to its lane `l`, behind the count of the rows before. -/
theorem sum_row (p : ℕ → Prop) (b l : ℕ) : ∀ m, l < m →
    nat (cnt p b) + ∑ x : Fin m, num (p (b + x.val) ∧ x.val ≤ l) = nat (cnt p (b + l + 1)) := by
  have hall : ∀ m, m ≤ l + 1 → nat (cnt p b) + ∑ x : Fin m, num (p (b + x.val) ∧ x.val ≤ l) = nat (cnt p (b + m)) := by
    intro m
    induction m with
    | zero => intro _; simp
    | succ m ih =>
      intro h
      rw [Fin.sum_univ_castSucc, ← add_assoc]
      simp only [Fin.val_castSucc, Fin.val_last]
      rw [ih (by omega), ← Nat.add_assoc, cnt_succ]
      congr 1
      exact num_congr ⟨fun h => h.1, fun h' => ⟨h', by omega⟩⟩
  intro m
  induction m with
  | zero => intro h; omega
  | succ m ih =>
    intro h
    rcases Nat.lt_or_ge l m with h' | h'
    · rw [Fin.sum_univ_castSucc, ← add_assoc]
      simp only [Fin.val_castSucc, Fin.val_last]
      rw [ih h', num_congr (q := False) ⟨fun h => by omega, fun h => h.elim⟩]
      simp [num]
    · obtain rfl : m = l := by omega
      exact hall (m + 1) le_rfl

/-- The rows before row `r`, added up. -/
theorem sum_rows (p : ℕ → Prop) (R : ℕ → EReal) (hR : ∀ r, nat (cnt p (128 * r)) + R r = nat (cnt p (128 * (r + 1)))) (r : ℕ) :
    ∀ m, ∑ x : Fin m, num (x.val < r) * R x.val = nat (cnt p (128 * min m r)) := by
  intro m
  induction m with
  | zero => simp [cnt, nat_zero]
  | succ m ih =>
    rw [Fin.sum_univ_castSucc]
    simp only [Fin.val_castSucc, Fin.val_last]
    rw [ih]
    by_cases h : m < r
    · rw [show num (m < r) = 1 by simp [num, h], one_mul, show min m r = m by omega, show min (m + 1) r = m + 1 by omega, hR]
    · rw [show num (m < r) = 0 by simp [num, h], zero_mul, add_zero, show min (m + 1) r = min m r by omega]

theorem sum_all (p : ℕ → Prop) (R : ℕ → EReal) (hR : ∀ r, nat (cnt p (128 * r)) + R r = nat (cnt p (128 * (r + 1)))) :
    ∀ m, ∑ x : Fin m, R x.val = nat (cnt p (128 * m)) := by
  intro m
  induction m with
  | zero => simp [cnt, nat_zero]
  | succ m ih =>
    rw [Fin.sum_univ_castSucc]
    simp only [Fin.val_castSucc, Fin.val_last]
    rw [ih, hR]

end Cert.KernelIdeal.Body

end
-- ==== Proof.Ranking.lean ====
/- Stable sorts by a key, and the order in which a selection of the best takes the kept entries of a sorted list and
   then the dropped ones. -/
module

public import proofs.«01_k».proof.Proof.Counting
public import Idealize.ShloMosaic.Lib.SortFacts

@[expose] public section

noncomputable section

namespace Ranking

open Idealize.ShloMosaic
open Cert.KernelIdeal.Body (cnt cnt_mono cnt_lt)

/-! ### A stable sort is settled by what its relation says of a later entry against an earlier one -/

theorem stableSort_later {ι : Type} (L : ι → ι → Prop) (R R' : ι → ι → Bool) (h : ∀ a b, L a b → R b a = R' b a)
    (l : List ι) (hl : l.Pairwise L) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_later {n : ℕ} (R R' : Fin n → Fin n → Bool) (h : ∀ a b, a < b → R b a = R' b a) :
    sortedFrom R = sortedFrom R' := by
  have hs : sortPositions n R = sortPositions n R' := stableSort_later (· < ·) R R' h _ (List.pairwise_lt_finRange n)
  funext k
  unfold sortedFrom
  rw [List.get_of_eq hs]
  rfl

/-- A stable sort places entry `k` at `rank k`, when its relation compares a later entry with an earlier one as their
    ranks do, and the ranks are all different. -/
theorem rank_sortedFrom {n : ℕ} (R : Fin n → Fin n → Bool) (rank : Fin n → Fin n) (hinj : Function.Injective rank)
    (h : ∀ a b, a < b → (R b a = true ↔ rank b < rank a)) (k : Fin n) : rank (sortedFrom R k) = k := by
  let σ : Equiv.Perm (Fin n) := (Equiv.ofBijective rank (Finite.injective_iff_bijective.mp hinj)).symm
  have hσ : ∀ k, σ.symm k = rank k := fun k => rfl
  have hs : sortedFrom R = sortedFrom fun k k' => decide (σ.symm k < σ.symm k') := by
    refine sortedFrom_later R _ fun a b hab => ?_
    have := h a b hab
    rw [← hσ, ← hσ] at this
    by_cases hr : R b a = true
    · rw [hr, decide_eq_true (this.1 hr)]
    · rw [Bool.eq_false_iff.2 hr, decide_eq_false fun hh => hr (this.2 hh)]
  have hk : sortedFrom R k = σ k := by
    rw [hs]
    unfold sortedFrom
    rw [List.get_of_eq (sortPositions_of_perm σ)]
    simp
  rw [hk, ← hσ, Equiv.symm_apply_apply]

/-! ### The order by falling score -/

/-- The entry that the stable sort by falling score puts at a place. -/
def order {n : ℕ} (s : Fin n → EReal) : Fin n → Fin n := sortedFrom fun k k' => decide (-s k < -s k')

/-- The entry that the stable sort by falling value puts at a place. -/
def best {n : ℕ} (v : Fin n → EReal) : Fin n → Fin n := sortedFrom fun a b => decide (v b < v a)

theorem order_falls {n : ℕ} (s : Fin n → EReal) {i j : Fin n} (hij : i ≤ j) : s (order s j) ≤ s (order s i) := by
  rcases hij.lt_or_eq with h | h
  · have := sortedFrom_noInversion (fun k k' => decide (-s k < -s k')) (fun k k' => decide (-s k < -s k'))
      (fun a b hab => by simp only [decide_eq_true_eq, decide_eq_false_iff_not] at hab ⊢; exact not_lt.2 hab.le)
      (fun a b hab => hab)
      (fun a b c hab hbc => by
        simp only [decide_eq_false_iff_not, not_lt] at hab hbc ⊢
        exact hbc.trans hab) i j h
    simp only [decide_eq_false_iff_not, not_lt] at this
    exact EReal.neg_le_neg_iff.1 this
  · rw [h]

/-! ### Counting -/

theorem cnt_zero_of {p : ℕ → Prop} {a : ℕ} (h : ∀ n, a ≤ n → ¬ p n) : ∀ b, cnt p (a + b) = cnt p a
  | 0 => rfl
  | b + 1 => by
    rw [← Nat.add_assoc, cnt, if_neg (h _ (by omega)), cnt_zero_of h b]
    rfl

theorem cnt_split (K S : ℕ → Prop) : ∀ m, (∀ n, n < m → (S n ↔ ¬ K n)) → cnt K m + cnt S m = m
  | 0, _ => rfl
  | m + 1, h => by
    have ih := cnt_split K S m fun n hn => h n (by omega)
    rw [cnt, cnt]
    by_cases hK : K m
    · rw [if_pos hK, if_neg fun hS => (h m (by omega)).1 hS hK]; omega
    · rw [if_neg hK, if_pos ((h m (by omega)).2 hK)]; omega

/-! ### The kept entries first, then the dropped ones -/

open Classical in
/-- Place of entry `n` when the kept entries come first and the dropped ones after them, each in order. -/
def rankOf (K S : ℕ → Prop) (m n : ℕ) : ℕ := if K n then cnt K n else cnt K m + cnt S n

section
variable (K S : ℕ → Prop) (m : ℕ) (hSK : ∀ n, n < m → (S n ↔ ¬ K n))
include hSK

theorem rank_lt {n : ℕ} (hn : n < m) : rankOf K S m n < m := by
  have hs := cnt_split K S m hSK
  unfold rankOf
  split
  · rename_i h
    have := cnt_lt K hn h
    omega
  · rename_i h
    have := cnt_lt S hn ((hSK n hn).2 h)
    omega

/-- A later entry comes first exactly if it is kept and the earlier one is dropped. -/
theorem rank_later {a b : ℕ} (hab : a < b) (hb : b < m) :
    (rankOf K S m b < rankOf K S m a ↔ K b ∧ ¬ K a) ∧ rankOf K S m b ≠ rankOf K S m a := by
  unfold rankOf
  by_cases hKa : K a <;> by_cases hKb : K b
  · rw [if_pos hKa, if_pos hKb]
    have := cnt_lt K hab hKa
    exact ⟨⟨fun h => by omega, fun h => absurd hKa h.2⟩, by omega⟩
  · rw [if_pos hKa, if_neg hKb]
    have := cnt_lt K (show a < m by omega) hKa
    exact ⟨⟨fun h => by omega, fun h => absurd h.1 hKb⟩, by omega⟩
  · rw [if_neg hKa, if_pos hKb]
    have := cnt_lt K hb hKb
    exact ⟨⟨fun _ => ⟨hKb, hKa⟩, fun _ => by omega⟩, by omega⟩
  · rw [if_neg hKa, if_neg hKb]
    have := cnt_lt S hab ((hSK a (by omega)).2 hKa)
    exact ⟨⟨fun h => by omega, fun h => absurd h.1 hKb⟩, by omega⟩

theorem rank_inj {a b : ℕ} (ha : a < m) (hb : b < m) (h : rankOf K S m a = rankOf K S m b) : a = b := by
  rcases lt_trichotomy a b with hab | hab | hab
  · exact absurd h.symm (rank_later K S m hSK hab hb).2
  · exact hab
  · exact absurd h (rank_later K S m hSK hab ha).2

/-- **The selection.** The stable sort by falling value, where kept entries have falling values above the bottom and
    dropped entries have the bottom, puts the entry of rank `k` at place `k`. -/
theorem rank_best (v : Fin m → EReal) (hK : ∀ a b : Fin m, a < b → K a.val → K b.val → v b ≤ v a)
    (hb : ∀ a : Fin m, K a.val → ⊥ < v a) (hd : ∀ a : Fin m, ¬ K a.val → v a = ⊥) (k : Fin m) :
    rankOf K S m (sortedFrom (fun a b => decide (v b < v a)) k).val = k.val := by
  let rk : Fin m → Fin m := fun n => ⟨rankOf K S m n.val, rank_lt K S m hSK n.isLt⟩
  have hr : rk (sortedFrom (fun a b => decide (v b < v a)) k) = k := by
    refine rank_sortedFrom _ rk (fun a b h => ?_) (fun a b hab => ?_) k
    · exact Fin.ext (rank_inj K S m hSK a.isLt b.isLt (congrArg Fin.val h))
    · have hl := (rank_later K S m hSK (show a.val < b.val from hab) b.isLt).1
      rw [decide_eq_true_eq]
      show v a < v b ↔ rankOf K S m b.val < rankOf K S m a.val
      rw [hl]
      constructor
      · intro hlt
        have hKb : K b.val := by
          rcases Classical.em (K b.val) with h | h
          · exact h
          · rw [hd b h] at hlt
            exact absurd hlt not_lt_bot
        exact ⟨hKb, fun hKa => absurd hlt (not_lt.2 (hK a b hab hKa hKb))⟩
      · rintro ⟨hKb, hKa⟩
        rw [hd a hKa]
        exact hb b hKb
  exact congrArg Fin.val hr

end

end Ranking
-- ==== Proof.Sorting.lean ====
/- The sorts of the two programs, read at an index: a table sorted along its only axis by a falling score. -/
module

public import proofs.«01_k».proof.Proof.Ranking
public import Idealize.ShloMosaic.Lib.Pointwise

@[expose] public section

noncomputable section

namespace Ranking

open Idealize.ShloMosaic
open Idealize.ShloMosaic.Tactic

theorem ofFin_ix1 {n : ℕ} (k : Fin n) : (Shape.Idx.ofFin k : (⟨1, ![n]⟩ : Shape).Idx) = ix1 k := by
  funext a
  obtain rfl : a = 0 := Subsingleton.elim _ _
  rfl

theorem sortBy_at {n : ℕ} {ι α : Type} (cmp : ι → ι → BitVec 1) (rows : (⟨1, ![n]⟩ : Shape).Idx → ι)
    (x : (⟨1, ![n]⟩ : Shape).Idx → α) (j : Fin n) :
    Host.sortBy ⟨1, ![n]⟩ 0 cmp rows x (ix1 j) = x (ix1 (sortedFrom (fun k k' => cmp (rows (ix1 k)) (rows (ix1 k')) == 1#1) j)) := by
  unfold Host.sortBy
  simp [ofFin_ix1]

theorem sort2_at {n : ℕ} {α β : Type} (cmp : α × β → α × β → BitVec 1) (x : (⟨1, ![n]⟩ : Shape).Idx → α)
    (y : (⟨1, ![n]⟩ : Shape).Idx → β) (j : Fin n) :
    (Host.sort2 ⟨1, ![n]⟩ 0 cmp x y).2 (ix1 j)
      = y (ix1 (sortedFrom (fun k k' => cmp (x (ix1 k), y (ix1 k)) (x (ix1 k'), y (ix1 k')) == 1#1) j)) := by
  unfold Host.sort2
  simp [ofFin_ix1]

theorem key_self (x : EReal) : Scalar.select (FloatOps.cmpf (F := Ideal) (φ := .f32) .une x x) (FloatOps.ofBits (F := Ideal) .f32 0x7FC00000#32)
    (Scalar.select (FloatOps.cmpf (F := Ideal) (φ := .f32) .oeq x (FloatOps.ofBits .f32 0x00000000#32)) (FloatOps.ofBits .f32 0x00000000#32) x) = x := by
  have h1 : FloatOps.cmpf (F := Ideal) (φ := .f32) .une x x = BitVec.ofBool (decide (x ≠ x)) := rfl
  have h2 : FloatOps.cmpf (F := Ideal) (φ := .f32) .oeq x (FloatOps.ofBits .f32 0x00000000#32)
      = BitVec.ofBool (decide (x = (FloatOps.ofBits (F := Ideal) .f32 0x00000000#32 : EReal))) := rfl
  rw [h1, h2, WordCmp.select_decide, WordCmp.select_decide, if_neg fun h => h rfl]
  split
  · rename_i h; exact h.symm
  · rfl

/-- The comparison of the sorts: the keys as they are. -/
theorem key_lt (a b : EReal) : (FloatOps.cmpfTotal (F := Ideal) (φ := .f32) .lt
    (Scalar.select (FloatOps.cmpf (F := Ideal) (φ := .f32) .une a a) (FloatOps.ofBits (F := Ideal) .f32 0x7FC00000#32)
      (Scalar.select (FloatOps.cmpf (F := Ideal) (φ := .f32) .oeq a (FloatOps.ofBits .f32 0x00000000#32)) (FloatOps.ofBits .f32 0x00000000#32) a))
    (Scalar.select (FloatOps.cmpf (F := Ideal) (φ := .f32) .une b b) (FloatOps.ofBits (F := Ideal) .f32 0x7FC00000#32)
      (Scalar.select (FloatOps.cmpf (F := Ideal) (φ := .f32) .oeq b (FloatOps.ofBits .f32 0x00000000#32)) (FloatOps.ofBits .f32 0x00000000#32) b))
      == 1#1) = decide (a < b) := by
  rw [key_self, key_self]
  have h : FloatOps.cmpfTotal (F := Ideal) (φ := .f32) .lt a b = BitVec.ofBool (decide (a < b)) := rfl
  rw [h]
  by_cases hab : a < b <;> simp [hab]

theorem gt_flag (a b : EReal) : (FloatOps.cmpfTotal (F := Ideal) (φ := .f32) .gt a b == 1#1) = decide (b < a) := by
  have h : FloatOps.cmpfTotal (F := Ideal) (φ := .f32) .gt a b = BitVec.ofBool (decide (b < a)) := rfl
  rw [h]
  by_cases hab : b < a <;> simp [hab]

end Ranking
-- ==== Proof.HostBlocks.lean ====
/- What the kernel's host lines read at an index: the sorted columns, and the tables set into the padded ones. -/
module

public import proofs.«01_k».proof.Proof.Sorting
public import proofs.«01_k».proof.Proof.IdealLaunch
public import Idealize.ShloMosaic.Lib.Routing.OpsSet
public import Idealize.ShloMosaic.Lib.StableHlo.RunRead

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

/-! ### The sorted columns -/

theorem sorted_at {α : Type} (s : Fin 5000 → EReal)
    (rows : S5000.Idx → Ideal .f32 × Ideal .f32 × Ideal .f32 × Ideal .f32 × Ideal .f32 × Ideal .f32)
    (hr : ∀ k : Fin 5000, (rows (ix1 k)).1 = -s k) (x : S5000.Idx → α) (j : Fin 5000) :
    Host.sortBy S5000 0 (comparator_f32_f32_f32_f32_f32_f32_d0 (F := Ideal)) rows x (ix1 j) = x (ix1 (Ranking.order s j)) := by
  rw [Ranking.sortBy_at]
  unfold Ranking.order
  have h : (fun k k' : Fin 5000 => comparator_f32_f32_f32_f32_f32_f32_d0 (F := Ideal) (rows (ix1 k)) (rows (ix1 k')) == 1#1)
      = fun k k' => decide (-s k < -s k') := funext fun k => funext fun k' => by
    rw [← hr, ← hr]
    exact Ranking.key_lt _ _
  rw [h]

/-! ### The tables set into the padded ones -/

theorem lands_rows (idx : IVec S1 32) (h0 : ∀ k, idx k = 0#32) (p : Fin 5000) (q : Fin 4) (r : Fin 5120) (c : Fin 4) :
    scatter_S5120x4_S1_S5000x4_01_n_0_0.resultIdx? (ix2 p q) idx = some (ix2 r c) ↔ p.val = r.val ∧ q = c := by
  have hs : ∀ a, scatter_S5120x4_S1_S5000x4_01_n_0_0.start (ix2 p q) idx a = 0 := fun a => by
    unfold ScatterDims.start
    split
    · rw [h0]; rfl
    · rfl
  have w0 : scatter_S5120x4_S1_S5000x4_01_n_0_0.window (ix2 p q) 0 = p.val := rfl
  have w1 : scatter_S5120x4_S1_S5000x4_01_n_0_0.window (ix2 p q) 1 = q.val := rfl
  rw [Routing.resultIdx?_eq_some, Fin.ext_iff]
  refine ⟨fun h => ?_, fun h a => ?_⟩
  · have h0 := h 0
    have h1 := h 1
    rw [hs, w0] at h0
    rw [hs, w1] at h1
    have e0 : ((ix2 r c : S5120x4.Idx) 0).val = r.val := rfl
    have e1 : ((ix2 r c : S5120x4.Idx) 1).val = c.val := rfl
    omega
  · match a with
    | ⟨0, _⟩ => exact (congrArg₂ (· + ·) (hs 0) (congrArg Nat.cast w0)).trans ((zero_add _).trans (congrArg Nat.cast h.1))
    | ⟨1, _⟩ => exact (congrArg₂ (· + ·) (hs 1) (congrArg Nat.cast w1)).trans ((zero_add _).trans (congrArg Nat.cast h.2))

theorem lands_cols (idx : IVec S2 32) (h0 : ∀ k, idx k = 0#32) (p : Fin 7) (q : Fin 5000) (r : Fin 8) (c : Fin 5120) :
    scatter_S8x5120_S2_S7x5000_01_n_01_0.resultIdx? (ix2 p q) idx = some (ix2 r c) ↔ p.val = r.val ∧ q.val = c.val := by
  have hs : ∀ a, scatter_S8x5120_S2_S7x5000_01_n_01_0.start (ix2 p q) idx a = 0 := fun a => by
    unfold ScatterDims.start
    split
    · rw [h0]; rfl
    · rfl
  have w0 : scatter_S8x5120_S2_S7x5000_01_n_01_0.window (ix2 p q) 0 = p.val := rfl
  have w1 : scatter_S8x5120_S2_S7x5000_01_n_01_0.window (ix2 p q) 1 = q.val := rfl
  rw [Routing.resultIdx?_eq_some]
  refine ⟨fun h => ?_, fun h a => ?_⟩
  · have h0 := h 0
    have h1 := h 1
    rw [hs, w0] at h0
    rw [hs, w1] at h1
    have e0 : ((ix2 r c : S8x5120.Idx) 0).val = r.val := rfl
    have e1 : ((ix2 r c : S8x5120.Idx) 1).val = c.val := rfl
    omega
  · match a with
    | ⟨0, _⟩ => exact (congrArg₂ (· + ·) (hs 0) (congrArg Nat.cast w0)).trans ((zero_add _).trans (congrArg Nat.cast h.1))
    | ⟨1, _⟩ => exact (congrArg₂ (· + ·) (hs 1) (congrArg Nat.cast w1)).trans ((zero_add _).trans (congrArg Nat.cast h.2))

theorem set_rows {α : Type} (x : S5120x4.Idx → α) (idx : IVec S1 32) (h0 : ∀ k, idx k = 0#32) (u : S5000x4.Idx → α) (r : Fin 5120)
    (c : Fin 4) : Host.scatter scatter_S5120x4_S1_S5000x4_01_n_0_0 (fun _ b => b) x idx u (ix2 r c)
      = if h : r.val < 5000 then u (ix2 ⟨r.val, h⟩ c) else x (ix2 r c) := by
  split
  · rename_i h
    refine Routing.scatter_set_hit _ x idx u _ _ (fun k hk => ?_) (ix2 ⟨r.val, h⟩ c) ((lands_rows idx h0 _ _ _ _).2 ⟨rfl, rfl⟩)
    idx_vars k
    obtain ⟨h1, h2⟩ := (lands_rows idx h0 _ _ _ _).1 hk
    subst h2
    exact congrArg (fun p => u (ix2 p _)) (Fin.ext h1)
  · rename_i h
    refine Routing.scatter_set_miss _ x idx u _ fun k hk => ?_
    idx_vars k
    obtain ⟨h1, -⟩ := (lands_rows idx h0 _ _ _ _).1 hk
    omega

theorem set_cols {α : Type} (x : S8x5120.Idx → α) (idx : IVec S2 32) (h0 : ∀ k, idx k = 0#32) (u : S7x5000.Idx → α) (r : Fin 8)
    (c : Fin 5120) : Host.scatter scatter_S8x5120_S2_S7x5000_01_n_01_0 (fun _ b => b) x idx u (ix2 r c)
      = if h : r.val < 7 ∧ c.val < 5000 then u (ix2 ⟨r.val, h.1⟩ ⟨c.val, h.2⟩) else x (ix2 r c) := by
  split
  · rename_i h
    refine Routing.scatter_set_hit _ x idx u _ _ (fun k hk => ?_) (ix2 ⟨r.val, h.1⟩ ⟨c.val, h.2⟩) ((lands_cols idx h0 _ _ _ _).2 ⟨rfl, rfl⟩)
    idx_vars k
    obtain ⟨h1, h2⟩ := (lands_cols idx h0 _ _ _ _).1 hk
    exact congrArg₂ (fun p q => u (ix2 p q)) (Fin.ext h1) (Fin.ext h2)
  · rename_i h
    refine Routing.scatter_set_miss _ x idx u _ fun k hk => ?_
    idx_vars k
    obtain ⟨h1, h2⟩ := (lands_cols idx h0 _ _ _ _).1 hk
    omega

end Cert.KernelIdeal.Body
-- ==== Proof.HostColumns.lean ====
/- The columns that the kernel's host lines sort, over the extended reals, as functions of the arguments. -/
module

public import proofs.«01_k».proof.Proof.HostBlocks

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

variable (m : (ℓ : Loc nD τ sig) → Buf (Elt Ideal) ℓ)

/-- The arguments of a device: boxes, scores, classes. -/
def boxes (c : Dev nD) : FVec Ideal S5000x4 .f32 := m (c, Proc.devRef .tc main_arg0)
def scores (c : Dev nD) : FVec Ideal S5000 .f32 := m (c, Proc.devRef .tc main_arg1)
def classes (c : Dev nD) : IVec S5000 32 := m (c, Proc.devRef .tc main_arg2)

/-- The score of a box, and the box at a place of the order by falling score. -/
def scoreAt (c : Dev nD) (k : Fin 5000) : EReal := scores m c (ix1 k)
def ord (c : Dev nD) : Fin 5000 → Fin 5000 := Ranking.order (scoreAt m c)

/-- The class of a box as a number. -/
def classAt (c : Dev nD) (k : Fin 5000) : EReal := (((classes m c (ix1 k)).toInt : ℝ) : EReal)

/-- One more than the largest coordinate. -/
def shift (c : Dev nD) : EReal :=
  (Host.reduce FloatOps.maximumf (boxes m c) (constant (F := Ideal) S_ .f32 0xFF800000#32) reducesTo_S5000x4_S_d0_1 h_S_) ix0
    + Ideal.ofBits FTy.f32 0x3F800000#32

/-- A box moved by its class. -/
def moved (c : Dev nD) (k : Fin 5000) : Fin 4 → EReal := fun a => boxes m c (ix2 k a) + classAt m c k * shift m c

theorem row_key (c : Dev nD) (k : Fin 5000) : (StableHlo.upto hostOps0 (fun b => m (c, b)) 14 (Proc.devRef .tc main_v3) : FVec Ideal S5000 .f32) (ix1 k)
    = -scoreAt m c k := by
  after_reads_simp
  rfl

theorem col_0 (c : Dev nD) (k : Fin 5000) (X : FVec Ideal S5000 .f32)
    (hX : X = (fun i => shapeCast S5000 (extractStridedSlice S5000x1 ![0, 0] (boxes m c) slices_S5000x4_S5000x1_0_0) shapeCasts_S5000x1_S5000 i)) :
    X (ix1 k) = boxes m c (ix2 k 0) := by
  rw [hX]
  pointwise []

theorem col_1 (c : Dev nD) (k : Fin 5000) (X : FVec Ideal S5000 .f32)
    (hX : X = (fun i => shapeCast S5000 (extractStridedSlice S5000x1 ![0, 1] (boxes m c) slices_S5000x4_S5000x1_0_1) shapeCasts_S5000x1_S5000 i)) :
    X (ix1 k) = boxes m c (ix2 k 1) := by
  rw [hX]
  pointwise []

theorem col_2 (c : Dev nD) (k : Fin 5000) (X : FVec Ideal S5000 .f32)
    (hX : X = (fun i => shapeCast S5000 (extractStridedSlice S5000x1 ![0, 2] (boxes m c) slices_S5000x4_S5000x1_0_2) shapeCasts_S5000x1_S5000 i)) :
    X (ix1 k) = boxes m c (ix2 k 2) := by
  rw [hX]
  pointwise []

theorem col_3 (c : Dev nD) (k : Fin 5000) (X : FVec Ideal S5000 .f32)
    (hX : X = (fun i => shapeCast S5000 (extractStridedSlice S5000x1 ![0, 3] (boxes m c) slices_S5000x4_S5000x1_0_3) shapeCasts_S5000x1_S5000 i)) :
    X (ix1 k) = boxes m c (ix2 k 3) := by
  rw [hX]
  pointwise []

theorem v12_0_at (c : Dev nD) (j : Fin 5000) : (V₀ m c (Proc.devRef .tc main_v12_0) : FVec Ideal S5000 .f32) (ix1 j) = -scoreAt m c (ord m c j) := by
  rw [V₀_eq]
  after_reads_simp
  refine (sorted_at (scoreAt m c) _ (fun k => ?_) _ j).trans ?_
  · exact row_key m c k
  · exact row_key m c _

theorem v12_1_at (c : Dev nD) (j : Fin 5000) : (V₀ m c (Proc.devRef .tc main_v12_1) : FVec Ideal S5000 .f32) (ix1 j) = boxes m c (ix2 (ord m c j) 0) := by
  rw [V₀_eq]
  after_reads_simp
  refine (sorted_at (scoreAt m c) _ (fun k => row_key m c k) _ j).trans ?_
  refine col_0 m c _ _ ?_
  show StableHlo.upto hostOps0 (fun b => m (c, b)) 15 (Proc.devRef .tc main_v5) = _
  after_reads_simp
  rfl

theorem v12_2_at (c : Dev nD) (j : Fin 5000) : (V₀ m c (Proc.devRef .tc main_v12_2) : FVec Ideal S5000 .f32) (ix1 j) = boxes m c (ix2 (ord m c j) 1) := by
  rw [V₀_eq]
  after_reads_simp
  refine (sorted_at (scoreAt m c) _ (fun k => row_key m c k) _ j).trans ?_
  refine col_1 m c _ _ ?_
  show StableHlo.upto hostOps0 (fun b => m (c, b)) 16 (Proc.devRef .tc main_v7) = _
  after_reads_simp
  rfl

theorem v12_3_at (c : Dev nD) (j : Fin 5000) : (V₀ m c (Proc.devRef .tc main_v12_3) : FVec Ideal S5000 .f32) (ix1 j) = boxes m c (ix2 (ord m c j) 2) := by
  rw [V₀_eq]
  after_reads_simp
  refine (sorted_at (scoreAt m c) _ (fun k => row_key m c k) _ j).trans ?_
  refine col_2 m c _ _ ?_
  show StableHlo.upto hostOps0 (fun b => m (c, b)) 17 (Proc.devRef .tc main_v9) = _
  after_reads_simp
  rfl

theorem v12_4_at (c : Dev nD) (j : Fin 5000) : (V₀ m c (Proc.devRef .tc main_v12_4) : FVec Ideal S5000 .f32) (ix1 j) = boxes m c (ix2 (ord m c j) 3) := by
  rw [V₀_eq]
  after_reads_simp
  refine (sorted_at (scoreAt m c) _ (fun k => row_key m c k) _ j).trans ?_
  refine col_3 m c _ _ ?_
  show StableHlo.upto hostOps0 (fun b => m (c, b)) 18 (Proc.devRef .tc main_v11) = _
  after_reads_simp
  rfl

theorem v12_5_at (c : Dev nD) (j : Fin 5000) : (V₀ m c (Proc.devRef .tc main_v12_5) : FVec Ideal S5000 .f32) (ix1 j) = classAt m c (ord m c j) := by
  rw [V₀_eq]
  after_reads_simp
  refine (sorted_at (scoreAt m c) _ (fun k => row_key m c k) _ j).trans ?_
  show (StableHlo.upto hostOps0 (fun b => m (c, b)) 19 (Proc.devRef .tc main_v2) : FVec Ideal S5000 .f32) (ix1 (ord m c j)) = _
  after_reads_simp
  rfl

theorem v20_at (c : Dev nD) (j : Fin 5000) : (V₀ m c (Proc.devRef .tc main_v20) : FVec Ideal S5000x1 .f32) (ix2 j 0)
    = moved m c (ord m c j) 0 := by
  have h : (V₀ m c (Proc.devRef .tc main_v20) : FVec Ideal S5000x1 .f32)
      = broadcastInDim S5000x1 ![0] bcast_S5000_S5000x1_0 (addf (V₀ m c (Proc.devRef .tc main_v12_1) : FVec Ideal S5000 .f32)
        (mulf (V₀ m c (Proc.devRef .tc main_v12_5) : FVec Ideal S5000 .f32) (broadcastInDim S5000 ![] bcast_S_S5000
          (addf (Host.reduce FloatOps.maximumf (boxes m c) (constant (F := Ideal) S_ .f32 0xFF800000#32) reducesTo_S5000x4_S_d0_1 h_S_)
            (constant (F := Ideal) S_ .f32 0x3F800000#32))))) := by
    rw [V₀_eq]
    after_reads_simp
    rfl
  rw [h]
  unfold moved
  rw [← v12_1_at, ← v12_5_at]
  generalize (V₀ m c (Proc.devRef .tc main_v12_1) : FVec Ideal S5000 .f32) = X
  generalize (V₀ m c (Proc.devRef .tc main_v12_5) : FVec Ideal S5000 .f32) = Y
  unfold shift
  generalize Host.reduce FloatOps.maximumf (boxes m c) (constant (F := Ideal) S_ .f32 0xFF800000#32) reducesTo_S5000x4_S_d0_1 h_S_ = Z
  pointwise []

theorem v21_at (c : Dev nD) (j : Fin 5000) : (V₀ m c (Proc.devRef .tc main_v21) : FVec Ideal S5000x1 .f32) (ix2 j 0)
    = moved m c (ord m c j) 1 := by
  have h : (V₀ m c (Proc.devRef .tc main_v21) : FVec Ideal S5000x1 .f32)
      = broadcastInDim S5000x1 ![0] bcast_S5000_S5000x1_0 (addf (V₀ m c (Proc.devRef .tc main_v12_2) : FVec Ideal S5000 .f32)
        (mulf (V₀ m c (Proc.devRef .tc main_v12_5) : FVec Ideal S5000 .f32) (broadcastInDim S5000 ![] bcast_S_S5000
          (addf (Host.reduce FloatOps.maximumf (boxes m c) (constant (F := Ideal) S_ .f32 0xFF800000#32) reducesTo_S5000x4_S_d0_1 h_S_)
            (constant (F := Ideal) S_ .f32 0x3F800000#32))))) := by
    rw [V₀_eq]
    after_reads_simp
    rfl
  rw [h]
  unfold moved
  rw [← v12_2_at, ← v12_5_at]
  generalize (V₀ m c (Proc.devRef .tc main_v12_2) : FVec Ideal S5000 .f32) = X
  generalize (V₀ m c (Proc.devRef .tc main_v12_5) : FVec Ideal S5000 .f32) = Y
  unfold shift
  generalize Host.reduce FloatOps.maximumf (boxes m c) (constant (F := Ideal) S_ .f32 0xFF800000#32) reducesTo_S5000x4_S_d0_1 h_S_ = Z
  pointwise []

theorem v22_at (c : Dev nD) (j : Fin 5000) : (V₀ m c (Proc.devRef .tc main_v22) : FVec Ideal S5000x1 .f32) (ix2 j 0)
    = moved m c (ord m c j) 2 := by
  have h : (V₀ m c (Proc.devRef .tc main_v22) : FVec Ideal S5000x1 .f32)
      = broadcastInDim S5000x1 ![0] bcast_S5000_S5000x1_0 (addf (V₀ m c (Proc.devRef .tc main_v12_3) : FVec Ideal S5000 .f32)
        (mulf (V₀ m c (Proc.devRef .tc main_v12_5) : FVec Ideal S5000 .f32) (broadcastInDim S5000 ![] bcast_S_S5000
          (addf (Host.reduce FloatOps.maximumf (boxes m c) (constant (F := Ideal) S_ .f32 0xFF800000#32) reducesTo_S5000x4_S_d0_1 h_S_)
            (constant (F := Ideal) S_ .f32 0x3F800000#32))))) := by
    rw [V₀_eq]
    after_reads_simp
    rfl
  rw [h]
  unfold moved
  rw [← v12_3_at, ← v12_5_at]
  generalize (V₀ m c (Proc.devRef .tc main_v12_3) : FVec Ideal S5000 .f32) = X
  generalize (V₀ m c (Proc.devRef .tc main_v12_5) : FVec Ideal S5000 .f32) = Y
  unfold shift
  generalize Host.reduce FloatOps.maximumf (boxes m c) (constant (F := Ideal) S_ .f32 0xFF800000#32) reducesTo_S5000x4_S_d0_1 h_S_ = Z
  pointwise []

theorem v23_at (c : Dev nD) (j : Fin 5000) : (V₀ m c (Proc.devRef .tc main_v23) : FVec Ideal S5000x1 .f32) (ix2 j 0)
    = moved m c (ord m c j) 3 := by
  have h : (V₀ m c (Proc.devRef .tc main_v23) : FVec Ideal S5000x1 .f32)
      = broadcastInDim S5000x1 ![0] bcast_S5000_S5000x1_0 (addf (V₀ m c (Proc.devRef .tc main_v12_4) : FVec Ideal S5000 .f32)
        (mulf (V₀ m c (Proc.devRef .tc main_v12_5) : FVec Ideal S5000 .f32) (broadcastInDim S5000 ![] bcast_S_S5000
          (addf (Host.reduce FloatOps.maximumf (boxes m c) (constant (F := Ideal) S_ .f32 0xFF800000#32) reducesTo_S5000x4_S_d0_1 h_S_)
            (constant (F := Ideal) S_ .f32 0x3F800000#32))))) := by
    rw [V₀_eq]
    after_reads_simp
    rfl
  rw [h]
  unfold moved
  rw [← v12_4_at, ← v12_5_at]
  generalize (V₀ m c (Proc.devRef .tc main_v12_4) : FVec Ideal S5000 .f32) = X
  generalize (V₀ m c (Proc.devRef .tc main_v12_5) : FVec Ideal S5000 .f32) = Y
  unfold shift
  generalize Host.reduce FloatOps.maximumf (boxes m c) (constant (F := Ideal) S_ .f32 0xFF800000#32) reducesTo_S5000x4_S_d0_1 h_S_ = Z
  pointwise []

end Cert.KernelIdeal.Body
-- ==== Proof.HostKernel.lean ====
/- What the kernel's windows hold over the extended reals, entry by entry, as functions of the arguments. -/
module

public import proofs.«01_k».proof.Proof.HostColumns

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

variable (m : (ℓ : Loc nD τ sig) → Buf (Elt Ideal) ℓ)

/-- The boxes in the order by falling score, each moved by its class. -/
theorem v24_at (c : Dev nD) (j : Fin 5000) (a : Fin 4) : (V₀ m c (Proc.devRef .tc main_v24) : FVec Ideal S5000x4 .f32) (ix2 j a)
    = moved m c (ord m c j) a := by
  have h : (V₀ m c (Proc.devRef .tc main_v24) : FVec Ideal S5000x4 .f32)
      = concatenate S5000x4 1 [⟨S5000x1, (V₀ m c (Proc.devRef .tc main_v20) : FVec Ideal S5000x1 .f32)⟩,
        ⟨S5000x1, (V₀ m c (Proc.devRef .tc main_v21) : FVec Ideal S5000x1 .f32)⟩,
        ⟨S5000x1, (V₀ m c (Proc.devRef .tc main_v22) : FVec Ideal S5000x1 .f32)⟩,
        ⟨S5000x1, (V₀ m c (Proc.devRef .tc main_v23) : FVec Ideal S5000x1 .f32)⟩] concatenates_S5000x1_S5000x1_S5000x1_S5000x1_S5000x4_d1 := by
    have e0 : (V₀ m c (Proc.devRef .tc main_v20) : FVec Ideal S5000x1 .f32) = StableHlo.upto hostOps0 (fun b => m (c, b)) 31 (Proc.devRef .tc main_v20) := by
      rw [V₀_eq]; after_reads_simp
    have e1 : (V₀ m c (Proc.devRef .tc main_v21) : FVec Ideal S5000x1 .f32) = StableHlo.upto hostOps0 (fun b => m (c, b)) 31 (Proc.devRef .tc main_v21) := by
      rw [V₀_eq]; after_reads_simp
    have e2 : (V₀ m c (Proc.devRef .tc main_v22) : FVec Ideal S5000x1 .f32) = StableHlo.upto hostOps0 (fun b => m (c, b)) 31 (Proc.devRef .tc main_v22) := by
      rw [V₀_eq]; after_reads_simp
    have e3 : (V₀ m c (Proc.devRef .tc main_v23) : FVec Ideal S5000x1 .f32) = StableHlo.upto hostOps0 (fun b => m (c, b)) 31 (Proc.devRef .tc main_v23) := by
      rw [V₀_eq]; after_reads_simp
    rw [e0, e1, e2, e3, V₀_eq]
    generalize hx0 : StableHlo.upto hostOps0 (fun b => m (c, b)) 31 (Proc.devRef .tc main_v20) = x0
    generalize hx1 : StableHlo.upto hostOps0 (fun b => m (c, b)) 31 (Proc.devRef .tc main_v21) = x1
    generalize hx2 : StableHlo.upto hostOps0 (fun b => m (c, b)) 31 (Proc.devRef .tc main_v22) = x2
    generalize hx3 : StableHlo.upto hostOps0 (fun b => m (c, b)) 31 (Proc.devRef .tc main_v23) = x3
    after_reads_simp
    subst hx0 hx1 hx2 hx3
    rfl
  rw [h]
  have h0 := v20_at m c j
  have h1 := v21_at m c j
  have h2 := v22_at m c j
  have h3 := v23_at m c j
  generalize (V₀ m c (Proc.devRef .tc main_v20) : FVec Ideal S5000x1 .f32) = X0 at *
  generalize (V₀ m c (Proc.devRef .tc main_v21) : FVec Ideal S5000x1 .f32) = X1 at *
  generalize (V₀ m c (Proc.devRef .tc main_v22) : FVec Ideal S5000x1 .f32) = X2 at *
  generalize (V₀ m c (Proc.devRef .tc main_v23) : FVec Ideal S5000x1 .f32) = X3 at *
  fin_vals a with ha
  · obtain rfl : a = 0 := Fin.ext ha
    rw [← h0]; pointwise []
  · obtain rfl : a = 1 := Fin.ext ha
    rw [← h1]; pointwise []
  · obtain rfl : a = 2 := Fin.ext ha
    rw [← h2]; pointwise []
  · obtain rfl : a = 3 := Fin.ext ha
    rw [← h3]; pointwise []

theorem v27_at (c : Dev nD) (r : Fin 5120) (a : Fin 4) : (V₀ m c (Proc.devRef .tc main_v27) : FVec Ideal S5120x4 .f32) (ix2 r a)
    = if h : r.val < 5000 then moved m c (ord m c ⟨r.val, h⟩) a else 0 := by
  have h : (V₀ m c (Proc.devRef .tc main_v27) : FVec Ideal S5120x4 .f32)
      = Host.scatter scatter_S5120x4_S1_S5000x4_01_n_0_0 (fun _ b => b) (broadcastInDim S5120x4 ![] bcast_S_S5120x4 (constant (F := Ideal) S_ .f32 0#32))
        (broadcastInDim S1 ![] bcast_S_S1 (constantI S_ 32 0#32)) (V₀ m c (Proc.devRef .tc main_v24) : FVec Ideal S5000x4 .f32) := by
    rw [V₀_eq]
    after_reads_simp
  rw [h, set_rows _ _ (fun k => by idx_vars k; pointwise [])]
  split
  · exact v24_at m c _ a
  · pointwise []

theorem v28_at (c : Dev nD) (r : Fin 5120) (a : Fin 4) : (V₀ m c (Proc.devRef .tc main_v28) : FVec Ideal S4x5120 .f32) (ix2 a r)
    = (V₀ m c (Proc.devRef .tc main_v27) : FVec Ideal S5120x4 .f32) (ix2 r a) := by
  have h : (V₀ m c (Proc.devRef .tc main_v28) : FVec Ideal S4x5120 .f32)
      = transpose S4x5120 [1, 0] (V₀ m c (Proc.devRef .tc main_v27) : FVec Ideal S5120x4 .f32) transposes_S5120x4_S4x5120_1_0 := by
    rw [V₀_eq]
    after_reads_simp
  rw [h]
  generalize (V₀ m c (Proc.devRef .tc main_v27) : FVec Ideal S5120x4 .f32) = X
  pointwise []

end Cert.KernelIdeal.Body
-- ==== Proof.HostData.lean ====
/- The kernel's table of data over the extended reals: coordinates, scores, classes and the flag of a real box. -/
module

public import proofs.«01_k».proof.Proof.HostKernel

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

variable (m : (ℓ : Loc nD τ sig) → Buf (Elt Ideal) ℓ)

theorem v13_at (c : Dev nD) (j : Fin 5000) : (V₀ m c (Proc.devRef .tc main_v13) : FVec Ideal S5000 .f32) (ix1 j) = scoreAt m c (ord m c j) := by
  have h : (V₀ m c (Proc.devRef .tc main_v13) : FVec Ideal S5000 .f32) = (Host.negf (F := Ideal) : FVec Ideal S5000 .f32 → FVec Ideal S5000 .f32) (V₀ m c (Proc.devRef .tc main_v12_0) : FVec Ideal S5000 .f32) := by
    rw [V₀_eq]; after_reads_simp
  rw [h]
  exact (congrArg (fun x : EReal => -x) (v12_0_at m c j)).trans (neg_neg _)

theorem v31_at (c : Dev nD) (j : Fin 5000) : (V₀ m c (Proc.devRef .tc main_v31) : FVec Ideal S1x5000 .f32) (ix2 0 j) = boxes m c (ix2 (ord m c j) 0) := by
  have h : (V₀ m c (Proc.devRef .tc main_v31) : FVec Ideal S1x5000 .f32)
      = broadcastInDim S1x5000 ![1] bcast_S5000_S1x5000_1 (V₀ m c (Proc.devRef .tc main_v12_1) : FVec Ideal S5000 .f32) := by
    rw [V₀_eq]; after_reads_simp
  rw [h, ← v12_1_at]
  generalize (V₀ m c (Proc.devRef .tc main_v12_1) : FVec Ideal S5000 .f32) = X
  pointwise []

theorem v32_at (c : Dev nD) (j : Fin 5000) : (V₀ m c (Proc.devRef .tc main_v32) : FVec Ideal S1x5000 .f32) (ix2 0 j) = boxes m c (ix2 (ord m c j) 1) := by
  have h : (V₀ m c (Proc.devRef .tc main_v32) : FVec Ideal S1x5000 .f32)
      = broadcastInDim S1x5000 ![1] bcast_S5000_S1x5000_1 (V₀ m c (Proc.devRef .tc main_v12_2) : FVec Ideal S5000 .f32) := by
    rw [V₀_eq]; after_reads_simp
  rw [h, ← v12_2_at]
  generalize (V₀ m c (Proc.devRef .tc main_v12_2) : FVec Ideal S5000 .f32) = X
  pointwise []

theorem v33_at (c : Dev nD) (j : Fin 5000) : (V₀ m c (Proc.devRef .tc main_v33) : FVec Ideal S1x5000 .f32) (ix2 0 j) = boxes m c (ix2 (ord m c j) 2) := by
  have h : (V₀ m c (Proc.devRef .tc main_v33) : FVec Ideal S1x5000 .f32)
      = broadcastInDim S1x5000 ![1] bcast_S5000_S1x5000_1 (V₀ m c (Proc.devRef .tc main_v12_3) : FVec Ideal S5000 .f32) := by
    rw [V₀_eq]; after_reads_simp
  rw [h, ← v12_3_at]
  generalize (V₀ m c (Proc.devRef .tc main_v12_3) : FVec Ideal S5000 .f32) = X
  pointwise []

theorem v34_at (c : Dev nD) (j : Fin 5000) : (V₀ m c (Proc.devRef .tc main_v34) : FVec Ideal S1x5000 .f32) (ix2 0 j) = boxes m c (ix2 (ord m c j) 3) := by
  have h : (V₀ m c (Proc.devRef .tc main_v34) : FVec Ideal S1x5000 .f32)
      = broadcastInDim S1x5000 ![1] bcast_S5000_S1x5000_1 (V₀ m c (Proc.devRef .tc main_v12_4) : FVec Ideal S5000 .f32) := by
    rw [V₀_eq]; after_reads_simp
  rw [h, ← v12_4_at]
  generalize (V₀ m c (Proc.devRef .tc main_v12_4) : FVec Ideal S5000 .f32) = X
  pointwise []

theorem v35_at (c : Dev nD) (j : Fin 5000) : (V₀ m c (Proc.devRef .tc main_v35) : FVec Ideal S1x5000 .f32) (ix2 0 j) = scoreAt m c (ord m c j) := by
  have h : (V₀ m c (Proc.devRef .tc main_v35) : FVec Ideal S1x5000 .f32)
      = broadcastInDim S1x5000 ![1] bcast_S5000_S1x5000_1 (V₀ m c (Proc.devRef .tc main_v13) : FVec Ideal S5000 .f32) := by
    rw [V₀_eq]; after_reads_simp
  rw [h, ← v13_at]
  generalize (V₀ m c (Proc.devRef .tc main_v13) : FVec Ideal S5000 .f32) = X
  pointwise []

theorem v36_at (c : Dev nD) (j : Fin 5000) : (V₀ m c (Proc.devRef .tc main_v36) : FVec Ideal S1x5000 .f32) (ix2 0 j) = classAt m c (ord m c j) := by
  have h : (V₀ m c (Proc.devRef .tc main_v36) : FVec Ideal S1x5000 .f32)
      = broadcastInDim S1x5000 ![1] bcast_S5000_S1x5000_1 (V₀ m c (Proc.devRef .tc main_v12_5) : FVec Ideal S5000 .f32) := by
    rw [V₀_eq]; after_reads_simp
  rw [h, ← v12_5_at]
  generalize (V₀ m c (Proc.devRef .tc main_v12_5) : FVec Ideal S5000 .f32) = X
  pointwise []

theorem v37_at (c : Dev nD) (j : Fin 5000) : (V₀ m c (Proc.devRef .tc main_v37) : FVec Ideal S1x5000 .f32) (ix2 0 j) = (1 : EReal) := by
  have h : (V₀ m c (Proc.devRef .tc main_v37) : FVec Ideal S1x5000 .f32)
      = broadcastInDim S1x5000 ![1] bcast_S5000_S1x5000_1 (broadcastInDim S5000 ![] bcast_S_S5000 (constant (F := Ideal) S_ .f32 0x3F800000#32)) := by
    rw [V₀_eq]; after_reads_simp
  rw [h]
  pointwise []

/-- The seven rows of the data. -/
def rowVal (c : Dev nD) (a : Fin 7) (k : Fin 5000) : EReal :=
  match a with
  | ⟨0, _⟩ => boxes m c (ix2 k 0)
  | ⟨1, _⟩ => boxes m c (ix2 k 1)
  | ⟨2, _⟩ => boxes m c (ix2 k 2)
  | ⟨3, _⟩ => boxes m c (ix2 k 3)
  | ⟨4, _⟩ => scoreAt m c k
  | ⟨5, _⟩ => classAt m c k
  | ⟨6, _⟩ => 1

theorem v38_at (c : Dev nD) (j : Fin 5000) (a : Fin 7) : (V₀ m c (Proc.devRef .tc main_v38) : FVec Ideal S7x5000 .f32) (ix2 a j)
    = rowVal m c a (ord m c j) := by
  have h : (V₀ m c (Proc.devRef .tc main_v38) : FVec Ideal S7x5000 .f32)
      = concatenate S7x5000 0 [⟨S1x5000, (V₀ m c (Proc.devRef .tc main_v31) : FVec Ideal S1x5000 .f32)⟩,
        ⟨S1x5000, (V₀ m c (Proc.devRef .tc main_v32) : FVec Ideal S1x5000 .f32)⟩,
        ⟨S1x5000, (V₀ m c (Proc.devRef .tc main_v33) : FVec Ideal S1x5000 .f32)⟩,
        ⟨S1x5000, (V₀ m c (Proc.devRef .tc main_v34) : FVec Ideal S1x5000 .f32)⟩,
        ⟨S1x5000, (V₀ m c (Proc.devRef .tc main_v35) : FVec Ideal S1x5000 .f32)⟩,
        ⟨S1x5000, (V₀ m c (Proc.devRef .tc main_v36) : FVec Ideal S1x5000 .f32)⟩,
        ⟨S1x5000, (V₀ m c (Proc.devRef .tc main_v37) : FVec Ideal S1x5000 .f32)⟩] concatenates_S1x5000_S1x5000_S1x5000_S1x5000_S1x5000_S1x5000_S1x5000_S7x5000_d0 := by
    have e0 : (V₀ m c (Proc.devRef .tc main_v31) : FVec Ideal S1x5000 .f32) = StableHlo.upto hostOps0 (fun b => m (c, b)) 49 (Proc.devRef .tc main_v31) := by
      rw [V₀_eq]; after_reads_simp
    have e1 : (V₀ m c (Proc.devRef .tc main_v32) : FVec Ideal S1x5000 .f32) = StableHlo.upto hostOps0 (fun b => m (c, b)) 49 (Proc.devRef .tc main_v32) := by
      rw [V₀_eq]; after_reads_simp
    have e2 : (V₀ m c (Proc.devRef .tc main_v33) : FVec Ideal S1x5000 .f32) = StableHlo.upto hostOps0 (fun b => m (c, b)) 49 (Proc.devRef .tc main_v33) := by
      rw [V₀_eq]; after_reads_simp
    have e3 : (V₀ m c (Proc.devRef .tc main_v34) : FVec Ideal S1x5000 .f32) = StableHlo.upto hostOps0 (fun b => m (c, b)) 49 (Proc.devRef .tc main_v34) := by
      rw [V₀_eq]; after_reads_simp
    have e4 : (V₀ m c (Proc.devRef .tc main_v35) : FVec Ideal S1x5000 .f32) = StableHlo.upto hostOps0 (fun b => m (c, b)) 49 (Proc.devRef .tc main_v35) := by
      rw [V₀_eq]; after_reads_simp
    have e5 : (V₀ m c (Proc.devRef .tc main_v36) : FVec Ideal S1x5000 .f32) = StableHlo.upto hostOps0 (fun b => m (c, b)) 49 (Proc.devRef .tc main_v36) := by
      rw [V₀_eq]; after_reads_simp
    have e6 : (V₀ m c (Proc.devRef .tc main_v37) : FVec Ideal S1x5000 .f32) = StableHlo.upto hostOps0 (fun b => m (c, b)) 49 (Proc.devRef .tc main_v37) := by
      rw [V₀_eq]; after_reads_simp
    rw [e0, e1, e2, e3, e4, e5, e6, V₀_eq]
    generalize hx0 : StableHlo.upto hostOps0 (fun b => m (c, b)) 49 (Proc.devRef .tc main_v31) = x0
    generalize hx1 : StableHlo.upto hostOps0 (fun b => m (c, b)) 49 (Proc.devRef .tc main_v32) = x1
    generalize hx2 : StableHlo.upto hostOps0 (fun b => m (c, b)) 49 (Proc.devRef .tc main_v33) = x2
    generalize hx3 : StableHlo.upto hostOps0 (fun b => m (c, b)) 49 (Proc.devRef .tc main_v34) = x3
    generalize hx4 : StableHlo.upto hostOps0 (fun b => m (c, b)) 49 (Proc.devRef .tc main_v35) = x4
    generalize hx5 : StableHlo.upto hostOps0 (fun b => m (c, b)) 49 (Proc.devRef .tc main_v36) = x5
    generalize hx6 : StableHlo.upto hostOps0 (fun b => m (c, b)) 49 (Proc.devRef .tc main_v37) = x6
    after_reads_simp
    subst hx0 hx1 hx2 hx3 hx4 hx5 hx6
    rfl
  rw [h]
  have h0 := v31_at m c j
  have h1 := v32_at m c j
  have h2 := v33_at m c j
  have h3 := v34_at m c j
  have h4 := v35_at m c j
  have h5 := v36_at m c j
  have h6 := v37_at m c j
  generalize (V₀ m c (Proc.devRef .tc main_v31) : FVec Ideal S1x5000 .f32) = X0 at *
  generalize (V₀ m c (Proc.devRef .tc main_v32) : FVec Ideal S1x5000 .f32) = X1 at *
  generalize (V₀ m c (Proc.devRef .tc main_v33) : FVec Ideal S1x5000 .f32) = X2 at *
  generalize (V₀ m c (Proc.devRef .tc main_v34) : FVec Ideal S1x5000 .f32) = X3 at *
  generalize (V₀ m c (Proc.devRef .tc main_v35) : FVec Ideal S1x5000 .f32) = X4 at *
  generalize (V₀ m c (Proc.devRef .tc main_v36) : FVec Ideal S1x5000 .f32) = X5 at *
  generalize (V₀ m c (Proc.devRef .tc main_v37) : FVec Ideal S1x5000 .f32) = X6 at *
  fin_vals a with ha
  · obtain rfl : a = 0 := Fin.ext ha
    refine Eq.trans ?_ h0
    pointwise []
  · obtain rfl : a = 1 := Fin.ext ha
    refine Eq.trans ?_ h1
    pointwise []
  · obtain rfl : a = 2 := Fin.ext ha
    refine Eq.trans ?_ h2
    pointwise []
  · obtain rfl : a = 3 := Fin.ext ha
    refine Eq.trans ?_ h3
    pointwise []
  · obtain rfl : a = 4 := Fin.ext ha
    refine Eq.trans ?_ h4
    pointwise []
  · obtain rfl : a = 5 := Fin.ext ha
    refine Eq.trans ?_ h5
    pointwise []
  · obtain rfl : a = 6 := Fin.ext ha
    refine Eq.trans ?_ h6
    pointwise []

theorem v42_at (c : Dev nD) (a : Fin 8) (n : Fin 5120) : (V₀ m c (Proc.devRef .tc main_v42) : FVec Ideal S8x5120 .f32) (ix2 a n)
    = if h : a.val < 7 ∧ n.val < 5000 then rowVal m c ⟨a.val, h.1⟩ (ord m c ⟨n.val, h.2⟩) else 0 := by
  obtain ⟨idx, h0, h⟩ : ∃ idx : IVec S2 32, (∀ k, idx k = 0#32) ∧ (V₀ m c (Proc.devRef .tc main_v42) : FVec Ideal S8x5120 .f32)
      = Host.scatter scatter_S8x5120_S2_S7x5000_01_n_01_0 (fun _ b => b) (broadcastInDim S8x5120 ![] bcast_S_S8x5120 (constant (F := Ideal) S_ .f32 0#32))
        idx (V₀ m c (Proc.devRef .tc main_v38) : FVec Ideal S7x5000 .f32) := by
    refine ⟨concatenate S2 0 [⟨S1, StableHlo.upto hostOps0 (fun b => m (c, b)) 54 (Proc.devRef .tc main_v39)⟩,
      ⟨S1, StableHlo.upto hostOps0 (fun b => m (c, b)) 54 (Proc.devRef .tc main_v40)⟩] concatenates_S1_S1_S2_d0, fun k => ?_, ?_⟩
    · have h39 : ∀ k : Fin 1, (StableHlo.upto hostOps0 (fun b => m (c, b)) 54 (Proc.devRef .tc main_v39) : IVec S1 32) (ix1 k) = 0#32 := fun k => by
        after_reads_simp
        pointwise []
      have h40 : ∀ k : Fin 1, (StableHlo.upto hostOps0 (fun b => m (c, b)) 54 (Proc.devRef .tc main_v40) : IVec S1 32) (ix1 k) = 0#32 := fun k => by
        after_reads_simp
        pointwise []
      generalize (StableHlo.upto hostOps0 (fun b => m (c, b)) 54 (Proc.devRef .tc main_v39) : IVec S1 32) = X at *
      generalize (StableHlo.upto hostOps0 (fun b => m (c, b)) 54 (Proc.devRef .tc main_v40) : IVec S1 32) = Y at *
      idx_vars k
      pointwise []
      split
      · exact h39 _
      · exact h40 _
    · rw [V₀_eq]
      after_reads_simp
  rw [h, set_cols _ _ h0]
  split
  · exact v38_at m c _ _
  · pointwise []

end Cert.KernelIdeal.Body
-- ==== Proof.Greedy.lean ====
/- Greedy suppression on the natural numbers, and the two ways of running it: box by box, and block by block. -/
module

public import Mathlib.Order.Basic
public import Mathlib.Tactic.Ring
public import Mathlib.Tactic.Push
public import Mathlib.Tactic.Tauto

@[expose] public section

namespace Greedy

/-- `mark ov k j`: box `j` is suppressed by one of the first `k` boxes, each of which suppresses the later boxes that it
    overlaps unless it is suppressed itself. -/
def mark (ov : ℕ → ℕ → Prop) : ℕ → ℕ → Prop
  | 0, _ => False
  | k + 1, j => mark ov k j ∨ (ov k j ∧ ¬ mark ov k k ∧ k < j)

variable {ov : ℕ → ℕ → Prop}

theorem mark_mono {k k' j : ℕ} (h : k ≤ k') (hm : mark ov k j) : mark ov k' j := by
  induction h with
  | refl => exact hm
  | step _ ih => exact .inl ih

/-- After the first `b + n` boxes: suppressed by the first `b`, or by one of the `n` behind them. -/
theorem mark_add (b n j : ℕ) :
    mark ov (b + n) j ↔ mark ov b j ∨ ∃ l < n, ov (b + l) j ∧ ¬ mark ov (b + l) (b + l) ∧ b + l < j := by
  induction n with
  | zero => simp
  | succ n ih =>
    rw [← Nat.add_assoc]
    show mark ov (b + n) j ∨ _ ↔ _
    rw [ih]
    constructor
    · rintro ((h | ⟨l, hl, h⟩) | h)
      · exact .inl h
      · exact .inr ⟨l, by omega, h⟩
      · exact .inr ⟨n, by omega, h⟩
    · rintro (h | ⟨l, hl, h⟩)
      · exact .inl (.inl h)
      · rcases Nat.lt_succ_iff_lt_or_eq.1 hl with h' | rfl
        · exact .inl (.inr ⟨l, h', h⟩)
        · exact .inr h

/-- A box is settled once its own turn has come. -/
theorem mark_settled {k j : ℕ} (h : j ≤ k) : mark ov k j ↔ mark ov j j := by
  obtain ⟨n, rfl⟩ := Nat.exists_eq_add_of_le h
  rw [mark_add]
  constructor
  · rintro (h | ⟨l, _, _, _, h⟩)
    · exact h
    · omega
  · exact .inl

/-- Boxes that overlap no later box of interest, or are suppressed already, change nothing. -/
theorem mark_skip {t j x : ℕ} (htj : t ≤ j) (h : ∀ l, t ≤ l → l < j → mark ov t l ∨ (l < x → ¬ ov l x)) :
    mark ov j x ↔ mark ov t x := by
  obtain ⟨n, rfl⟩ := Nat.exists_eq_add_of_le htj
  rw [mark_add]
  constructor
  · rintro (h' | ⟨l, hl, ho, hm, hx⟩)
    · exact h'
    · rcases h (t + l) (by omega) (by omega) with h' | h'
      · exact absurd (mark_mono (by omega) h') hm
      · exact absurd ho (h' hx)
  · exact .inl

/-- Two overlap relations that agree on the first `n` boxes suppress the same of them. -/
theorem mark_congr {ov' : ℕ → ℕ → Prop} {n : ℕ} (h : ∀ i < n, ∀ j < n, ov i j ↔ ov' i j) :
    ∀ k ≤ n, ∀ j < n, mark ov k j ↔ mark ov' k j := by
  intro k
  induction k with
  | zero => intro _ j _; exact Iff.rfl
  | succ k ih =>
    intro hk j hj
    show (_ ∨ _) ↔ (_ ∨ _)
    rw [ih (by omega) j hj, ih (by omega) k (by omega), h k (by omega) j hj]

end Greedy
-- ==== Proof.IdealGreedy.lean ====
/- The marks that the kernel's blocks leave over the extended reals are those of greedy suppression. -/
module

public import proofs.«01_k».proof.Proof.IdealPoint
public import proofs.«01_k».proof.Proof.IdealTail
public import proofs.«01_k».proof.Proof.Greedy

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Overlap (Over over_comm)
open Greedy (mark mark_add mark_mono mark_settled mark_skip)

/-! ### Inside a block -/

/-- The row of the overlap table that a trip loads. -/
theorem rowAt_at (S : Vec Ideal S128x128 .i32) (j l : Fin 128) : rowAt S (BitVec.ofNat 32 j.val) (ix2 0 l) = S (ix2 j l) := by
  unfold rowAt
  rw [dif_pos (chk_lane j)]
  refine read_rect cc0_scratch0 _ S _ (ix2 j l) fun a => ?_
  rw [congrFun (off4_eq j) a]
  match a with
  | 0 => simp
  | 1 => simp

/-- The state of a block's pass once the lanes before `t` have had their turn: the marks are those of the first `b + t`
    boxes, and the active lanes are the later ones that are not marked and that a later box of the block overlaps. -/
def Turn (ov : ℕ → ℕ → Prop) (b t : ℕ) (p : IVec S1x128 32 × IVec S1x128 32) : Prop :=
  ∀ l : Fin 128, p.1 (ix2 0 l) = bit (mark ov (b + t) (b + l.val))
    ∧ p.2 (ix2 0 l) = bit (t ≤ l.val ∧ (∃ x : Fin 128, ov (b + x.val) (b + l.val) ∧ l.val < x.val) ∧ ¬ mark ov (b + t) (b + l.val))

theorem turn_skip {ov : ℕ → ℕ → Prop} (hov : ∀ i j, ov i j ↔ ov j i) {b t j : ℕ} (htj : t ≤ j) (hj : j ≤ 128)
    (h : ∀ l : Fin 128, t ≤ l.val → l.val < j → ¬ (∃ x : Fin 128, ov (b + x.val) (b + l.val) ∧ l.val < x.val) ∨ mark ov (b + t) (b + l.val))
    (x : Fin 128) : mark ov (b + j) (b + x.val) ↔ mark ov (b + t) (b + x.val) := by
  refine mark_skip (by omega) fun l h1 h2 => ?_
  obtain ⟨l', rfl⟩ := Nat.exists_eq_add_of_le (show b ≤ l by omega)
  rcases h ⟨l', by omega⟩ (by simp; omega) (by simp; omega) with h' | h'
  · refine .inr fun hlx ho => h' ⟨x, (hov _ _).1 ho, by simp; omega⟩
  · exact .inl h'

/-- A block's pass ends with the marks of all boxes up to the block's end. -/
theorem wrun_turn (ov : ℕ → ℕ → Prop) (hov : ∀ i j, ov i j ↔ ov j i) (b : ℕ) (S : Vec Ideal S128x128 .i32)
    (hS : ∀ r c : Fin 128, S (ix2 r c) = bit (ov (b + r.val) (b + c.val))) :
    ∀ (n : ℕ) (t : ℕ) (p : IVec S1x128 32 × IVec S1x128 32), t ≤ 128 → active p.2 ≤ n → Turn ov b t p →
      ∀ l : Fin 128, (wrun (F := Ideal) S n p).1 (ix2 0 l) = bit (mark ov (b + 128) (b + l.val)) := by
  have hdone : ∀ (t : ℕ) (p : IVec S1x128 32 × IVec S1x128 32), t ≤ 128 → ¬ more p.2 → Turn ov b t p →
      ∀ l : Fin 128, p.1 (ix2 0 l) = bit (mark ov (b + 128) (b + l.val)) := by
    intro t p ht hm hp l
    rw [(hp l).1]
    refine bit_congr (turn_skip hov ht le_rfl (fun l' h1 _ => ?_) l).symm
    by_contra hc
    push Not at hc
    exact hm ((more_iff p.2).2 ⟨l', by rw [(hp l').2, bit_pos]; exact ⟨h1, hc.1, hc.2⟩⟩)
  have hflag : ∀ (t : ℕ) (p : IVec S1x128 32 × IVec S1x128 32), Turn ov b t p → ∀ l, Flag (p.2 (ix2 0 l)) := fun t p hp l => by
    rw [(hp l).2]; exact bit_flag _
  intro n
  induction n with
  | zero =>
    intro t p ht ha hp l
    exact hdone t p ht (not_more_of_active p.2 (hflag t p hp) (by omega)) hp l
  | succ n ih =>
    intro t p ht ha hp l
    rcases Classical.em (more p.2) with hm | hm
    · have hw : wrun (F := Ideal) S (n + 1) p = wrun S n (step S p) := by simp only [wrun, hm, if_true]
      rw [hw]
      obtain ⟨j, hj, hpos, hfirst⟩ := pick_spec p.2 hm
      have hact := step_active S p (hflag t p hp) hm
      rw [(hp j).2, bit_pos] at hpos
      obtain ⟨htj, hjx, hjm⟩ := hpos
      have hj128 := j.isLt
      have hsk := turn_skip hov (b := b) htj hj128.le (fun l' h1 h2 => by
        have := hfirst l' h2
        rw [(hp l').2, bit_pos] at this
        by_contra hc
        push Not at hc
        exact this ⟨h1, hc.1, hc.2⟩)
      have hfst : ∀ l : Fin 128, (step S p).1 (ix2 0 l) = bit (mark ov (b + (j.val + 1)) (b + l.val)) := by
        intro l
        rw [step_fst S p j hj l, (hp l).1, bit_ite, bit_or, rowAt_at, hS]
        refine bit_congr ?_
        rw [← Nat.add_assoc]
        show _ ↔ (mark ov (b + j.val) _ ∨ _)
        rw [hsk l, bit_pos]
        refine or_congr_right ?_
        rw [hsk j]
        constructor
        · rintro ⟨h1, h2⟩; exact ⟨h2, hjm, by omega⟩
        · rintro ⟨h1, _, h2⟩; exact ⟨by omega, h1⟩
      refine ih (j.val + 1) (step S p) (by omega) (by omega) (fun l => ⟨hfst l, ?_⟩) l
      rw [step_snd S p j hj l, hfst l, (hp l).2, bit_not, bit_ite, bit_and, bit_and]
      refine bit_congr ?_
      constructor
      · rintro ⟨⟨⟨h1, h2, h3⟩, h4⟩, h5⟩
        refine ⟨?_, h2, h4⟩
        by_contra hlt
        have hlj : l.val < j.val := by
          have : l.val ≠ j.val := fun e => h5 (Fin.ext e)
          omega
        have := hfirst l hlj
        rw [(hp l).2, bit_pos] at this
        exact this ⟨h1, h2, h3⟩
      · rintro ⟨h1, h2, h3⟩
        exact ⟨⟨⟨by omega, h2, fun h => h3 (mark_mono (by omega) h)⟩, h3⟩, fun e => by rw [e] at h1; omega⟩
    · have hw : wrun (F := Ideal) S (n + 1) p = p := by simp only [wrun, hm, if_false]
      rw [hw]
      exact hdone t p ht hm hp l

/-! ### A block -/

/-- Box `n` of the table of boxes, and whether two of them overlap. -/
def boxAt (B : Vec Ideal S5120x4 .f32) (n : ℕ) : Fin 4 → EReal := fun k => if h : n < 5120 then B (ix2 ⟨n, h⟩ k) else 0
def ovOf (B : Vec Ideal S5120x4 .f32) (i j : ℕ) : Prop := Over (boxAt B i) (boxAt B j)
theorem ovOf_comm (B : Vec Ideal S5120x4 .f32) (i j : ℕ) : ovOf B i j ↔ ovOf B j i := over_comm

theorem rows_box (i : Fin k0_t1_loop.trips) (B : Vec Ideal S5120x4 .f32) (r : Fin 128) :
    rowBox (rowsOf i B) r = boxAt B (128 * i.val + r.val) := by
  have hi : i.val < 40 := lt_of_lt_of_eq i.isLt trips_eq
  have hr := r.isLt
  have hlt : 128 * i.val + r.val < 5120 := by omega
  funext k
  unfold rowBox boxAt rowsOf
  rw [dif_pos hlt]
  refine read_rect cc0_stg0_0 _ B _ (ix2 ⟨_, hlt⟩ k) fun a => ?_
  rw [congrFun (off1_eq i) a]
  match a with
  | 0 => simp
  | 1 => simp

theorem cols_box (i : Fin k0_t1_loop.trips) (B : Vec Ideal S5120x4 .f32) (T : Vec Ideal S4x5120 .f32)
    (hT : ∀ (c : Fin 4) (n : Fin 5120), T (ix2 c n) = B (ix2 n c)) (r : Fin 128) :
    colBox (colsOf i T) r = boxAt B (128 * i.val + r.val) := by
  have hi : i.val < 40 := lt_of_lt_of_eq i.isLt trips_eq
  have hr := r.isLt
  have hlt : 128 * i.val + r.val < 5120 := by omega
  funext k
  unfold colBox boxAt colsOf
  rw [dif_pos hlt, ← hT]
  refine read_rect cc0_stg1_0 _ T _ (ix2 k ⟨_, hlt⟩) fun a => ?_
  rw [congrFun (off2_eq i) a]
  match a with
  | 0 => simp
  | 1 => simp

theorem own_at (i : Fin k0_t1_loop.trips) (f : Vec Ideal S1x5120 .i32) (l : Fin 128) (n : Fin 5120) (hn : n.val = 128 * i.val + l.val) :
    ownOf (F := Ideal) i f (ix2 0 l) = f (ix2 0 n) := by
  unfold ownOf
  refine read_rect cc0_scratch1 _ f _ (ix2 0 n) fun a => ?_
  rw [congrFun (off3_eq i) a]
  match a with
  | 0 => simp
  | 1 => simp [hn]

/-- The marks of the first `k` boxes, as the kernel holds them. -/
def Marked (ov : ℕ → ℕ → Prop) (k : ℕ) (f : Vec Ideal S1x5120 .i32) : Prop :=
  ∀ n : Fin 5120, f (ix2 0 n) = bit (mark ov k n.val)

/-- Once a block's pass has run, its own marks are settled. -/
theorem own_done (i : Fin k0_t1_loop.trips) (B : Vec Ideal S5120x4 .f32) (T : Vec Ideal S4x5120 .f32)
    (hT : ∀ (c : Fin 4) (n : Fin 5120), T (ix2 c n) = B (ix2 n c)) (f : Vec Ideal S1x5120 .i32)
    (hf : Marked (ovOf B) (128 * i.val) f) (l : Fin 128) :
    ownDone i B T f (ix2 0 l) = bit (mark (ovOf B) (128 * i.val + 128) (128 * i.val + l.val)) := by
  have hi : i.val < 40 := lt_of_lt_of_eq i.isLt trips_eq
  unfold ownDone
  refine wrun_turn (ovOf B) (ovOf_comm B) (128 * i.val) _ (fun r c => ?_) cap 0 _ (by omega) (active_le _) (fun l => ⟨?_, ?_⟩) l
  · rw [table_at, rows_box, cols_box i B T hT]; rfl
  · have hl := l.isLt
    show ownOf i f (ix2 0 l) = _
    rw [own_at i f l ⟨128 * i.val + l.val, by omega⟩ rfl, hf]; rfl
  · have hl := l.isLt
    show k0_pay21 (k0_pay18 (rowsOf i B) (colsOf i T)) (ownOf i f) (ix2 0 l) = _
    rw [act_at (k0_pay18 (rowsOf i B) (colsOf i T)) (fun r c => ovOf B (128 * i.val + r.val) (128 * i.val + c.val))
      (fun r c => by rw [over_at, rows_box, cols_box i B T hT]; rfl),
      own_at i f l ⟨128 * i.val + l.val, by omega⟩ rfl, hf, bit_eq_zero]
    refine bit_congr ?_
    simp

/-- The marks while a block's chunks run: settled to the end of the block, and further on for the columns that the
    chunks have swept. -/
def Swept (ov : ℕ → ℕ → Prop) (b m : ℕ) (f : Vec Ideal S1x5120 .i32) : Prop :=
  ∀ n : Fin 5120, f (ix2 0 n) = bit (mark ov (if n.val < b + 128 + 2048 * m then b + 128 else b) n.val)

theorem own_put (i : Fin k0_t1_loop.trips) (B : Vec Ideal S5120x4 .f32) (T : Vec Ideal S4x5120 .f32)
    (hT : ∀ (c : Fin 4) (n : Fin 5120), T (ix2 c n) = B (ix2 n c)) (f : Vec Ideal S1x5120 .i32)
    (hf : Marked (ovOf B) (128 * i.val) f) : Swept (ovOf B) (128 * i.val) 0 (ownPut i B T f) := by
  have hi : i.val < 40 := lt_of_lt_of_eq i.isLt trips_eq
  intro n
  unfold ownPut
  rw [own_put_at]
  by_cases h : 128 * i.val ≤ n.val ∧ n.val < 128 * i.val + 128
  · rw [if_pos (by omega)]
    obtain ⟨l, hl⟩ : ∃ l : Fin 128, n.val = 128 * i.val + l.val := ⟨⟨n.val - 128 * i.val, by omega⟩, by simp; omega⟩
    refine (write_rect cc0_scratch1 (k0_off3_inb i) f (ownDone i B T f) (ix2 0 l) (ix2 0 n) fun a => ?_).trans ?_
    · rw [congrFun (off3_eq i) a]
      match a with
      | 0 => simp
      | 1 => simp [hl]
    · rw [own_done i B T hT f hf, hl]
  · refine (write_rect_off cc0_scratch1 (k0_off3_inb i) f (ownDone i B T f) (ix2 0 n) 1 ?_).trans ?_
    · rw [congrFun (off3_eq i) 1]; simp; omega
    · rw [hf]
      refine bit_congr ?_
      by_cases h1 : n.val < 128 * i.val
      · rw [if_pos (by omega), mark_settled (by omega), mark_settled (k := 128 * i.val + 128) (by omega)]
      · rw [if_neg (by omega)]

/-- The marks that a chunk reads. -/
theorem cur_at (i : Fin k0_t1_loop.trips) (m : Fin (k0_t2_loop i).trips) (f : Vec Ideal S1x5120 .i32) (n : Fin 5120) (c : Fin 2048)
    (hc : n.val = min (128 * i.val + 128 + 2048 * m.val) 3072 + c.val) :
    ((mS.access (Rect.unit (s := S1x5120) (k0_off6 i m) S1x2048.size (k0_off6_inb i m)) : View sig .tc _ _ _).read (Elt Ideal) f) (ix2 0 c)
      = f (ix2 0 n) := by
  refine read_rect cc0_scratch1 _ f _ (ix2 0 n) fun a => ?_
  rw [congrFun (off6_eq i m) a]
  match a with
  | 0 => simp
  | 1 => simp [hc]

/-- The boxes that a chunk reads. -/
theorem col_box (i : Fin k0_t1_loop.trips) (m : Fin (k0_t2_loop i).trips) (B : Vec Ideal S5120x4 .f32) (T : Vec Ideal S4x5120 .f32)
    (hT : ∀ (c : Fin 4) (n : Fin 5120), T (ix2 c n) = B (ix2 n c)) (n : Fin 5120) (c : Fin 2048)
    (hc : n.val = min (128 * i.val + 128 + 2048 * m.val) 3072 + c.val) :
    colBox ((mT.access (Rect.unit (s := S4x5120) (k0_off5 i m) S4x2048.size (k0_off5_inb i m)) : View sig .tc _ _ _).read (Elt Ideal) T) c
      = boxAt B n.val := by
  funext k
  unfold colBox boxAt
  rw [dif_pos n.isLt, ← hT]
  refine read_rect cc0_stg1_0 _ T _ (ix2 k n) fun a => ?_
  rw [congrFun (off5_eq i m) a]
  match a with
  | 0 => simp
  | 1 => simp [hc]

theorem behind_word : ∀ i : Fin k0_t1_loop.trips,
    Scalar.addi (Scalar.muli (Scf.iv 0#32 1#32 i) 128#32) 128#32 = BitVec.ofNat 32 (128 * i.val + 128) := by decide
theorem chunk_word : ∀ (i : Fin k0_t1_loop.trips) (m : Fin (k0_t2_loop i).trips),
    Scalar.minsi (Scalar.addi (Scalar.addi (Scalar.muli (Scf.iv 0#32 1#32 i) 128#32) 128#32) (Scalar.muli (Scf.iv 0#32 1#32 m) 2048#32)) 3072#32
      = BitVec.ofNat 32 (min (128 * i.val + 128 + 2048 * m.val) 3072) := by decide

/-- A chunk's validity test: the column lies behind the block. -/
theorem valid_at (i : Fin k0_t1_loop.trips) (m : Fin (k0_t2_loop i).trips) (n : Fin 5120) (c : Fin 2048)
    (hc : n.val = min (128 * i.val + 128 + 2048 * m.val) 3072 + c.val) :
    (k0_pay8 (Scalar.muli (Scf.iv 0#32 1#32 i) 128#32) (ix2 0 c)).toInt
        ≤ (k0_pay7 (iota .tc S1x2048 32 [1] iota_S1x2048_d1_w32) i (Scalar.muli (Scf.iv 0#32 1#32 i) 128#32) 0#32 1#32 m (ix2 0 c)).toInt
      ↔ 128 * i.val + 128 ≤ n.val := by
  have hn := n.isLt
  have hb : k0_pay8 (Scalar.muli (Scf.iv 0#32 1#32 i) 128#32) (ix2 0 c) = BitVec.ofNat 32 (128 * i.val + 128) := behind_word i
  have hw : k0_pay7 (iota .tc S1x2048 32 [1] iota_S1x2048_d1_w32) i (Scalar.muli (Scf.iv 0#32 1#32 i) 128#32) 0#32 1#32 m (ix2 0 c)
      = BitVec.ofNat 32 n.val := by
    have h1 : iota .tc S1x2048 32 [1] iota_S1x2048_d1_w32 (ix2 0 c) = BitVec.ofNat 32 c.val := by pointwise
    show Scalar.minsi _ 3072#32 + iota .tc S1x2048 32 [1] iota_S1x2048_d1_w32 (ix2 0 c) = _
    rw [h1, chunk_word i m, hc, BitVec.ofNat_add]
  have hi : i.val < 40 := lt_of_lt_of_eq i.isLt trips_eq
  rw [hb, hw, BitVec.toInt_eq_toNat_of_lt (by simp; omega), BitVec.toInt_eq_toNat_of_lt (by simp; omega)]
  simp
  omega

/-- What a swept column gains: the marks from the kept boxes of the block, and nothing in front of the block's end. -/
theorem sweep (ov : ℕ → ℕ → Prop) (b m n cs : ℕ) (hcs : cs = min (b + 128 + 2048 * m) 3072) (h1 : cs ≤ n) (h2 : n < cs + 2048) :
    (mark ov (if n < b + 128 + 2048 * m then b + 128 else b) n
        ∨ (∃ l : Fin 128, (¬ mark ov (b + 128) (b + l.val)) ∧ ov (b + l.val) n) ∧ b + 128 ≤ n)
      ↔ mark ov (if n < b + 128 + 2048 * (m + 1) then b + 128 else b) n := by
  have hset : ∀ l : ℕ, l < 128 → (mark ov (b + 128) (b + l) ↔ mark ov (b + l) (b + l)) := fun l hl => mark_settled (by omega)
  rw [if_pos (show n < b + 128 + 2048 * (m + 1) by omega)]
  by_cases hlo : n < b + 128
  · rw [if_pos (by omega)]
    exact ⟨fun h => h.elim id fun h => absurd h.2 (by omega), .inl⟩
  have hall : mark ov (b + 128) n ↔ mark ov b n ∨ ∃ l : Fin 128, (¬ mark ov (b + 128) (b + l.val)) ∧ ov (b + l.val) n := by
    rw [mark_add]
    exact or_congr_right ⟨fun ⟨l, hl, h1, h2, h3⟩ => ⟨⟨l, hl⟩, fun h => h2 ((hset l hl).1 h), h1⟩,
      fun ⟨l, h1, h2⟩ => ⟨l.val, l.isLt, h2, fun h => h1 ((hset l.val l.isLt).2 h), by have := l.isLt; omega⟩⟩
  split
  · exact ⟨fun h => h.elim id fun h => hall.2 (.inr h.1), .inl⟩
  · rw [hall]
    exact or_congr_right ⟨fun h => h.1, fun h => ⟨h, by omega⟩⟩

/-- One chunk sweeps its columns. -/
theorem col_step (i : Fin k0_t1_loop.trips) (B : Vec Ideal S5120x4 .f32) (T : Vec Ideal S4x5120 .f32)
    (hT : ∀ (c : Fin 4) (n : Fin 5120), T (ix2 c n) = B (ix2 n c)) (kept : FVec Ideal S1x128 .f32)
    (hk : ∀ l : Fin 128, kept (ix2 0 l) = num (¬ mark (ovOf B) (128 * i.val + 128) (128 * i.val + l.val)))
    (m : Fin (k0_t2_loop i).trips) (f : Vec Ideal S1x5120 .i32) (hf : Swept (ovOf B) (128 * i.val) m.val f) :
    Swept (ovOf B) (128 * i.val) (m.val + 1) (colStep (iota .tc S1x2048 32 [1] iota_S1x2048_d1_w32) i (Scalar.muli (Scf.iv 0#32 1#32 i) 128#32)
      (k0_pay13 (rowsOf i B)) (k0_pay14 (rowsOf i B)) (k0_pay15 (rowsOf i B)) (k0_pay16 (rowsOf i B)) (k0_pay17 (rowsOf i B)) kept T m f) := by
  have hi : i.val < 40 := lt_of_lt_of_eq i.isLt trips_eq
  have hm : m.val < (5120 - 128 * i.val - 128 + 2047) / 2048 := lt_of_lt_of_eq m.isLt (trips2_eq i)
  obtain ⟨b, hb⟩ : ∃ b, b = 128 * i.val := ⟨_, rfl⟩
  obtain ⟨cs, hcs⟩ : ∃ cs, cs = min (128 * i.val + 128 + 2048 * m.val) 3072 := ⟨_, rfl⟩
  rw [← hb] at hf ⊢
  intro n
  have hn := n.isLt
  unfold colStep
  by_cases h : cs ≤ n.val ∧ n.val < cs + 2048
  · obtain ⟨c, hc⟩ : ∃ c : Fin 2048, n.val = cs + c.val := ⟨⟨n.val - cs, by omega⟩, by simp; omega⟩
    have hc2 := c.isLt
    refine (write_rect cc0_scratch1 (k0_off6_inb i m) f _ (ix2 0 c) (ix2 0 n) fun a => ?_).trans ?_
    · rw [congrFun (off6_eq i m) a]
      match a with
      | 0 => simp
      | 1 => simp [hc, hcs]
    rw [mark_at]
    have hcur := cur_at i m f n c (by rw [← hcs]; exact hc)
    have hbox := col_box i m B T hT n c (by rw [← hcs]; exact hc)
    have hvalid := valid_at i m n c (by rw [← hcs]; exact hc)
    rw [hcur, hvalid, hf, contrib_at _ kept _ hk, bit_or, hbox]
    refine bit_congr ?_
    have hto : (∃ l : Fin 128, (¬ mark (ovOf B) (128 * i.val + 128) (128 * i.val + l.val)) ∧ Over (rowBox (rowsOf i B) l) (boxAt B n.val))
        ↔ ∃ l : Fin 128, (¬ mark (ovOf B) (b + 128) (b + l.val)) ∧ ovOf B (b + l.val) n.val := by
      refine exists_congr fun l => ?_
      rw [rows_box, ← hb]; rfl
    rw [hto, ← hb]
    exact sweep (ovOf B) b m.val n.val cs (by rw [hcs, hb]) h.1 h.2
  · refine (write_rect_off cc0_scratch1 (k0_off6_inb i m) f _ (ix2 0 n) 1 ?_).trans ?_
    · rw [congrFun (off6_eq i m) 1, ← hcs]; simp; omega
    · rw [hf]
      refine bit_congr ?_
      by_cases h1 : n.val < b + 128 + 2048 * m.val
      · rw [if_pos h1, if_pos (by omega)]
      · rw [if_neg h1, if_neg (by omega)]

/-- A block settles its own boxes and marks every later box that its kept boxes overlap. -/
theorem blk_step (i : Fin k0_t1_loop.trips) (B : Vec Ideal S5120x4 .f32) (T : Vec Ideal S4x5120 .f32)
    (hT : ∀ (c : Fin 4) (n : Fin 5120), T (ix2 c n) = B (ix2 n c)) (f : Vec Ideal S1x5120 .i32)
    (hf : Marked (ovOf B) (128 * i.val) f) :
    Marked (ovOf B) (128 * (i.val + 1)) (blkStep (iota .tc S1x2048 32 [1] iota_S1x2048_d1_w32) i B T f) := by
  have hi : i.val < 40 := lt_of_lt_of_eq i.isLt trips_eq
  have key : ∀ k, k ≤ (k0_t2_loop i).trips → Swept (ovOf B) (128 * i.val) k (colAt (iota .tc S1x2048 32 [1] iota_S1x2048_d1_w32) i (Scalar.muli (Scf.iv 0#32 1#32 i) 128#32)
      (k0_pay13 (rowsOf i B)) (k0_pay14 (rowsOf i B)) (k0_pay15 (rowsOf i B))
      (k0_pay16 (rowsOf i B)) (k0_pay17 (rowsOf i B)) (k0_pay23 (F := Ideal) (ownDone i B T f)) T (ownPut i B T f) k) := by
    intro k
    induction k with
    | zero => intro _; exact own_put i B T hT f hf
    | succ k ih =>
      intro hk
      rw [colAt, dif_pos (show k < (k0_t2_loop i).trips by omega)]
      refine col_step i B T hT _ (fun l => ?_) ⟨k, by omega⟩ _ (ih (by omega))
      rw [keep_at, own_done i B T hT f hf, num_congr bit_eq_zero]
  intro n
  have hn := n.isLt
  have := key _ le_rfl n
  unfold blkStep
  rw [this]
  refine bit_congr ?_
  rw [trips2_eq, if_pos (by omega)]
  rfl

/-- After `k` blocks the marks are those of the first `128 k` boxes. -/
theorem sup_marked (B : Vec Ideal S5120x4 .f32) (T : Vec Ideal S4x5120 .f32)
    (hT : ∀ (c : Fin 4) (n : Fin 5120), T (ix2 c n) = B (ix2 n c)) :
    ∀ k, k ≤ k0_t1_loop.trips → Marked (ovOf B) (128 * k) (supAt B T k) := by
  intro k
  induction k with
  | zero =>
    intro _ n
    have : k0_pay24 (ix2 0 n) = 0#32 := by pointwise [k0_pay24]
    rw [supAt, this]
    exact (bit_eq_zero.2 (fun h => h)).symm
  | succ k ih =>
    intro hk
    rw [supAt, dif_pos (show k < k0_t1_loop.trips by omega)]
    exact blk_step ⟨k, by omega⟩ B T hT _ (ih (by omega))

/-- The kernel's marks: box `n` is marked exactly if greedy suppression suppresses it. -/
theorem sup_final (B : Vec Ideal S5120x4 .f32) (T : Vec Ideal S4x5120 .f32)
    (hT : ∀ (c : Fin 4) (n : Fin 5120), T (ix2 c n) = B (ix2 n c)) (n : Fin 5120) :
    supAt B T k0_t1_loop.trips (ix2 0 n) = bit (mark (ovOf B) n.val n.val) := by
  have hn := n.isLt
  rw [sup_marked B T hT _ le_rfl n, trips_eq]
  exact bit_congr (mark_settled (by omega))

end Cert.KernelIdeal.Body

end
-- ==== Proof.IdealSlots.lean ====
/- The kernel's slots over the extended reals, and what its closing products pick. -/
module

public import proofs.«01_k».proof.Proof.IdealGreedy
public import proofs.«01_k».proof.Proof.Counting
public import Idealize.ShloMosaic.Lib.Pipeline.ValueKit.Tiles

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

/-! ### Forty rows of 128 -/

theorem slice_piece (v : FVec Ideal S1x5120 .f32) (o k : ℕ) (ho : o = 128 * k) (hs : S1x5120.Slices ![0, o] S1x128)
    (r : Fin 40) (l : Fin 128) (n : Fin 5120) (hn : n.val = 128 * r.val + l.val) :
    PieceAt (t := S40x128) 0 (ix2 r l) (v (ix2 0 n)) S1x128 (extractStridedSlice S1x128 ![0, o] v hs) k := by
  intro hk hr i h0 h1
  have hk' : r.val = k := hk
  have hi0 : i 0 = (0 : Fin 1) := Subsingleton.elim (α := Fin 1) _ _
  have hi1 : (i 1).val = l.val := h1 1 (by decide)
  unfold extractStridedSlice
  refine congrArg v (funext fun a => Fin.ext ?_)
  match a with
  | 0 => show 0 + (i 0).val = 0; rw [hi0]; rfl
  | 1 => show o + (i 1).val = n.val; rw [hi1, hn, ho, hk']

theorem supp_rows (v : FVec Ideal S1x5120 .f32) (r : Fin 40) (l : Fin 128) (n : Fin 5120) (hn : n.val = 128 * r.val + l.val) :
    k0_pay53 v (ix2 r l) = v (ix2 0 n) := by
  unfold k0_pay53
  refine concatenate_unit_eq (t := S40x128) 0 _ _ (ix2 r l) _ rfl ?_
  refine ⟨slice_piece v 0 0 rfl slices_S1x5120_o0_0_S1x128 r l n hn, slice_piece v 128 1 rfl slices_S1x5120_o0_128_S1x128 r l n hn, slice_piece v 256 2 rfl slices_S1x5120_o0_256_S1x128 r l n hn, slice_piece v 384 3 rfl slices_S1x5120_o0_384_S1x128 r l n hn, slice_piece v 512 4 rfl slices_S1x5120_o0_512_S1x128 r l n hn, slice_piece v 640 5 rfl slices_S1x5120_o0_640_S1x128 r l n hn, slice_piece v 768 6 rfl slices_S1x5120_o0_768_S1x128 r l n hn, slice_piece v 896 7 rfl slices_S1x5120_o0_896_S1x128 r l n hn, slice_piece v 1024 8 rfl slices_S1x5120_o0_1024_S1x128 r l n hn, slice_piece v 1152 9 rfl slices_S1x5120_o0_1152_S1x128 r l n hn, slice_piece v 1280 10 rfl slices_S1x5120_o0_1280_S1x128 r l n hn, slice_piece v 1408 11 rfl slices_S1x5120_o0_1408_S1x128 r l n hn, slice_piece v 1536 12 rfl slices_S1x5120_o0_1536_S1x128 r l n hn, slice_piece v 1664 13 rfl slices_S1x5120_o0_1664_S1x128 r l n hn, slice_piece v 1792 14 rfl slices_S1x5120_o0_1792_S1x128 r l n hn, slice_piece v 1920 15 rfl slices_S1x5120_o0_1920_S1x128 r l n hn, slice_piece v 2048 16 rfl slices_S1x5120_o0_2048_S1x128 r l n hn, slice_piece v 2176 17 rfl slices_S1x5120_o0_2176_S1x128 r l n hn, slice_piece v 2304 18 rfl slices_S1x5120_o0_2304_S1x128 r l n hn, slice_piece v 2432 19 rfl slices_S1x5120_o0_2432_S1x128 r l n hn, slice_piece v 2560 20 rfl slices_S1x5120_o0_2560_S1x128 r l n hn, slice_piece v 2688 21 rfl slices_S1x5120_o0_2688_S1x128 r l n hn, slice_piece v 2816 22 rfl slices_S1x5120_o0_2816_S1x128 r l n hn, slice_piece v 2944 23 rfl slices_S1x5120_o0_2944_S1x128 r l n hn, slice_piece v 3072 24 rfl slices_S1x5120_o0_3072_S1x128 r l n hn, slice_piece v 3200 25 rfl slices_S1x5120_o0_3200_S1x128 r l n hn, slice_piece v 3328 26 rfl slices_S1x5120_o0_3328_S1x128 r l n hn, slice_piece v 3456 27 rfl slices_S1x5120_o0_3456_S1x128 r l n hn, slice_piece v 3584 28 rfl slices_S1x5120_o0_3584_S1x128 r l n hn, slice_piece v 3712 29 rfl slices_S1x5120_o0_3712_S1x128 r l n hn, slice_piece v 3840 30 rfl slices_S1x5120_o0_3840_S1x128 r l n hn, slice_piece v 3968 31 rfl slices_S1x5120_o0_3968_S1x128 r l n hn, slice_piece v 4096 32 rfl slices_S1x5120_o0_4096_S1x128 r l n hn, slice_piece v 4224 33 rfl slices_S1x5120_o0_4224_S1x128 r l n hn, slice_piece v 4352 34 rfl slices_S1x5120_o0_4352_S1x128 r l n hn, slice_piece v 4480 35 rfl slices_S1x5120_o0_4480_S1x128 r l n hn, slice_piece v 4608 36 rfl slices_S1x5120_o0_4608_S1x128 r l n hn, slice_piece v 4736 37 rfl slices_S1x5120_o0_4736_S1x128 r l n hn, slice_piece v 4864 38 rfl slices_S1x5120_o0_4864_S1x128 r l n hn, slice_piece v 4992 39 rfl slices_S1x5120_o0_4992_S1x128 r l n hn, trivial⟩

theorem kept_rows (s : Vec Ideal S1x5120 .i32) (d : Vec Ideal S1x5120 .f32) (r : Fin 40) (l : Fin 128) (n : Fin 5120)
    (hn : n.val = 128 * r.val + l.val) : keptT s d (ix2 r l) = k0_pay28 s d (ix2 0 n) := by
  unfold keptT k0_pay52 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51
  refine concatenate_unit_eq (t := S40x128) 0 _ _ (ix2 r l) _ rfl ?_
  refine ⟨slice_piece (k0_pay28 s d) 0 0 rfl slices_S1x5120_o0_0_S1x128 r l n hn, slice_piece (k0_pay28 s d) 128 1 rfl slices_S1x5120_o0_128_S1x128 r l n hn, slice_piece (k0_pay28 s d) 256 2 rfl slices_S1x5120_o0_256_S1x128 r l n hn, slice_piece (k0_pay28 s d) 384 3 rfl slices_S1x5120_o0_384_S1x128 r l n hn, slice_piece (k0_pay28 s d) 512 4 rfl slices_S1x5120_o0_512_S1x128 r l n hn, slice_piece (k0_pay28 s d) 640 5 rfl slices_S1x5120_o0_640_S1x128 r l n hn, slice_piece (k0_pay28 s d) 768 6 rfl slices_S1x5120_o0_768_S1x128 r l n hn, slice_piece (k0_pay28 s d) 896 7 rfl slices_S1x5120_o0_896_S1x128 r l n hn, slice_piece (k0_pay28 s d) 1024 8 rfl slices_S1x5120_o0_1024_S1x128 r l n hn, slice_piece (k0_pay28 s d) 1152 9 rfl slices_S1x5120_o0_1152_S1x128 r l n hn, slice_piece (k0_pay28 s d) 1280 10 rfl slices_S1x5120_o0_1280_S1x128 r l n hn, slice_piece (k0_pay28 s d) 1408 11 rfl slices_S1x5120_o0_1408_S1x128 r l n hn, slice_piece (k0_pay28 s d) 1536 12 rfl slices_S1x5120_o0_1536_S1x128 r l n hn, slice_piece (k0_pay28 s d) 1664 13 rfl slices_S1x5120_o0_1664_S1x128 r l n hn, slice_piece (k0_pay28 s d) 1792 14 rfl slices_S1x5120_o0_1792_S1x128 r l n hn, slice_piece (k0_pay28 s d) 1920 15 rfl slices_S1x5120_o0_1920_S1x128 r l n hn, slice_piece (k0_pay28 s d) 2048 16 rfl slices_S1x5120_o0_2048_S1x128 r l n hn, slice_piece (k0_pay28 s d) 2176 17 rfl slices_S1x5120_o0_2176_S1x128 r l n hn, slice_piece (k0_pay28 s d) 2304 18 rfl slices_S1x5120_o0_2304_S1x128 r l n hn, slice_piece (k0_pay28 s d) 2432 19 rfl slices_S1x5120_o0_2432_S1x128 r l n hn, slice_piece (k0_pay28 s d) 2560 20 rfl slices_S1x5120_o0_2560_S1x128 r l n hn, slice_piece (k0_pay28 s d) 2688 21 rfl slices_S1x5120_o0_2688_S1x128 r l n hn, slice_piece (k0_pay28 s d) 2816 22 rfl slices_S1x5120_o0_2816_S1x128 r l n hn, slice_piece (k0_pay28 s d) 2944 23 rfl slices_S1x5120_o0_2944_S1x128 r l n hn, slice_piece (k0_pay28 s d) 3072 24 rfl slices_S1x5120_o0_3072_S1x128 r l n hn, slice_piece (k0_pay28 s d) 3200 25 rfl slices_S1x5120_o0_3200_S1x128 r l n hn, slice_piece (k0_pay28 s d) 3328 26 rfl slices_S1x5120_o0_3328_S1x128 r l n hn, slice_piece (k0_pay28 s d) 3456 27 rfl slices_S1x5120_o0_3456_S1x128 r l n hn, slice_piece (k0_pay28 s d) 3584 28 rfl slices_S1x5120_o0_3584_S1x128 r l n hn, slice_piece (k0_pay28 s d) 3712 29 rfl slices_S1x5120_o0_3712_S1x128 r l n hn, slice_piece (k0_pay28 s d) 3840 30 rfl slices_S1x5120_o0_3840_S1x128 r l n hn, slice_piece (k0_pay28 s d) 3968 31 rfl slices_S1x5120_o0_3968_S1x128 r l n hn, slice_piece (k0_pay28 s d) 4096 32 rfl slices_S1x5120_o0_4096_S1x128 r l n hn, slice_piece (k0_pay28 s d) 4224 33 rfl slices_S1x5120_o0_4224_S1x128 r l n hn, slice_piece (k0_pay28 s d) 4352 34 rfl slices_S1x5120_o0_4352_S1x128 r l n hn, slice_piece (k0_pay28 s d) 4480 35 rfl slices_S1x5120_o0_4480_S1x128 r l n hn, slice_piece (k0_pay28 s d) 4608 36 rfl slices_S1x5120_o0_4608_S1x128 r l n hn, slice_piece (k0_pay28 s d) 4736 37 rfl slices_S1x5120_o0_4736_S1x128 r l n hn, slice_piece (k0_pay28 s d) 4864 38 rfl slices_S1x5120_o0_4864_S1x128 r l n hn, slice_piece (k0_pay28 s d) 4992 39 rfl slices_S1x5120_o0_4992_S1x128 r l n hn, trivial⟩

/-- The kept boxes, as the numbers 0 and 1. -/
theorem kept_at (s : Vec Ideal S1x5120 .i32) (d : Vec Ideal S1x5120 .f32) (n : Fin 5120) (p : Prop) (h : s (ix2 0 n) = bit p) :
    k0_pay28 s d (ix2 0 n) = num (¬ p ∧ 0 < d (ix2 0 n)) := by
  pointwise [k0_pay28, k0_pay27]
  rw [eq_word, h, b1_decide, b1_and, b1_word, num_sitofp, num_congr (and_congr_left' bit_eq_zero)]

/-- The suppressed boxes, as the numbers 0 and 1. -/
theorem supp_at (s : Vec Ideal S1x5120 .i32) (d : Vec Ideal S1x5120 .f32) (n : Fin 5120) (p : Prop) (h : s (ix2 0 n) = bit p) :
    k0_pay29 s d (ix2 0 n) = num (p ∧ 0 < d (ix2 0 n)) := by
  pointwise [k0_pay29, k0_pay27]
  rw [WordCmp.cmpi_sgt_eq, h, b1_decide, b1_decide, b1_and, b1_word, num_sitofp]
  exact num_congr (and_congr_left' bit_pos)

/-! ### The slots -/

theorem le_lane (a b : ℕ) (ha : a < 2 ^ 31) (hb : b < 2 ^ 31) : IntOp.cmpi .sle (BitVec.ofNat 32 a) (BitVec.ofNat 32 b) = b1 (a ≤ b) := by
  rw [WordCmp.cmpi_sle_ofNat (by simpa using ha) (by simpa using hb), b1_decide]
theorem lt_lane (a b : ℕ) (ha : a < 2 ^ 31) (hb : b < 2 ^ 31) : IntOp.cmpi .slt (BitVec.ofNat 32 a) (BitVec.ofNat 32 b) = b1 (a < b) := by
  rw [WordCmp.cmpi_slt_ofNat (by simpa using ha) (by simpa using hb), b1_decide]

/-- Forty rows of flags. -/
def Flags (p : ℕ → Prop) (u : FVec Ideal S40x128 .f32) : Prop := ∀ (r : Fin 40) (l : Fin 128), u (ix2 r l) = num (p (128 * r.val + l.val))

theorem lanes_sum (p : ℕ → Prop) (u : FVec Ideal S40x128 .f32) (hu : Flags p u) (r : Fin 40) (l : ℕ) (hl : l < 128) :
    ∑ x : Fin 128, u (ix2 r x) * (FloatOps.sitofp FTy.f32 (BitVec.setWidth 32 (IntOp.cmpi CmpIPredicate.sle (BitVec.ofNat 32 x.val) (BitVec.ofNat 32 l))) : Ideal .f32)
      = ∑ x : Fin 128, num (p (128 * r.val + x.val) ∧ x.val ≤ l) := by
  refine Finset.sum_congr rfl fun x _ => ?_
  have := x.isLt
  rw [le_lane _ _ (by omega) (by omega), b1_word, num_sitofp, hu, num_mul]

theorem rows_sum (p : ℕ → Prop) (u : FVec Ideal S40x128 .f32) (hu : Flags p u) (r : Fin 40) :
    ∑ x : Fin 40, (FloatOps.sitofp FTy.f32 (BitVec.setWidth 32 (IntOp.cmpi CmpIPredicate.slt (BitVec.ofNat 32 x.val) (BitVec.ofNat 32 r.val))) : Ideal .f32)
        * ∑ y : Fin 128, u (ix2 x y) * (FloatOps.sitofp FTy.f32 (BitVec.setWidth 32 (IntOp.cmpi CmpIPredicate.sle (BitVec.ofNat 32 y.val) 127#32)) : Ideal .f32)
      = nat (cnt p (128 * r.val)) := by
  have hr := r.isLt
  have h := sum_rows p (fun x => ∑ y : Fin 128, num (p (128 * x + y.val) ∧ y.val ≤ 127))
    (fun r => by rw [sum_row p (128 * r) 127 128 (by omega), Nat.mul_succ]) r.val 40
  rw [show min 40 r.val = r.val by omega] at h
  rw [← h]
  refine Finset.sum_congr rfl fun x _ => ?_
  have := x.isLt
  rw [lt_lane _ _ (by omega) (by omega), b1_word, num_sitofp]
  exact congrArg _ (lanes_sum p u hu x 127 (by omega))

theorem all_sum (p : ℕ → Prop) (u : FVec Ideal S40x128 .f32) (hu : Flags p u) :
    ∑ x : Fin 40, ∑ y : Fin 128, u (ix2 x y) = nat (cnt p 5120) := by
  have h := sum_all p (fun x => ∑ y : Fin 128, num (p (128 * x + y.val) ∧ y.val ≤ 127))
    (fun r => by rw [sum_row p (128 * r) 127 128 (by omega), Nat.mul_succ]) 40
  rw [show 128 * 40 = 5120 from rfl] at h
  rw [← h]
  refine Finset.sum_congr rfl fun x _ => Finset.sum_congr rfl fun y _ => ?_
  have := y.isLt
  rw [hu]
  exact num_congr ⟨fun h => ⟨h, by omega⟩, fun h => h.1⟩

theorem before_sum (p : ℕ → Prop) (u : FVec Ideal S40x128 .f32) (hu : Flags p u) (r : Fin 40) (l : Fin 128) :
    ∑ x : Fin 128, u (ix2 r x) * (FloatOps.sitofp FTy.f32 (BitVec.setWidth 32 (IntOp.cmpi CmpIPredicate.sle (BitVec.ofNat 32 x.val) (BitVec.ofNat 32 l.val))) : Ideal .f32)
      + ∑ x : Fin 40, (FloatOps.sitofp FTy.f32 (BitVec.setWidth 32 (IntOp.cmpi CmpIPredicate.slt (BitVec.ofNat 32 x.val) (BitVec.ofNat 32 r.val))) : Ideal .f32)
        * ∑ y : Fin 128, u (ix2 x y) * (FloatOps.sitofp FTy.f32 (BitVec.setWidth 32 (IntOp.cmpi CmpIPredicate.sle (BitVec.ofNat 32 y.val) 127#32)) : Ideal .f32)
      - u (ix2 r l)
      = nat (cnt p (128 * r.val + l.val)) := by
  rw [rows_sum p u hu r, lanes_sum p u hu r l.val l.isLt, add_comm, sum_row p _ l.val 128 l.isLt, hu]
  exact nat_sub_num p _

open Classical in
/-- The place that box `n` takes in the result: the kept boxes in order, then the suppressed ones, and for padding a
    number behind all places. -/
def place (K S : ℕ → Prop) (n : ℕ) : EReal :=
  if K n then nat (cnt K n) else if S n then nat (cnt K 5120 + cnt S n) else Ideal.ofBits FTy.f32 1273291200#32

set_option maxHeartbeats 1000000 in
theorem slots_at (K S : ℕ → Prop) (u v : FVec Ideal S40x128 .f32) (hu : Flags K u) (hv : Flags S v) (r : Fin 40) (l : Fin 128) :
    k0_pay54 u v (ix2 r l) = place K S (128 * r.val + l.val) := by
  pointwise [k0_pay54]
  rw [before_sum K u hu, before_sum S v hv, all_sum K u hu, b1_decide, b1_decide, b1_or, hu, hv]
  unfold place
  by_cases hK : K (128 * r.val + l.val)
  · rw [if_pos (num_pos.2 hK), if_pos hK, (b1_one _).2 (.inl (num_pos.2 hK))]; rfl
  · rw [if_neg (fun h => hK (num_pos.1 h)), if_neg hK, ← nat_add]
    by_cases hS : S (128 * r.val + l.val)
    · rw [if_pos hS, (b1_one _).2 (.inr (num_pos.2 hS))]; rfl
    · rw [if_neg hS, b1_congr (q := False) ⟨fun h => h.elim (fun h => hK (num_pos.1 h)) fun h => hS (num_pos.1 h), fun h => h.elim⟩]
      simp [b1, Scalar.select]

/-! ### The closing products -/

/-- Column `n` of the data, row `a`. -/
def dataAt (D : Vec Ideal S8x5120 .f32) (a : Fin 8) (n : ℕ) : EReal := if h : n < 5120 then D (ix2 a ⟨n, h⟩) else 0

/-- What block `r` of the data adds to entry `(a, k)` of the result. -/
def term (s : FVec Ideal S40x128 .f32) (D : Vec Ideal S8x5120 .f32) (a : Fin 8) (k : ℕ) (r : ℕ) : EReal :=
  ∑ x : Fin 128, dataAt D a (128 * r + x.val) * num (s (ix2 (Fin.ofNat 40 r) x) = nat k)

theorem dcol_at (o r : ℕ) (ho : o = 128 * r) (hr : r < 40) (h : ∀ a, (![0, o] : Fin 2 → ℕ) a + S8x128.size a ≤ S8x5120.size a)
    (D : Vec Ideal S8x5120 .f32) (a : Fin 8) (x : Fin 128) : dcol (F := Ideal) o h D (ix2 a x) = dataAt D a (128 * r + x.val) := by
  have hx := x.isLt
  have hlt : 128 * r + x.val < 5120 := by omega
  unfold dcol dataAt
  rw [dif_pos hlt]
  refine read_rect cc0_stg2_0 _ D _ (ix2 a ⟨_, hlt⟩) fun c => ?_
  match c with
  | 0 => simp
  | 1 => simp [ho]

theorem sitofp_lane (k : ℕ) (hk : k < 2 ^ 31) : (FloatOps.sitofp FTy.f32 (BitVec.ofNat 32 k) : Ideal .f32) = nat k := by
  show (((BitVec.ofNat 32 k).toInt : ℝ) : EReal) = nat k
  have e : (BitVec.ofNat 32 k).toNat = k := by rw [BitVec.toNat_ofNat]; exact Nat.mod_eq_of_lt (by omega)
  rw [BitVec.toInt_eq_toNat_of_lt (by rw [e]; omega), e]
  rfl

theorem dot_term (o r : ℕ) (q : Fin 40) (ho : o = 128 * r) (hr : r < 40) (hq : q = Fin.ofNat 40 r) (h : ∀ a, (![0, o] : Fin 2 → ℕ) a + S8x128.size a ≤ S8x5120.size a)
    (s : FVec Ideal S40x128 .f32) (D : Vec Ideal S8x5120 .f32) (a : Fin 8) (k : Fin 128) :
    ∑ x : Fin 128, dcol (F := Ideal) o h D (ix2 a x) * (FloatOps.sitofp FTy.f32 (BitVec.setWidth 32
        (BitVec.ofBool (decide (s (ix2 q x) = FloatOps.sitofp FTy.f32 (BitVec.ofNat 32 k.val))))) : Ideal .f32)
      = term s D a k.val r := by
  refine Finset.sum_congr rfl fun x _ => ?_
  have := k.isLt
  rw [dcol_at o r ho hr, b1_decide, b1_word, num_sitofp, sitofp_lane _ (by omega), hq]

theorem acc8_at (u v : FVec Ideal S40x128 .f32) (D : Vec Ideal S8x5120 .f32) (a : Fin 8) (k : Fin 128) :
    acc8 u v D (ix2 a k) = ∑ r ∈ Finset.range 5, term (k0_pay54 u v) D a k.val r := by
  unfold acc8
  pointwise [k0_pay59, k0_pay57, k0_pay58, k0_pay56, k0_pay55]
  rw [dot_term 0 0 0 rfl (by omega) rfl, dot_term 128 1 1 rfl (by omega) rfl, dot_term 256 2 2 rfl (by omega) rfl, dot_term 384 3 3 rfl (by omega) rfl, dot_term 512 4 4 rfl (by omega) rfl]
  simp only [Finset.sum_range_succ, Finset.sum_range_zero, zero_add]

theorem acc9_at (u v : FVec Ideal S40x128 .f32) (D : Vec Ideal S8x5120 .f32) (a : Fin 8) (k : Fin 128) :
    acc9 u v D (ix2 a k) = ∑ r ∈ Finset.range 10, term (k0_pay54 u v) D a k.val r := by
  unfold acc9
  pointwise [k0_pay62, k0_pay60, k0_pay61, k0_pay55]
  rw [dot_term 640 5 5 rfl (by omega) rfl, dot_term 768 6 6 rfl (by omega) rfl, dot_term 896 7 7 rfl (by omega) rfl, dot_term 1024 8 8 rfl (by omega) rfl, dot_term 1152 9 9 rfl (by omega) rfl, acc8_at]
  simp only [Finset.sum_range_succ, Finset.sum_range_zero, zero_add]

theorem acc10_at (u v : FVec Ideal S40x128 .f32) (D : Vec Ideal S8x5120 .f32) (a : Fin 8) (k : Fin 128) :
    acc10 u v D (ix2 a k) = ∑ r ∈ Finset.range 15, term (k0_pay54 u v) D a k.val r := by
  unfold acc10
  pointwise [k0_pay65, k0_pay63, k0_pay64, k0_pay55]
  rw [dot_term 1280 10 10 rfl (by omega) rfl, dot_term 1408 11 11 rfl (by omega) rfl, dot_term 1536 12 12 rfl (by omega) rfl, dot_term 1664 13 13 rfl (by omega) rfl, dot_term 1792 14 14 rfl (by omega) rfl, acc9_at]
  simp only [Finset.sum_range_succ, Finset.sum_range_zero, zero_add]

theorem acc11_at (u v : FVec Ideal S40x128 .f32) (D : Vec Ideal S8x5120 .f32) (a : Fin 8) (k : Fin 128) :
    acc11 u v D (ix2 a k) = ∑ r ∈ Finset.range 20, term (k0_pay54 u v) D a k.val r := by
  unfold acc11
  pointwise [k0_pay68, k0_pay66, k0_pay67, k0_pay55]
  rw [dot_term 1920 15 15 rfl (by omega) rfl, dot_term 2048 16 16 rfl (by omega) rfl, dot_term 2176 17 17 rfl (by omega) rfl, dot_term 2304 18 18 rfl (by omega) rfl, dot_term 2432 19 19 rfl (by omega) rfl, acc10_at]
  simp only [Finset.sum_range_succ, Finset.sum_range_zero, zero_add]

theorem acc12_at (u v : FVec Ideal S40x128 .f32) (D : Vec Ideal S8x5120 .f32) (a : Fin 8) (k : Fin 128) :
    acc12 u v D (ix2 a k) = ∑ r ∈ Finset.range 25, term (k0_pay54 u v) D a k.val r := by
  unfold acc12
  pointwise [k0_pay71, k0_pay69, k0_pay70, k0_pay55]
  rw [dot_term 2560 20 20 rfl (by omega) rfl, dot_term 2688 21 21 rfl (by omega) rfl, dot_term 2816 22 22 rfl (by omega) rfl, dot_term 2944 23 23 rfl (by omega) rfl, dot_term 3072 24 24 rfl (by omega) rfl, acc11_at]
  simp only [Finset.sum_range_succ, Finset.sum_range_zero, zero_add]

theorem acc13_at (u v : FVec Ideal S40x128 .f32) (D : Vec Ideal S8x5120 .f32) (a : Fin 8) (k : Fin 128) :
    acc13 u v D (ix2 a k) = ∑ r ∈ Finset.range 30, term (k0_pay54 u v) D a k.val r := by
  unfold acc13
  pointwise [k0_pay74, k0_pay72, k0_pay73, k0_pay55]
  rw [dot_term 3200 25 25 rfl (by omega) rfl, dot_term 3328 26 26 rfl (by omega) rfl, dot_term 3456 27 27 rfl (by omega) rfl, dot_term 3584 28 28 rfl (by omega) rfl, dot_term 3712 29 29 rfl (by omega) rfl, acc12_at]
  simp only [Finset.sum_range_succ, Finset.sum_range_zero, zero_add]

theorem acc14_at (u v : FVec Ideal S40x128 .f32) (D : Vec Ideal S8x5120 .f32) (a : Fin 8) (k : Fin 128) :
    acc14 u v D (ix2 a k) = ∑ r ∈ Finset.range 35, term (k0_pay54 u v) D a k.val r := by
  unfold acc14
  pointwise [k0_pay77, k0_pay75, k0_pay76, k0_pay55]
  rw [dot_term 3840 30 30 rfl (by omega) rfl, dot_term 3968 31 31 rfl (by omega) rfl, dot_term 4096 32 32 rfl (by omega) rfl, dot_term 4224 33 33 rfl (by omega) rfl, dot_term 4352 34 34 rfl (by omega) rfl, acc13_at]
  simp only [Finset.sum_range_succ, Finset.sum_range_zero, zero_add]

theorem acc15_at (u v : FVec Ideal S40x128 .f32) (D : Vec Ideal S8x5120 .f32) (a : Fin 8) (k : Fin 128) :
    acc15 u v D (ix2 a k) = ∑ r ∈ Finset.range 39, term (k0_pay54 u v) D a k.val r := by
  unfold acc15
  pointwise [k0_pay80, k0_pay78, k0_pay79, k0_pay55]
  rw [dot_term 4480 35 35 rfl (by omega) rfl, dot_term 4608 36 36 rfl (by omega) rfl, dot_term 4736 37 37 rfl (by omega) rfl, dot_term 4864 38 38 rfl (by omega) rfl, acc14_at]
  simp only [Finset.sum_range_succ, Finset.sum_range_zero, zero_add]

/-- The kernel's result: the blocks of the data, each multiplied by the flags of its boxes' places. -/
theorem out_at (u v : FVec Ideal S40x128 .f32) (D : Vec Ideal S8x5120 .f32) (a : Fin 8) (k : Fin 128) :
    outOf u v D (ix2 a k) = ∑ r ∈ Finset.range 40, term (k0_pay54 u v) D a k.val r := by
  unfold outOf
  pointwise [k0_pay1, k0_pay81, k0_pay55]
  rw [dot_term 4992 39 39 rfl (by omega) rfl, acc15_at]
  exact (Finset.sum_range_succ _ 39).symm

/-- Where exactly one box takes place `k`, the result's column `k` is that box's column of the data. -/
theorem out_pick (K S : ℕ → Prop) (u v : FVec Ideal S40x128 .f32) (hu : Flags K u) (hv : Flags S v) (D : Vec Ideal S8x5120 .f32)
    (a : Fin 8) (k : Fin 128) (t : Fin 5120) (ht : ∀ n, n < 5120 → (place K S n = nat k.val ↔ n = t.val)) :
    outOf u v D (ix2 a k) = D (ix2 a t) := by
  have ht' := t.isLt
  have hterm : ∀ r, r < 40 → term (k0_pay54 u v) D a k.val r
      = ∑ x : Fin 128, dataAt D a (128 * r + x.val) * num (128 * r + x.val = t.val) := fun r hr => by
    refine Finset.sum_congr rfl fun x _ => ?_
    have := x.isLt
    rw [slots_at K S u v hu hv]
    refine congrArg _ (num_congr ?_)
    rw [show (Fin.ofNat 40 r).val = r from Nat.mod_eq_of_lt hr, ht _ (by omega)]
  rw [out_at, Finset.sum_eq_single (t.val / 128)]
  · rw [hterm _ (by omega), Finset.sum_eq_single (⟨t.val % 128, by omega⟩ : Fin 128)]
    · have e : 128 * (t.val / 128) + t.val % 128 = t.val := by omega
      simp only [e]
      unfold dataAt
      rw [dif_pos ht', show num True = 1 by simp [num], mul_one]
    · intro x _ hx
      rw [num_congr (q := False) ⟨fun h => hx (Fin.ext (by simp; omega)), fun h => h.elim⟩]
      simp [num]
    · intro h; simp at h
  · intro r hr hne
    rw [hterm r (by simpa using hr)]
    refine Finset.sum_eq_zero fun x _ => ?_
    have := x.isLt
    rw [num_congr (q := False) ⟨fun h => hne (by omega), fun h => h.elim⟩]
    simp [num]
  · intro h; exact absurd (Finset.mem_range.2 (by omega)) h

/-! ### The body -/

theorem marks_of (f : Vec Ideal S1x5120 .i32) (n : Fin 5120) : marksOf (F := Ideal) f (ix2 0 n) = f (ix2 0 n) := by
  unfold marksOf
  refine read_rect cc0_scratch1 _ f _ (ix2 0 n) fun c => ?_
  match c with
  | 0 => simp
  | 1 => simp
theorem real_of (D : Vec Ideal S8x5120 .f32) (n : Fin 5120) : realOf (F := Ideal) D (ix2 0 n) = D (ix2 6 n) := by
  unfold realOf
  refine read_rect cc0_stg2_0 _ D _ (ix2 6 n) fun c => ?_
  match c with
  | 0 => simp
  | 1 => simp

/-- Box `n` is one of the boxes, not padding, and greedy suppression keeps it, or suppresses it. -/
def Keeps (B : Vec Ideal S5120x4 .f32) (D : Vec Ideal S8x5120 .f32) (n : ℕ) : Prop := ¬ Greedy.mark (ovOf B) n n ∧ 0 < dataAt D 6 n
def Drops (B : Vec Ideal S5120x4 .f32) (D : Vec Ideal S8x5120 .f32) (n : ℕ) : Prop := Greedy.mark (ovOf B) n n ∧ 0 < dataAt D 6 n

/-- The kernel's result, column by column: the box whose place the column is. -/
theorem body_pick (B : Vec Ideal S5120x4 .f32) (T : Vec Ideal S4x5120 .f32) (D : Vec Ideal S8x5120 .f32)
    (hT : ∀ (c : Fin 4) (n : Fin 5120), T (ix2 c n) = B (ix2 n c)) (a : Fin 8) (k : Fin 128) (t : Fin 5120)
    (ht : ∀ n, n < 5120 → (place (Keeps B D) (Drops B D) n = nat k.val ↔ n = t.val)) :
    bodyOut B T D (ix2 a k) = D (ix2 a t) := by
  have hm : ∀ n : Fin 5120, marksOf (supAt B T k0_t1_loop.trips) (ix2 0 n) = bit (Greedy.mark (ovOf B) n.val n.val) := fun n => by
    rw [marks_of, sup_final B T hT]
  unfold bodyOut
  refine out_pick (Keeps B D) (Drops B D) _ _ (fun r l => ?_) (fun r l => ?_) D a k t ht
  · have hr := r.isLt
    have hl := l.isLt
    rw [kept_rows _ _ r l ⟨128 * r.val + l.val, by omega⟩ rfl, kept_at _ _ _ _ (hm _), real_of]
    unfold Keeps dataAt
    rw [dif_pos (show 128 * r.val + l.val < 5120 by omega)]
  · have hr := r.isLt
    have hl := l.isLt
    unfold suppT
    rw [supp_rows _ r l ⟨128 * r.val + l.val, by omega⟩ rfl, supp_at _ _ _ _ (hm _), real_of]
    unfold Drops dataAt
    rw [dif_pos (show 128 * r.val + l.val < 5120 by omega)]

end Cert.KernelIdeal.Body

end
-- ==== Proof.Nms.lean ====
/- The selection that both programs make: boxes in the order by falling score, each kept unless an earlier kept box
   overlaps it; the kept ones first, then the dropped ones. -/
module

public import proofs.«01_k».proof.Proof.Ranking
public import proofs.«01_k».proof.Proof.Greedy
public import proofs.«01_k».proof.Proof.Overlap

@[expose] public section

noncomputable section

namespace Nms

open Idealize.ShloMosaic
open Ranking (order order_falls rankOf rank_best rank_inj)

variable (s : Fin 5000 → EReal) (q : Fin 5000 → Fin 4 → EReal)

/-- Whether the boxes at two places of the order overlap. -/
def ovl (i j : ℕ) : Prop :=
  ∃ (hi : i < 5000) (hj : j < 5000), Overlap.Over (q (order s ⟨i, hi⟩)) (q (order s ⟨j, hj⟩))

/-- The places kept, and the places dropped. -/
def Kept (n : ℕ) : Prop := ¬ Greedy.mark (ovl s q) n n ∧ n < 5000
def Dropped (n : ℕ) : Prop := Greedy.mark (ovl s q) n n ∧ n < 5000

theorem dropped_iff (n : ℕ) (hn : n < 5000) : Dropped s q n ↔ ¬ Kept s q n := by
  unfold Kept Dropped
  tauto

open Classical in
/-- The score at a place, the bottom where the place is dropped. -/
def left (n : Fin 5000) : EReal := if Greedy.mark (ovl s q) n.val n.val then ⊥ else s (order s n)

/-- The place selected at rank `k`. -/
def sel (k : Fin 5000) : Fin 5000 := Ranking.best (left s q) k

theorem sel_rank (hs : ∀ k, ⊥ < s k) (k : Fin 5000) : rankOf (Kept s q) (Dropped s q) 5000 (sel s q k).val = k.val := by
  refine rank_best (Kept s q) (Dropped s q) 5000 (dropped_iff s q) (left s q) (fun a b hab ha hb => ?_) (fun a ha => ?_) (fun a ha => ?_) k
  · unfold left
    rw [if_neg ha.1, if_neg hb.1]
    exact order_falls s hab.le
  · unfold left
    rw [if_neg ha.1]
    exact hs _
  · unfold left
    rw [if_pos ((dropped_iff s q a.val a.isLt).2 ha).1]

/-- The place selected at rank `k` is the one place of that rank. -/
theorem rank_sel (hs : ∀ k, ⊥ < s k) (k : Fin 5000) (n : ℕ) (hn : n < 5000) :
    rankOf (Kept s q) (Dropped s q) 5000 n = k.val ↔ n = (sel s q k).val := by
  have hk := sel_rank s q hs k
  generalize sel s q k = t at hk ⊢
  exact ⟨fun h => rank_inj (Kept s q) (Dropped s q) 5000 (dropped_iff s q) hn t.isLt (h.trans hk.symm), fun h => (congrArg _ h).trans hk⟩

end Nms
-- ==== Proof.KernelValue.lean ====
/- What the kernel's program returns over the extended reals: the coordinates, the score and the class of the boxes
   selected. -/
module

public import proofs.«01_k».proof.Proof.HostData
public import proofs.«01_k».proof.Proof.IdealSlots
public import proofs.«01_k».proof.Proof.Nms
public import Idealize.ShloMosaic.Lib.Pipeline.ValueKit

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

variable (m : (ℓ : Loc nD τ sig) → Buf (Elt Ideal) ℓ) (ρ : Dev nD → PrngReg)

/-! ### The windows' blocks are the arrays -/

theorem bIn_eq (c : Dev nD) : bIn m c = V₀ m c (Proc.devRef .tc main_v27) := by
  unfold bIn
  generalize V₀ m c (Proc.devRef .tc main_v27) = X
  funext j
  blk_simp
  have h0 : win0_0.index t0_0 0 = 0 := by decide +kernel
  have h1 : win0_0.index t0_0 1 = 0 := by decide +kernel
  refine congrArg X (funext fun a => Fin.ext ?_)
  fin_cases a <;> blk_simp <;> simp [h0, h1]

theorem tIn_eq (c : Dev nD) : tIn m c = V₀ m c (Proc.devRef .tc main_v28) := by
  unfold tIn
  generalize V₀ m c (Proc.devRef .tc main_v28) = X
  funext j
  blk_simp
  have h0 : win0_1.index t0_0 0 = 0 := by decide +kernel
  have h1 : win0_1.index t0_0 1 = 0 := by decide +kernel
  refine congrArg X (funext fun a => Fin.ext ?_)
  fin_cases a <;> blk_simp <;> simp [h0, h1]

theorem dIn_eq (c : Dev nD) : dIn m c = V₀ m c (Proc.devRef .tc main_v42) := by
  unfold dIn
  generalize V₀ m c (Proc.devRef .tc main_v42) = X
  funext j
  blk_simp
  have h0 : win0_2.index t0_0 0 = 0 := by decide +kernel
  have h1 : win0_2.index t0_0 1 = 0 := by decide +kernel
  refine congrArg X (funext fun a => Fin.ext ?_)
  fin_cases a <;> blk_simp <;> simp [h0, h1]

theorem out_final (c : Dev nD) : (dats m 0 c).arrAt 3 (cfgs (F := Ideal) 0).N = bodyOut (bIn m c) (tIn m c) (dIn m c) := by
  refine (dats m 0 c).arrAt_eq_of_after_last 3 t0_0 (by decide +kernel) _ fun j => ?_
  blk_simp
  rw [after_3]

/-! ### What is kept -/

theorem tIn_at (c : Dev nD) (a : Fin 4) (n : Fin 5120) : tIn m c (ix2 a n) = bIn m c (ix2 n a) := by
  rw [bIn_eq, tIn_eq]
  exact v28_at m c n a

theorem box_of (c : Dev nD) (n : ℕ) (hn : n < 5000) : boxAt (bIn m c) n = moved m c (ord m c ⟨n, hn⟩) := by
  funext a
  unfold boxAt
  rw [dif_pos (show n < 5120 by omega), bIn_eq, v27_at, dif_pos hn]

theorem flag_of (c : Dev nD) (n : ℕ) : 0 < dataAt (dIn m c) 6 n ↔ n < 5000 := by
  unfold dataAt
  by_cases h : n < 5120
  · rw [dif_pos h, dIn_eq, v42_at]
    by_cases h' : n < 5000
    · rw [dif_pos ⟨by decide, h'⟩]
      exact ⟨fun _ => h', fun _ => zero_lt_one (α := EReal)⟩
    · rw [dif_neg fun hh => h' hh.2]
      exact ⟨fun hh => absurd hh (lt_irrefl _), fun hh => absurd hh h'⟩
  · rw [dif_neg h]
    exact ⟨fun hh => absurd hh (lt_irrefl _), fun hh => by omega⟩

theorem mark_of (c : Dev nD) (n : ℕ) (hn : n < 5000) :
    Greedy.mark (ovOf (bIn m c)) n n ↔ Greedy.mark (Nms.ovl (scoreAt m c) (moved m c)) n n := by
  refine Greedy.mark_congr (n := 5000) (fun i hi j hj => ?_) n hn.le n hn
  unfold ovOf Nms.ovl
  rw [box_of m c i hi, box_of m c j hj]
  exact ⟨fun h => ⟨hi, hj, h⟩, fun ⟨_, _, h⟩ => h⟩

theorem keeps_eq (c : Dev nD) : Keeps (bIn m c) (dIn m c) = Nms.Kept (scoreAt m c) (moved m c) := by
  funext n
  unfold Keeps Nms.Kept
  rw [flag_of]
  by_cases hn : n < 5000
  · rw [mark_of m c n hn]
  · simp [hn]

theorem drops_eq (c : Dev nD) : Drops (bIn m c) (dIn m c) = Nms.Dropped (scoreAt m c) (moved m c) := by
  funext n
  unfold Drops Nms.Dropped
  rw [flag_of]
  by_cases hn : n < 5000
  · rw [mark_of m c n hn]
  · simp [hn]

theorem big_ne (k : ℕ) (hk : k < 128) : Ideal.ofBits FTy.f32 1273291200#32 ≠ nat k := by
  have h : Ideal.ofBits FTy.f32 1273291200#32 = nat 30000000 := by
    simp [Ideal.ofBits, Ideal.ieee, nat]
    rw [← EReal.coe_mul]
    norm_num
  rw [h, Ne, nat_inj]
  omega

/-- The places' numbers: the rank of a real box, a number out of reach elsewhere. -/
theorem place_rank (s : Fin 5000 → EReal) (q : Fin 5000 → Fin 4 → EReal) (k : ℕ) (hk : k < 128) (n : ℕ) :
    place (Nms.Kept s q) (Nms.Dropped s q) n = nat k
      ↔ n < 5000 ∧ Ranking.rankOf (Nms.Kept s q) (Nms.Dropped s q) 5000 n = k := by
  have hc : cnt (Nms.Kept s q) 5120 = cnt (Nms.Kept s q) 5000 :=
    Ranking.cnt_zero_of (p := Nms.Kept s q) (a := 5000) (fun n hn h => absurd h.2 (by omega)) 120
  unfold place Ranking.rankOf
  rw [hc]
  by_cases hK : Nms.Kept s q n
  · rw [if_pos hK, if_pos hK, nat_inj]
    exact ⟨fun h => ⟨hK.2, h⟩, fun h => h.2⟩
  · rw [if_neg hK, if_neg hK]
    by_cases hn : n < 5000
    · rw [if_pos ((Nms.dropped_iff s q n hn).2 hK), nat_inj]
      exact ⟨fun h => ⟨hn, h⟩, fun h => h.2⟩
    · rw [if_neg fun h => hn h.2]
      exact ⟨fun h => absurd h (big_ne k hk), fun h => absurd h.1 hn⟩

/-- The place whose number is `k` is the box selected at rank `k`. -/
theorem place_sel (s : Fin 5000 → EReal) (q : Fin 5000 → Fin 4 → EReal) (hs : ∀ k, ⊥ < s k) (k : Fin 5000)
    (hk : k.val < 128) (n : ℕ) :
    place (Nms.Kept s q) (Nms.Dropped s q) n = nat k.val ↔ n = (Nms.sel s q k).val := by
  rw [place_rank s q k.val hk n]
  have hr : n < 5000 → (Ranking.rankOf (Nms.Kept s q) (Nms.Dropped s q) 5000 n = k.val ↔ n = (Nms.sel s q k).val) :=
    Nms.rank_sel s q hs k n
  have ht := (Nms.sel s q k).isLt
  generalize (Nms.sel s q k).val = t at hr ht ⊢
  exact ⟨fun h => (hr h.1).1 h.2, fun h => ⟨h ▸ ht, (hr (h ▸ ht)).2 h⟩⟩

/-! ### The result table -/

/-- The box selected at rank `k`. -/
def chosen (c : Dev nD) (k : Fin 100) : Fin 5000 :=
  ord m c (Nms.sel (scoreAt m c) (moved m c) (Fin.castLE (by decide) k))

theorem out_chosen (c : Dev nD) (hs : ∀ k, ⊥ < scoreAt m c k) (a : Fin 7) (k : Fin 100) :
    bodyOut (bIn m c) (tIn m c) (dIn m c) (ix2 (Fin.castLE (by decide) a) (Fin.castLE (by decide) k))
      = rowVal m c a (chosen m c k) := by
  have hp := place_sel (scoreAt m c) (moved m c) hs (Fin.castLE (by decide) k) (lt_trans k.isLt (by decide))
  unfold chosen
  generalize Nms.sel (scoreAt m c) (moved m c) (Fin.castLE (by decide) k) = t at hp ⊢
  refine (body_pick (bIn m c) (tIn m c) (dIn m c) (tIn_at m c) (Fin.castLE (by decide) a) (Fin.castLE (by decide) k)
    (Fin.castLE (by decide) t) fun n _ => ?_).trans ?_
  · rw [keeps_eq, drops_eq]
    exact hp n
  · rw [dIn_eq]
    exact (v42_at m c _ _).trans (dif_pos ⟨a.isLt, t.isLt⟩)

end Cert.KernelIdeal.Body
-- ==== Proof.KernelResult.lean ====
/- The kernel's program returns, at rank `k`, the coordinates, the score and the class of the box selected at rank `k`. -/
module

public import proofs.«01_k».proof.Proof.KernelValue

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic

variable (m : (ℓ : Loc nD τ sig) → Buf (Elt Ideal) ℓ) (ρ : Dev nD → PrngReg)

/-- An integer word turned into a number and back is the word. -/
theorem word_back (w : BitVec 32) : Ideal.fptosi 32 ((w.toInt : ℝ) : EReal) = w := by
  have h1 := BitVec.toInt_lt (x := w)
  have h2 := BitVec.le_toInt (x := w)
  rw [Ideal.fptosi, Ideal.toIntClamped_coe, Int.floor_intCast, Int.ceil_intCast, ite_self, min_eq_right, max_eq_right]
  · exact BitVec.ofInt_toInt
  · norm_num at *; omega
  · norm_num at *; omega

/-- The contents the last lines start from. -/
def W₁ (c : Dev nD) : Valuation τ sig (Elt Ideal) :=
  Pipeline.withArrays spec0 c (V₀ m c) (fun w => (dats m 0 c).arrAt w (cfgs (F := Ideal) 0).N)

theorem W₁_out (c : Dev nD) : W₁ m c (Proc.devRef .tc main_v43) = bodyOut (bIn m c) (tIn m c) (dIn m c) :=
  (Pipeline.withArrays_arr spec0 (by decide) c (V₀ m c) (fun w => (dats m 0 c).arrAt w (cfgs (F := Ideal) 0).N) 3).trans (out_final m c)

theorem tail_eq (c : Dev nD) (b : Ref sig .tc) : Pipeline.afterTail₀ cfgs (dats m) 0 (V₀ m) [hostOps1] c b
    = StableHlo.after hostOps1 (W₁ m c) (Proc.devRef .tc b) := by
  unfold Pipeline.afterTail₀
  rw [show [hostOps1 (F := Ideal)].flatten = hostOps1 from List.append_nil _]
  rfl

theorem res_boxes (c : Dev nD) (hs : ∀ k, ⊥ < scoreAt m c k) (k : Fin 100) (a : Fin 4) :
    (Pipeline.afterTail₀ cfgs (dats m) 0 (V₀ m) [hostOps1] c main_v45 : FVec Ideal S100x4 .f32) (ix2 k a)
      = boxes m c (ix2 (chosen m c k) a) := by
  have h : (Pipeline.afterTail₀ cfgs (dats m) 0 (V₀ m) [hostOps1] c main_v45 : FVec Ideal S100x4 .f32)
      = transpose S100x4 [1, 0] (extractStridedSlice S4x100 ![0, 0] (bodyOut (bIn m c) (tIn m c) (dIn m c)) slices_S8x128_S4x100_0_0) transposes_S4x100_S100x4_1_0 := by
    rw [tail_eq, ← W₁_out]
    after_reads_simp
  rw [h]
  have hc := fun a : Fin 7 => out_chosen m c hs a k
  generalize bodyOut (bIn m c) (tIn m c) (dIn m c) = X at hc ⊢
  have hp : transpose S100x4 [1, 0] (extractStridedSlice S4x100 ![0, 0] X slices_S8x128_S4x100_0_0) transposes_S4x100_S100x4_1_0 (ix2 k a)
      = X (ix2 (Fin.castLE (by decide) (Fin.castLE (by decide) a : Fin 7)) (Fin.castLE (by decide) k)) := by
    pointwise []
    rfl
  rw [hp, hc]
  fin_vals a with ha
  · obtain rfl : a = 0 := Fin.ext ha; rfl
  · obtain rfl : a = 1 := Fin.ext ha; rfl
  · obtain rfl : a = 2 := Fin.ext ha; rfl
  · obtain rfl : a = 3 := Fin.ext ha; rfl

theorem res_scores (c : Dev nD) (hs : ∀ k, ⊥ < scoreAt m c k) (k : Fin 100) :
    (Pipeline.afterTail₀ cfgs (dats m) 0 (V₀ m) [hostOps1] c main_v47 : FVec Ideal S100 .f32) (ix1 k)
      = scores m c (ix1 (chosen m c k)) := by
  have h : (Pipeline.afterTail₀ cfgs (dats m) 0 (V₀ m) [hostOps1] c main_v47 : FVec Ideal S100 .f32)
      = shapeCast S100 (extractStridedSlice S1x100 ![4, 0] (bodyOut (bIn m c) (tIn m c) (dIn m c)) slices_S8x128_S1x100_4_0) shapeCasts_S1x100_S100 := by
    rw [tail_eq, ← W₁_out]
    after_reads_simp
    rfl
  rw [h]
  have hc := out_chosen m c hs 4 k
  generalize bodyOut (bIn m c) (tIn m c) (dIn m c) = X at hc ⊢
  refine Eq.trans ?_ (hc.trans rfl)
  pointwise []
  rfl

theorem res_classes (c : Dev nD) (hs : ∀ k, ⊥ < scoreAt m c k) (k : Fin 100) :
    (Pipeline.afterTail₀ cfgs (dats m) 0 (V₀ m) [hostOps1] c main_v50 : IVec S100 32) (ix1 k)
      = classes m c (ix1 (chosen m c k)) := by
  have h : (Pipeline.afterTail₀ cfgs (dats m) 0 (V₀ m) [hostOps1] c main_v50 : IVec S100 32)
      = fptosi 32 (shapeCast S100 (extractStridedSlice S1x100 ![5, 0] (bodyOut (bIn m c) (tIn m c) (dIn m c)) slices_S8x128_S1x100_5_0) shapeCasts_S1x100_S100) := by
    rw [tail_eq, ← W₁_out]
    after_reads_simp
    rfl
  rw [h]
  have hc := out_chosen m c hs 5 k
  generalize bodyOut (bIn m c) (tIn m c) (dIn m c) = X at hc ⊢
  have hp : shapeCast S100 (extractStridedSlice S1x100 ![5, 0] X slices_S8x128_S1x100_5_0) shapeCasts_S1x100_S100 (ix1 k)
      = classAt m c (chosen m c k) := by
    refine Eq.trans ?_ (hc.trans rfl)
    pointwise []
    rfl
  refine (congrArg (Ideal.fptosi 32) hp).trans ?_
  exact word_back _

/-- The boxes that the program returns. -/
def outBoxes (c : Dev nD) : FVec Ideal S100x4 .f32 := fun j => boxes m c (ix2 (chosen m c (j 0)) (j 1))
/-- The scores that the program returns. -/
def outScores (c : Dev nD) : FVec Ideal S100 .f32 := fun j => scores m c (ix1 (chosen m c (j 0)))
/-- The classes that the program returns. -/
def outClasses (c : Dev nD) : IVec S100 32 := fun j => classes m c (ix1 (chosen m c (j 0)))

/-- The kernel's program over the extended reals, of finite scores: its three results, the arguments unchanged. -/
theorem results (hs : ∀ c k, ⊥ < scoreAt m c k) :
    θ_run defs (onTc (τ := τ) (main (F := Ideal))) ⟨m, fun _ => 0, ρ⟩ (fun r => ∀ c : Dev nD,
      r.2.mem ((c.tc : Thread nD τ).loc main_v45) = outBoxes m c
      ∧ r.2.mem ((c.tc : Thread nD τ).loc main_v47) = outScores m c
      ∧ r.2.mem ((c.tc : Thread nD τ).loc main_v50) = outClasses m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_, ?_⟩) (run (F := Ideal) m ρ)
  · refine ((h.1 c).2 main_v45 (by decide)).trans (funext fun (j : S100x4.Idx) => ?_)
    idx_vars j
    exact res_boxes m c (hs c) _ _
  · refine ((h.1 c).2 main_v47 (by decide)).trans (funext fun (j : S100.Idx) => ?_)
    idx_vars j
    exact res_scores m c (hs c) _
  · refine ((h.1 c).2 main_v50 (by decide)).trans (funext fun (j : S100.Idx) => ?_)
    idx_vars j
    exact res_classes m c (hs c) _
  · exact ((h.1 c).2 main_arg0 rest_0).trans (tail_kept m c main_arg0 (by decide) (by decide) (by decide))
  · exact ((h.1 c).2 main_arg1 rest_1).trans (tail_kept m c main_arg1 (by decide) (by decide) (by decide))
  · exact ((h.1 c).2 main_arg2 rest_2).trans (tail_kept m c main_arg2 (by decide) (by decide) (by decide))

end Cert.KernelIdeal.Body
-- ==== Proof.RefOrder.lean ====
/- The reference's lines before its loop: the boxes in the order of their scores. -/
module

public import proofs.«01_k».proof.Proof.RefFrame
public import proofs.«01_k».proof.Proof.Sorting
public import proofs.«01_k».proof.Proof.Nms
public import Idealize.ShloMosaic.Lib.Routing.OpsPair
public import Idealize.ShloMosaic.Lib.Routing.OpsSet

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo Idealize.ShloMosaic.Tactic

variable (m : (ℓ : Loc nD τ sig) → Buf (Elt Ideal) ℓ) (c : Dev nD)

/-- The boxes' coordinates. -/
def boxes : FVec Ideal S5000x4 .f32 := m (c, Proc.devRef .tc main_arg0)
/-- The boxes' scores. -/
def scores : FVec Ideal S5000 .f32 := m (c, Proc.devRef .tc main_arg1)
/-- The boxes' classes. -/
def classes : IVec S5000 32 := m (c, Proc.devRef .tc main_arg2)
/-- The score of box `k`. -/
def scoreAt (k : Fin 5000) : EReal := scores m c (ix1 k)
/-- The class of box `k`, as a number. -/
def classAt (k : Fin 5000) : EReal := (((classes m c (ix1 k)).toInt : ℝ) : EReal)
/-- What one class is shifted against the next: one more than the largest coordinate. -/
def shift : EReal := Host.reduce FloatOps.maximumf (boxes m c) (constant (F := Ideal) S_ .f32 0xFF800000#32) reducesTo_S5000x4_S_d0_1 h_S_ ix0
  + Ideal.ofBits FTy.f32 0x3F800000#32
/-- Box `k` moved apart from the boxes of the other classes. -/
def moved (k : Fin 5000) (a : Fin 4) : EReal := boxes m c (ix2 k a) + classAt m c k * shift m c
/-- The boxes' order by falling score. -/
def ord : Fin 5000 → Fin 5000 := Ranking.order (scoreAt m c)

/-! ### The contents after each stretch of lines -/

/-- After the first stretch. -/
def E₀ : Valuation τ sig (Elt Ideal) := after hostOps0 (launchContents m c)
/-- After the sort. -/
def E₁ : Valuation τ sig (Elt Ideal) := after hostOps0_1 (E₀ m c)
/-- After the areas and the corners of the intersections. -/
def E₂ : Valuation τ sig (Elt Ideal) := after hostOps0_2 (E₁ m c)
/-- After the clipping. -/
def E₃ : Valuation τ sig (Elt Ideal) := after hostOps0_3 (E₂ m c)
/-- At the loop's entry. -/
def E₄ : Valuation τ sig (Elt Ideal) := after hostOps0_4 (E₃ m c)

theorem entry_eq : entryContents preI m c = E₄ m c := rfl

/-- An index word below `5000` is not wrapped. -/
theorem wrap_at (n : Fin 5000) : Scalar.select (IntOp.cmpi .slt (BitVec.ofNat 32 n.val) 0#32) (IntOp.addi (BitVec.ofNat 32 n.val) 5000#32) (BitVec.ofNat 32 n.val)
    = BitVec.ofNat 32 n.val := by
  refine Routing.wrap_of_lt _ _ ?_
  rw [BitVec.toNat_ofNat]
  exact lt_of_le_of_lt (Nat.mod_le _ _) (lt_trans n.isLt (by decide))

theorem v7_at (k : Fin 5000) (a : Fin 4) : (E₀ m c (Proc.devRef .tc main_v7) : FVec Ideal S5000x4 .f32) (ix2 k a) = moved m c k a := by
  have h : (E₀ m c (Proc.devRef .tc main_v7) : FVec Ideal S5000x4 .f32)
      = addf (boxes m c) (broadcastInDim S5000x4 ![0, 1] bcast_S5000x1_S5000x4_0_1 (broadcastInDim S5000x1 ![0] bcast_S5000_S5000x1_0
        (mulf (sitofp .f32 (classes m c) : FVec Ideal S5000 .f32) (broadcastInDim S5000 ![] bcast_S_S5000
          (addf (Host.reduce FloatOps.maximumf (boxes m c) (constant (F := Ideal) S_ .f32 0xFF800000#32) reducesTo_S5000x4_S_d0_1 h_S_)
            (constant (F := Ideal) S_ .f32 0x3F800000#32)))))) := by
    unfold E₀
    after_reads_simp
    rfl
  rw [h]
  unfold moved shift classAt
  generalize Host.reduce FloatOps.maximumf (boxes m c) (constant (F := Ideal) S_ .f32 0xFF800000#32) reducesTo_S5000x4_S_d0_1 h_S_ = Z
  generalize boxes m c = X
  generalize classes m c = Y
  pointwise []
  rfl

theorem v9_eq : (E₁ m c (Proc.devRef .tc main_v9) : IVec S5000 32)
    = (Host.sort2 S5000 0 comparator_f32_i32_d0 (Host.negf (F := Ideal) (φ := .f32) (scores m c)) (iotaInDim S5000 32 0)).2 := by
  have h8 : (E₀ m c (Proc.devRef .tc main_v8) : FVec Ideal S5000 .f32) = Host.negf (F := Ideal) (φ := .f32) (scores m c) := by
    unfold E₀
    after_reads_simp
    rfl
  rw [← h8]
  unfold E₁
  generalize E₀ m c = V
  after_reads_simp
  rfl

theorem v9_at (j : Fin 5000) : (E₁ m c (Proc.devRef .tc main_v9) : IVec S5000 32) (ix1 j) = BitVec.ofNat 32 (ord m c j).val := by
  rw [v9_eq]
  refine (Ranking.sort2_at comparator_f32_i32_d0 _ _ j).trans ?_
  unfold ord Ranking.order
  rw [show (fun k k' : Fin 5000 => comparator_f32_i32_d0 (Host.negf (F := Ideal) (φ := .f32) (scores m c) (ix1 k), iotaInDim S5000 32 0 (ix1 k))
      (Host.negf (F := Ideal) (φ := .f32) (scores m c) (ix1 k'), iotaInDim S5000 32 0 (ix1 k')) == 1#1)
    = fun k k' => decide (-scoreAt m c k < -scoreAt m c k') from funext fun k => funext fun k' => Ranking.key_lt _ _]
  generalize sortedFrom (fun k k' : Fin 5000 => decide (-scoreAt m c k < -scoreAt m c k')) j = n
  pointwise []

theorem E₁_v7 : E₁ m c (Proc.devRef .tc main_v7) = E₀ m c (Proc.devRef .tc main_v7) :=
  StableHlo.after_of_writes_sub hostOps0_1 _ hostOps0_1_writes (by decide)

/-- The boxes, moved, in the order of their scores. -/
theorem v16_at (j : Fin 5000) (a : Fin 4) : (E₂ m c (Proc.devRef .tc main_v16) : FVec Ideal S5000x4 .f32) (ix2 j a) = moved m c (ord m c j) a := by
  have h : (E₂ m c (Proc.devRef .tc main_v16) : FVec Ideal S5000x4 .f32)
      = Host.gather gather_S5000x4_S5000x1_S5000x4_1_0_n_n_0_1_14 (E₀ m c (Proc.devRef .tc main_v7) : FVec Ideal S5000x4 .f32)
        (broadcastInDim S5000x1 ![0] bcast_S5000_S5000x1_0 (select (cmpi .slt (E₁ m c (Proc.devRef .tc main_v9) : IVec S5000 32) (broadcastInDim S5000 ![] bcast_S_S5000 (constantI S_ 32 0#32)))
          (addi (E₁ m c (Proc.devRef .tc main_v9) : IVec S5000 32) (broadcastInDim S5000 ![] bcast_S_S5000 (constantI S_ 32 5000#32))) (E₁ m c (Proc.devRef .tc main_v9) : IVec S5000 32))) := by
    rw [← E₁_v7]
    unfold E₂
    generalize E₁ m c = V
    after_reads_simp
  rw [h, ← v7_at]
  have h9 := v9_at m c j
  generalize (E₁ m c (Proc.devRef .tc main_v9) : IVec S5000 32) = Y at h9 ⊢
  generalize (E₀ m c (Proc.devRef .tc main_v7) : FVec Ideal S5000x4 .f32) = X
  refine Routing.gather_row _ rfl rfl rfl rfl rfl X _ j a (ord m c j) ?_ (by decide)
  have hp : (broadcastInDim S5000x1 ![0] bcast_S5000_S5000x1_0 (select (cmpi .slt Y (broadcastInDim S5000 ![] bcast_S_S5000 (constantI S_ 32 0#32)))
          (addi Y (broadcastInDim S5000 ![] bcast_S_S5000 (constantI S_ 32 5000#32))) Y) : IVec S5000x1 32) (ix2 j 0)
      = Scalar.select (IntOp.cmpi .slt (Y (ix1 j)) 0#32) (IntOp.addi (Y (ix1 j)) 5000#32) (Y (ix1 j)) := by
    pointwise []
  refine hp.trans ?_
  rw [h9, wrap_at]

end Cert.ReferenceIdeal.Ref
-- ==== Proof.RefOverlap.lean ====
/- The reference's table of the overlaps: entry `(i, j)` is the intersection over union of the boxes at places `i` and
   `j` of the order. -/
module

public import proofs.«01_k».proof.Proof.RefOrder

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo Idealize.ShloMosaic.Tactic

variable (m : (ℓ : Loc nD τ sig) → Buf (Elt Ideal) ℓ) (c : Dev nD)

/-- The areas. -/
theorem v27_at (j : Fin 5000) : (E₂ m c (Proc.devRef .tc main_v27) : FVec Ideal S5000 .f32) (ix1 j)
    = (moved m c (ord m c j) 2 - moved m c (ord m c j) 0) * (moved m c (ord m c j) 3 - moved m c (ord m c j) 1) := by
  have h : (E₂ m c (Proc.devRef .tc main_v27) : FVec Ideal S5000 .f32)
      = (mulf (subf (shapeCast S5000 (extractStridedSlice S5000x1 ![0, 2] (E₂ m c (Proc.devRef .tc main_v16) : FVec Ideal S5000x4 .f32) slices_S5000x4_S5000x1_0_2) shapeCasts_S5000x1_S5000)
          (shapeCast S5000 (extractStridedSlice S5000x1 ![0, 0] (E₂ m c (Proc.devRef .tc main_v16) : FVec Ideal S5000x4 .f32) slices_S5000x4_S5000x1_0_0) shapeCasts_S5000x1_S5000))
        (subf (shapeCast S5000 (extractStridedSlice S5000x1 ![0, 3] (E₂ m c (Proc.devRef .tc main_v16) : FVec Ideal S5000x4 .f32) slices_S5000x4_S5000x1_0_3) shapeCasts_S5000x1_S5000)
          (shapeCast S5000 (extractStridedSlice S5000x1 ![0, 1] (E₂ m c (Proc.devRef .tc main_v16) : FVec Ideal S5000x4 .f32) slices_S5000x4_S5000x1_0_1) shapeCasts_S5000x1_S5000)) : FVec Ideal S5000 .f32) := by
    unfold E₂
    generalize E₁ m c = V
    after_reads_simp
    rfl
  rw [h]
  have hv := v16_at m c j
  generalize (E₂ m c (Proc.devRef .tc main_v16) : FVec Ideal S5000x4 .f32) = X at hv ⊢
  rw [← hv 0, ← hv 1, ← hv 2, ← hv 3]
  pointwise []

/-- The intersections' widths and heights, before clipping. -/
theorem v42_at (i j : Fin 5000) (a : Fin 2) : (E₂ m c (Proc.devRef .tc main_v42) : FVec Ideal S5000x5000x2 .f32) (ix3 i j a)
    = min (moved m c (ord m c i) ⟨2 + a.val, by omega⟩) (moved m c (ord m c j) ⟨2 + a.val, by omega⟩)
      - max (moved m c (ord m c i) ⟨a.val, by omega⟩) (moved m c (ord m c j) ⟨a.val, by omega⟩) := by
  have h : (E₂ m c (Proc.devRef .tc main_v42) : FVec Ideal S5000x5000x2 .f32)
      = (subf (minimumf (broadcastInDim S5000x5000x2 ![0, 1, 2] bcast_S5000x1x2_S5000x5000x2_0_1_2 (broadcastInDim S5000x1x2 ![0, 2] bcast_S5000x2_S5000x1x2_0_2
              (extractStridedSlice S5000x2 ![0, 2] (E₂ m c (Proc.devRef .tc main_v16) : FVec Ideal S5000x4 .f32) slices_S5000x4_S5000x2_0_2)))
            (broadcastInDim S5000x5000x2 ![0, 1, 2] bcast_S1x5000x2_S5000x5000x2_0_1_2 (broadcastInDim S1x5000x2 ![1, 2] bcast_S5000x2_S1x5000x2_1_2
              (extractStridedSlice S5000x2 ![0, 2] (E₂ m c (Proc.devRef .tc main_v16) : FVec Ideal S5000x4 .f32) slices_S5000x4_S5000x2_0_2))))
          (maximumf (broadcastInDim S5000x5000x2 ![0, 1, 2] bcast_S5000x1x2_S5000x5000x2_0_1_2 (broadcastInDim S5000x1x2 ![0, 2] bcast_S5000x2_S5000x1x2_0_2
              (extractStridedSlice S5000x2 ![0, 0] (E₂ m c (Proc.devRef .tc main_v16) : FVec Ideal S5000x4 .f32) slices_S5000x4_S5000x2_0_0)))
            (broadcastInDim S5000x5000x2 ![0, 1, 2] bcast_S1x5000x2_S5000x5000x2_0_1_2 (broadcastInDim S1x5000x2 ![1, 2] bcast_S5000x2_S1x5000x2_1_2
              (extractStridedSlice S5000x2 ![0, 0] (E₂ m c (Proc.devRef .tc main_v16) : FVec Ideal S5000x4 .f32) slices_S5000x4_S5000x2_0_0)))) : FVec Ideal S5000x5000x2 .f32) := by
    unfold E₂
    generalize E₁ m c = V
    after_reads_simp
  rw [h]
  have hi := v16_at m c i
  have hj := v16_at m c j
  generalize (E₂ m c (Proc.devRef .tc main_v16) : FVec Ideal S5000x4 .f32) = X at hi hj ⊢
  rw [← hi, ← hi, ← hj, ← hj]
  pointwise []

/-- The intersections' widths and heights. -/
theorem v43_at (i j : Fin 5000) (a : Fin 2) : (E₃ m c (Proc.devRef .tc main_v43) : FVec Ideal S5000x5000x2 .f32) (ix3 i j a)
    = max (min (moved m c (ord m c i) ⟨2 + a.val, by omega⟩) (moved m c (ord m c j) ⟨2 + a.val, by omega⟩)
      - max (moved m c (ord m c i) ⟨a.val, by omega⟩) (moved m c (ord m c j) ⟨a.val, by omega⟩)) 0 := by
  have hz : (E₂ m c (Proc.devRef .tc main_cst_2) : FVec Ideal S_ .f32) = constant (F := Ideal) S_ .f32 0x00000000#32 := by
    unfold E₂
    generalize E₁ m c = V
    after_reads_simp
  have h : (E₃ m c (Proc.devRef .tc main_v43) : FVec Ideal S5000x5000x2 .f32)
      = maximumf (broadcastInDim S5000x5000x2 ![] bcast_S_S5000x5000x2 (constant (F := Ideal) S_ .f32 0x00000000#32)) (E₂ m c (Proc.devRef .tc main_v42) : FVec Ideal S5000x5000x2 .f32) := by
    rw [← hz]
    unfold E₃
    generalize E₂ m c = V
    after_reads_simp
    rfl
  rw [h, ← v42_at, max_comm]
  generalize (E₂ m c (Proc.devRef .tc main_v42) : FVec Ideal S5000x5000x2 .f32) = X
  pointwise []

theorem E₃_v27 : E₃ m c (Proc.devRef .tc main_v27) = E₂ m c (Proc.devRef .tc main_v27) :=
  StableHlo.after_of_writes_sub hostOps0_3 _ hostOps0_3_writes (by decide)

/-- The overlaps' table at the loop's entry. -/
theorem table_at (i j : Fin 5000) : (E₄ m c (Proc.devRef .tc main_v60_0) : FVec Ideal S5000x5000 .f32) (ix2 i j)
    = Overlap.iou (moved m c (ord m c i)) (moved m c (ord m c j)) := by
  have h : (E₄ m c (Proc.devRef .tc main_v60_0) : FVec Ideal S5000x5000 .f32)
      = Host.divf (mulf (shapeCast S5000x5000 (extractStridedSlice S5000x5000x1 ![0, 0, 0] (E₃ m c (Proc.devRef .tc main_v43) : FVec Ideal S5000x5000x2 .f32) slices_S5000x5000x2_S5000x5000x1_0_0_0) shapeCasts_S5000x5000x1_S5000x5000)
            (shapeCast S5000x5000 (extractStridedSlice S5000x5000x1 ![0, 0, 1] (E₃ m c (Proc.devRef .tc main_v43) : FVec Ideal S5000x5000x2 .f32) slices_S5000x5000x2_S5000x5000x1_0_0_1) shapeCasts_S5000x5000x1_S5000x5000))
          (addf (subf (addf (broadcastInDim S5000x5000 ![0, 1] bcast_S5000x1_S5000x5000_0_1 (broadcastInDim S5000x1 ![0] bcast_S5000_S5000x1_0 (E₂ m c (Proc.devRef .tc main_v27) : FVec Ideal S5000 .f32)))
                (broadcastInDim S5000x5000 ![0, 1] bcast_S1x5000_S5000x5000_0_1 (broadcastInDim S1x5000 ![1] bcast_S5000_S1x5000_1 (E₂ m c (Proc.devRef .tc main_v27) : FVec Ideal S5000 .f32))))
              (mulf (shapeCast S5000x5000 (extractStridedSlice S5000x5000x1 ![0, 0, 0] (E₃ m c (Proc.devRef .tc main_v43) : FVec Ideal S5000x5000x2 .f32) slices_S5000x5000x2_S5000x5000x1_0_0_0) shapeCasts_S5000x5000x1_S5000x5000)
                (shapeCast S5000x5000 (extractStridedSlice S5000x5000x1 ![0, 0, 1] (E₃ m c (Proc.devRef .tc main_v43) : FVec Ideal S5000x5000x2 .f32) slices_S5000x5000x2_S5000x5000x1_0_0_1) shapeCasts_S5000x5000x1_S5000x5000)))
            (broadcastInDim S5000x5000 ![] bcast_S_S5000x5000 (constant (F := Ideal) S_ .f32 0x3089705F#32))) := by
    rw [← E₃_v27]
    unfold E₄
    generalize E₃ m c = V
    after_reads_simp
    rfl
  rw [h]
  unfold Overlap.iou Overlap.inter
  have h0 := v43_at m c i j 0
  have h1 := v43_at m c i j 1
  have hi := v27_at m c i
  have hj := v27_at m c j
  have e0 : max (min (moved m c (ord m c i) 2) (moved m c (ord m c j) 2) - max (moved m c (ord m c i) 0) (moved m c (ord m c j) 0)) 0
      = (E₃ m c (Proc.devRef .tc main_v43) : FVec Ideal S5000x5000x2 .f32) (ix3 i j 0) := h0.symm
  have e1 : max (min (moved m c (ord m c i) 3) (moved m c (ord m c j) 3) - max (moved m c (ord m c i) 1) (moved m c (ord m c j) 1)) 0
      = (E₃ m c (Proc.devRef .tc main_v43) : FVec Ideal S5000x5000x2 .f32) (ix3 i j 1) := h1.symm
  rw [e0, e1, ← hi, ← hj]
  generalize (E₃ m c (Proc.devRef .tc main_v43) : FVec Ideal S5000x5000x2 .f32) = X
  generalize (E₂ m c (Proc.devRef .tc main_v27) : FVec Ideal S5000 .f32) = Y
  pointwise []

theorem lanes_eq : (E₄ m c (Proc.devRef .tc main_v60_1) : IVec S5000 32) = iotaInDim S5000 32 0 := by
  unfold E₄
  generalize E₃ m c = V
  after_reads_simp
  rfl

theorem turn_eq : (E₄ m c (Proc.devRef .tc main_v60_3) : IVec S_ 32) = constantI S_ 32 0#32 := by
  unfold E₄
  generalize E₃ m c = V
  after_reads_simp
  rfl

theorem marks_eq : (E₄ m c (Proc.devRef .tc main_v60_4) : IVec S5000 1) = broadcastInDim S5000 ![] bcast_S_S5000 (constantI S_ 1 0#1) := by
  unfold E₄
  generalize E₃ m c = V
  after_reads_simp
  rfl

end Cert.ReferenceIdeal.Ref
-- ==== Proof.RefLoop.lean ====
/- The reference's loop: after `k` trips a place is marked where one of the first `k` places suppresses it. -/
module

public import proofs.«01_k».proof.Proof.RefOverlap
public import Idealize.ShloMosaic.Lib.DynamicIndex

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo Idealize.ShloMosaic.Tactic

open Classical in
/-- The flag of a proposition. -/
def flag (p : Prop) : BitVec 1 := BitVec.ofBool (decide p)

theorem flag_decide (p : Prop) [Decidable p] : BitVec.ofBool (decide p) = flag p := by
  unfold flag; by_cases h : p <;> simp [h]
theorem flag_or (p q : Prop) : IntOp.ori (flag p) (flag q) = flag (p ∨ q) := by
  unfold flag IntOp.ori; by_cases p <;> by_cases q <;> simp [*]
theorem flag_and (p q : Prop) : IntOp.andi (flag p) (flag q) = flag (p ∧ q) := by
  unfold flag IntOp.andi; by_cases p <;> by_cases q <;> simp [*]
theorem flag_not (p : Prop) : ~~~(flag p) = flag (¬ p) := by
  unfold flag; by_cases p <;> simp [*]
theorem flag_congr {p q : Prop} (h : p ↔ q) : flag p = flag q := by rw [propext h]

/-- One row of the table. -/
theorem row_at (T : FVec Ideal S5000x5000 .f32) (start : Fin 2 → Int) (k : Fin 5000) (h0 : start 0 = k.val) (h1 : start 1 = 0) (j : Fin 5000) :
    (shapeCast S5000 (Host.dynamicSlice S1x5000 T start sliceFits_S5000x5000_S1x5000) shapeCasts_S1x5000_S5000 : FVec Ideal S5000 .f32) (ix1 j) = T (ix2 k j) := by
  have hk := k.isLt
  have hs : S5000x5000.Slices ![k.val, 0] S1x5000 := by
    refine ⟨rfl, fun a => ?_⟩
    fin_cases a
    · show k.val + 1 ≤ 5000
      omega
    · show 0 + 5000 ≤ 5000
      omega
  rw [Host.dynamicSlice_eq_extractStridedSlice S1x5000 T start ![k.val, 0] _ hs (fun a => by
    fin_cases a
    · exact h0
    · exact h1)]
  pointwise []

/-- One mark. -/
theorem cell_at (M : IVec S5000 1) (start : Fin 1 → Int) (k : Fin 5000) (h0 : start 0 = k.val) :
    (shapeCast S_ (Host.dynamicSlice S1 M start sliceFits_S5000_S1) shapeCasts_S1_S_ : IVec S_ 1) ix0 = M (ix1 k) := by
  have hk := k.isLt
  have hs : S5000.Slices ![k.val] S1 := by
    refine ⟨rfl, fun a => ?_⟩
    fin_cases a
    show k.val + 1 ≤ 5000
    omega
  rw [Host.dynamicSlice_eq_extractStridedSlice S1 M start ![k.val] _ hs (fun a => by
    fin_cases a
    exact h0)]
  pointwise []

/-- What a trip does to a mark, of the row and of the mark that it reads. -/
theorem step_shape (M : IVec S5000 1) (A : FVec Ideal S5000 .f32) (B : IVec S_ 1) (L : IVec S5000 32) (z : IVec S_ 32) (j : Fin 5000) :
    (id (ori M (andi (andi (cmpf .ogt A (broadcastInDim S5000 ![] bcast_S_S5000 (constant (F := Ideal) S_ .f32 0x3F000000#32))) (broadcastInDim S5000 ![] bcast_S_S5000 (noti B)))
      (cmpi .sgt L (broadcastInDim S5000 ![] bcast_S_S5000 (id z))))) : IVec S5000 1) (ix1 j)
    = IntOp.ori (M (ix1 j)) (IntOp.andi (IntOp.andi (BitVec.ofBool (decide (Ideal.ofBits FTy.f32 1056964608#32 < A (ix1 j)))) (~~~(B ix0))) (IntOp.cmpi .sgt (L (ix1 j)) (z ix0))) := by
  simp only [id]
  pointwise [noti]

theorem toInt_word (k : Fin 5000) : (BitVec.ofNat 32 k.val).toInt = k.val := by
  have := k.isLt
  rw [BitVec.toInt_eq_toNat_of_lt, BitVec.toNat_ofNat, Nat.mod_eq_of_lt (by omega)]
  rw [BitVec.toNat_ofNat, Nat.mod_eq_of_lt (by omega)]
  omega

/-- A trip's step on the marks. -/
theorem step_at (V : Valuation τ sig (Elt Ideal)) (k : Fin 5000) (h3 : (V (Proc.devRef .tc main_v60_3) : IVec S_ 32) = constantI S_ 32 (BitVec.ofNat 32 k.val)) (j : Fin 5000) :
    (step_main_v60_4 V : IVec S5000 1) (ix1 j)
      = IntOp.ori ((V (Proc.devRef .tc main_v60_4) : IVec S5000 1) (ix1 j))
        (IntOp.andi (IntOp.andi (BitVec.ofBool (decide (Ideal.ofBits FTy.f32 1056964608#32 < (V (Proc.devRef .tc main_v60_0) : FVec Ideal S5000x5000 .f32) (ix2 k j))))
            (~~~((V (Proc.devRef .tc main_v60_4) : IVec S5000 1) (ix1 k))))
          (IntOp.cmpi .sgt ((V (Proc.devRef .tc main_v60_1) : IVec S5000 32) (ix1 j)) (BitVec.ofNat 32 k.val))) := by
  unfold step_main_v60_4 res_main_while0b_v105
  rw [h3]
  refine (step_shape _ _ _ _ _ j).trans ?_
  have hw : Scalar.select (IntOp.cmpi .slt (BitVec.ofNat 32 k.val) 0#32) (IntOp.addi (BitVec.ofNat 32 k.val) 5000#32) (BitVec.ofNat 32 k.val) = BitVec.ofNat 32 k.val := wrap_at k
  rw [row_at _ _ k ((congrArg BitVec.toInt hw).trans (toInt_word k)) rfl, cell_at _ _ k ((congrArg BitVec.toInt hw).trans (toInt_word k))]
  rfl

variable (m : (ℓ : Loc nD τ sig) → Buf (Elt Ideal) ℓ) (c : Dev nD)

/-- The overlaps of the places of the order. -/
abbrev ov : ℕ → ℕ → Prop := Nms.ovl (scoreAt m c) (moved m c)

theorem over_iff (i j : Fin 5000) : Ideal.ofBits FTy.f32 1056964608#32 < (E₄ m c (Proc.devRef .tc main_v60_0) : FVec Ideal S5000x5000 .f32) (ix2 i j)
    ↔ ov m c i.val j.val := by
  rw [table_at]
  exact ⟨fun h => ⟨i.isLt, j.isLt, h⟩, fun ⟨_, _, h⟩ => h⟩

/-- The carried buffers after `k` trips. -/
theorem carried (k : ℕ) (hk : k ≤ 5000) :
    STEP^[k] (E₄ m c) (Proc.devRef .tc main_v60_0) = E₄ m c (Proc.devRef .tc main_v60_0)
    ∧ STEP^[k] (E₄ m c) (Proc.devRef .tc main_v60_1) = E₄ m c (Proc.devRef .tc main_v60_1)
    ∧ (STEP^[k] (E₄ m c) (Proc.devRef .tc main_v60_3) : IVec S_ 32) = constantI S_ 32 (BitVec.ofNat 32 k)
    ∧ ∀ j : Fin 5000, (STEP^[k] (E₄ m c) (Proc.devRef .tc main_v60_4) : IVec S5000 1) (ix1 j) = flag (Greedy.mark (ov m c) k j.val) := by
  induction k with
  | zero =>
    refine ⟨rfl, rfl, turn_eq m c, fun j => ?_⟩
    show (E₄ m c (Proc.devRef .tc main_v60_4) : IVec S5000 1) (ix1 j) = _
    rw [marks_eq]
    unfold flag Greedy.mark
    pointwise []
    simp
  | succ k ih =>
    obtain ⟨i0, i1, i3, i4⟩ := ih (by omega)
    rw [Function.iterate_succ_apply']
    generalize STEP^[k] (E₄ m c) = V at i0 i1 i3 i4 ⊢
    refine ⟨(STEP_main_v60_0 V).trans i0, (STEP_main_v60_1 V).trans i1, ?_, fun j => ?_⟩
    · refine (STEP_main_v60_3 V).trans ?_
      unfold step_main_v60_3
      rw [i3]
      funext x
      show BitVec.ofNat 32 k + 1#32 = BitVec.ofNat 32 (k + 1)
      rw [BitVec.ofNat_add]
    · refine (congrFun (STEP_main_v60_4 V) (ix1 j)).trans ((step_at V ⟨k, by omega⟩ i3 j).trans ?_)
      rw [i4, i4, i0, i1, lanes_eq, flag_decide, flag_not, flag_and]
      have hl : IntOp.cmpi .sgt ((iotaInDim S5000 32 0 : IVec S5000 32) (ix1 j)) (BitVec.ofNat 32 k) = flag (k < j.val) := by
        have hj := j.isLt
        refine Eq.trans ?_ ((WordCmp.cmpi_sgt_ofNat (a := j.val) (b := k) (w := 32) (by omega) (by omega)).trans (flag_decide _))
        pointwise []
      refine (congrArg (fun x => IntOp.ori _ (IntOp.andi _ x)) hl).trans ?_
      rw [flag_and, flag_or]
      refine flag_congr (or_congr_right ?_)
      rw [over_iff, and_assoc]

/-- The marks after the loop. -/
theorem marks_at (j : Fin 5000) : (atK m 5000 c (Proc.devRef .tc main_v60_4) : IVec S5000 1) (ix1 j) = flag (Greedy.mark (ov m c) j.val j.val) := by
  have h := atK_agree m c 5000 main_v60_4 (by decide)
  rw [entry_eq] at h
  refine (congrFun h (ix1 j)).trans (((carried m c 5000 le_rfl).2.2.2 j).trans ?_)
  exact flag_congr (Greedy.mark_settled j.isLt.le)

end Cert.ReferenceIdeal.Ref
-- ==== Proof.RefResult.lean ====
/- What the reference returns over the extended reals: the coordinates, the score and the class of the boxes selected. -/
module

public import proofs.«01_k».proof.Proof.RefLoop

@[expose] public section

set_option maxRecDepth 16384

noncomputable section

namespace Cert.ReferenceIdeal.Ref

open Cert.ReferenceIdeal Cert.ReferenceIdeal.Gen Cert.ReferenceIdeal.Value
open Idealize.ShloMosaic Idealize.ShloMosaic.TcCoe Idealize.ShloMosaic.StableHlo Idealize.ShloMosaic.Tactic
open Idealize.SL Idealize.SL.Sem

variable (m : (ℓ : Loc nD τ sig) → Buf (Elt Ideal) ℓ) (ρ : Dev nD → PrngReg) (c : Dev nD)

/-- When the loop has ended. -/
def E₅ : Valuation τ sig (Elt Ideal) := after condOps (atK m 5000 c)
/-- After the scores' reordering. -/
def E₆ : Valuation τ sig (Elt Ideal) := after hostOps0_5 (E₅ m c)
/-- After the dropped places' scores are set to the bottom. -/
def E₇ : Valuation τ sig (Elt Ideal) := after hostOps0_6 (E₆ m c)
/-- At the end. -/
def E₈ : Valuation τ sig (Elt Ideal) := after hostOps0_7 (E₇ m c)

theorem final_eq : finalContents condOps preI bodyI postI 5000 m c = E₈ m c := rfl

/-- What the loop's lines and those between the sort and the loop do not write is as the sort left it. -/
theorem E₅_kept (b : Ref sig .tc) (hc : b ∉ condOps_W) (hb : b ∉ while0Ops0_W) (h2 : b ∉ hostOps0_2_W) (h3 : b ∉ hostOps0_3_W) (h4 : b ∉ hostOps0_4_W) :
    E₅ m c (Proc.devRef .tc b) = E₁ m c (Proc.devRef .tc b) := by
  unfold E₅
  rw [StableHlo.after_of_writes_sub condOps _ condOps_writes hc, atK_kept m c b hc hb, entry_eq]
  unfold E₄ E₃ E₂
  rw [StableHlo.after_of_writes_sub hostOps0_4 _ hostOps0_4_writes h4, StableHlo.after_of_writes_sub hostOps0_3 _ hostOps0_3_writes h3,
    StableHlo.after_of_writes_sub hostOps0_2 _ hostOps0_2_writes h2]

theorem E₁_kept (b : Ref sig .tc) (h0 : b ∉ hostOps0_W) (h1 : b ∉ hostOps0_1_W) : E₁ m c (Proc.devRef .tc b) = m (c, Proc.devRef .tc b) := by
  unfold E₁ E₀
  rw [StableHlo.after_of_writes_sub hostOps0_1 _ hostOps0_1_writes h1, StableHlo.after_of_writes_sub hostOps0 _ hostOps0_writes h0]

theorem E₇_kept (b : Ref sig .tc) (h5 : b ∉ post5_W) (h6 : b ∉ post6_W) : E₇ m c (Proc.devRef .tc b) = E₅ m c (Proc.devRef .tc b) := by
  unfold E₇ E₆
  rw [StableHlo.after_of_writes_sub hostOps0_6 _ post6_writes h6, StableHlo.after_of_writes_sub hostOps0_5 _ post5_writes h5]

theorem E₅_v9 : E₅ m c (Proc.devRef .tc main_v9) = E₁ m c (Proc.devRef .tc main_v9) :=
  E₅_kept m c main_v9 (by decide) (by decide) (by decide) (by decide) (by decide)
theorem E₅_arg0 : E₅ m c (Proc.devRef .tc main_arg0) = boxes m c :=
  (E₅_kept m c main_arg0 (by decide) (by decide) (by decide) (by decide) (by decide)).trans (E₁_kept m c main_arg0 (by decide) (by decide))
theorem E₅_arg1 : E₅ m c (Proc.devRef .tc main_arg1) = scores m c :=
  (E₅_kept m c main_arg1 (by decide) (by decide) (by decide) (by decide) (by decide)).trans (E₁_kept m c main_arg1 (by decide) (by decide))
theorem E₅_arg2 : E₅ m c (Proc.devRef .tc main_arg2) = classes m c :=
  (E₅_kept m c main_arg2 (by decide) (by decide) (by decide) (by decide) (by decide)).trans (E₁_kept m c main_arg2 (by decide) (by decide))

theorem E₅_marks (j : Fin 5000) : (E₅ m c (Proc.devRef .tc main_v60_4) : IVec S5000 1) (ix1 j) = flag (Greedy.mark (ov m c) j.val j.val) := by
  refine Eq.trans ?_ (marks_at m c j)
  exact congrFun (cond_keeps (atK m 5000 c) main_v60_4 (by decide)) (ix1 j)

/-- The scores in their order. -/
theorem v67_at (j : Fin 5000) : (E₆ m c (Proc.devRef .tc main_v67) : FVec Ideal S5000 .f32) (ix1 j) = scoreAt m c (ord m c j) := by
  have h : (E₆ m c (Proc.devRef .tc main_v67) : FVec Ideal S5000 .f32)
      = Host.gather gather_S5000_S5000x1_S5000_n_0_n_n_0_1_1 (E₅ m c (Proc.devRef .tc main_arg1) : FVec Ideal S5000 .f32)
        (broadcastInDim S5000x1 ![0] bcast_S5000_S5000x1_0 (select (cmpi .slt (E₅ m c (Proc.devRef .tc main_v9) : IVec S5000 32) (broadcastInDim S5000 ![] bcast_S_S5000 (constantI S_ 32 0#32)))
          (addi (E₅ m c (Proc.devRef .tc main_v9) : IVec S5000 32) (broadcastInDim S5000 ![] bcast_S_S5000 (constantI S_ 32 5000#32))) (E₅ m c (Proc.devRef .tc main_v9) : IVec S5000 32))) := by
    unfold E₆
    generalize E₅ m c = V
    after_reads_simp
  rw [h, E₅_v9, E₅_arg1]
  have h9 := v9_at m c j
  generalize (E₁ m c (Proc.devRef .tc main_v9) : IVec S5000 32) = Y at h9 ⊢
  unfold scoreAt
  generalize scores m c = X
  refine Routing.gather_take1 _ rfl rfl rfl rfl X _ j (ord m c j) ?_ (by decide)
  have hp : (broadcastInDim S5000x1 ![0] bcast_S5000_S5000x1_0 (select (cmpi .slt Y (broadcastInDim S5000 ![] bcast_S_S5000 (constantI S_ 32 0#32)))
          (addi Y (broadcastInDim S5000 ![] bcast_S_S5000 (constantI S_ 32 5000#32))) Y) : IVec S5000x1 32) (ix2 j 0)
      = Scalar.select (IntOp.cmpi .slt (Y (ix1 j)) 0#32) (IntOp.addi (Y (ix1 j)) 5000#32) (Y (ix1 j)) := by
    pointwise []
  refine hp.trans ?_
  rw [h9, wrap_at]

theorem bottom : Ideal.ofBits FTy.f32 0xFF800000#32 = ⊥ := by
  simp [Ideal.ofBits, Ideal.ieee]

/-- The scores in their order, the bottom where the place is dropped. -/
theorem v68_at (j : Fin 5000) : (E₇ m c (Proc.devRef .tc main_v68) : FVec Ideal S5000 .f32) (ix1 j) = Nms.left (scoreAt m c) (moved m c) j := by
  have hz : (E₆ m c (Proc.devRef .tc main_cst_9) : FVec Ideal S_ .f32) = constant (F := Ideal) S_ .f32 0xFF800000#32 := by
    unfold E₆
    generalize E₅ m c = V
    after_reads_simp
  have hm : E₆ m c (Proc.devRef .tc main_v60_4) = E₅ m c (Proc.devRef .tc main_v60_4) :=
    StableHlo.after_of_writes_sub hostOps0_5 _ post5_writes (by decide)
  have h : (E₇ m c (Proc.devRef .tc main_v68) : FVec Ideal S5000 .f32)
      = select (E₅ m c (Proc.devRef .tc main_v60_4) : IVec S5000 1) (broadcastInDim S5000 ![] bcast_S_S5000 (constant (F := Ideal) S_ .f32 0xFF800000#32) : FVec Ideal S5000 .f32)
        (E₆ m c (Proc.devRef .tc main_v67) : FVec Ideal S5000 .f32) := by
    rw [← hz, ← hm]
    unfold E₇
    generalize E₆ m c = V
    after_reads_simp
    rfl
  have hj := v67_at m c j
  have hk := E₅_marks m c j
  rw [h]
  unfold Nms.left
  generalize (E₆ m c (Proc.devRef .tc main_v67) : FVec Ideal S5000 .f32) = X at hj ⊢
  generalize (E₅ m c (Proc.devRef .tc main_v60_4) : IVec S5000 1) = M at hk ⊢
  have hp : (select M (broadcastInDim S5000 ![] bcast_S_S5000 (constant (F := Ideal) S_ .f32 0xFF800000#32) : FVec Ideal S5000 .f32) X : FVec Ideal S5000 .f32) (ix1 j)
      = Scalar.select (M (ix1 j)) (Ideal.ofBits FTy.f32 0xFF800000#32) (X (ix1 j)) := by
    pointwise []
  refine hp.trans ?_
  rw [hk, hj, bottom]
  unfold flag
  rw [WordCmp.select_decide]
  rfl

/-- The places of the best are the first ones of the sorted places. -/
theorem top_places (X : FVec Ideal S5000 .f32) : (Host.topK S100 0 (FloatOps.cmpfTotal (F := Ideal) (φ := .f32) .gt) X sliceFits_S5000_S100).2
    = extractStridedSlice S100 (fun _ => 0) (Host.sort2 ⟨1, ![5000]⟩ 0 (fun l r : Ideal .f32 × BitVec 32 => FloatOps.cmpfTotal (F := Ideal) (φ := .f32) .gt l.1 r.1) X
      (iotaInDim S5000 32 0)).2 sliceFits_S5000_S100 := by
  unfold Host.topK
  rfl

/-- The places of the hundred best. -/
theorem places_at (k : Fin 100) : (E₈ m c (Proc.devRef .tc main_indices) : IVec S100 32) (ix1 k)
    = BitVec.ofNat 32 (Nms.sel (scoreAt m c) (moved m c) (Fin.castLE (by decide) k)).val := by
  have h : (E₈ m c (Proc.devRef .tc main_indices) : IVec S100 32)
      = (Host.topK S100 0 (FloatOps.cmpfTotal (F := Ideal) (φ := .f32) .gt) (E₇ m c (Proc.devRef .tc main_v68) : FVec Ideal S5000 .f32) sliceFits_S5000_S100).2 := by
    unfold E₈
    generalize E₇ m c = V
    after_reads_simp
  have hv := v68_at m c
  rw [h]
  rw [top_places]
  generalize (E₇ m c (Proc.devRef .tc main_v68) : FVec Ideal S5000 .f32) = X at hv ⊢
  have hp : ∀ Y : IVec S5000 32, (extractStridedSlice S100 (fun _ => 0) Y sliceFits_S5000_S100 : IVec S100 32) (ix1 k) = Y (ix1 (Fin.castLE (by decide) k)) := by
    intro Y
    pointwise []
    rfl
  refine (hp _).trans ((Ranking.sort2_at _ X _ _).trans ?_)
  unfold Nms.sel Ranking.best
  rw [show (fun k k' : Fin 5000 => (fun (l r : Ideal .f32 × BitVec 32) => FloatOps.cmpfTotal (F := Ideal) (φ := .f32) .gt l.1 r.1) (X (ix1 k), iotaInDim S5000 32 0 (ix1 k)) (X (ix1 k'), iotaInDim S5000 32 0 (ix1 k')) == 1#1)
    = fun a b => decide (Nms.left (scoreAt m c) (moved m c) b < Nms.left (scoreAt m c) (moved m c) a) from
      funext fun a => funext fun b => (Ranking.gt_flag _ _).trans (by rw [hv, hv])]
  generalize sortedFrom _ _ = n
  pointwise []

/-- The box selected at rank `k`. -/
def chosen (k : Fin 100) : Fin 5000 := ord m c (Nms.sel (scoreAt m c) (moved m c) (Fin.castLE (by decide) k))

/-- A vector of a hundred index words below `5000`, none of which is wrapped, as the column that a gather reads. -/
theorem column_at (Y : IVec S100 32) (k : Fin 100) (n : Fin 5000) (h : Y (ix1 k) = BitVec.ofNat 32 n.val) :
    (broadcastInDim S100x1 ![0] bcast_S100_S100x1_0 (select (cmpi .slt Y (broadcastInDim S100 ![] bcast_S_S100 (constantI S_ 32 0#32)))
      (addi Y (broadcastInDim S100 ![] bcast_S_S100 (constantI S_ 32 5000#32))) Y) : IVec S100x1 32) (ix2 k 0) = BitVec.ofNat 32 n.val := by
  have hp : (broadcastInDim S100x1 ![0] bcast_S100_S100x1_0 (select (cmpi .slt Y (broadcastInDim S100 ![] bcast_S_S100 (constantI S_ 32 0#32)))
      (addi Y (broadcastInDim S100 ![] bcast_S_S100 (constantI S_ 32 5000#32))) Y) : IVec S100x1 32) (ix2 k 0)
      = Scalar.select (IntOp.cmpi .slt (Y (ix1 k)) 0#32) (IntOp.addi (Y (ix1 k)) 5000#32) (Y (ix1 k)) := by
    pointwise []
  refine hp.trans ?_
  rw [h, wrap_at]

/-- The numbers of the boxes selected. -/
theorem v75_at (k : Fin 100) : (E₈ m c (Proc.devRef .tc main_v75) : IVec S100 32) (ix1 k) = BitVec.ofNat 32 (chosen m c k).val := by
  have h : (E₈ m c (Proc.devRef .tc main_v75) : IVec S100 32)
      = Host.gather gather_S5000_S100x1_S100_n_0_n_n_0_1_1 (E₇ m c (Proc.devRef .tc main_v9) : IVec S5000 32)
        (broadcastInDim S100x1 ![0] bcast_S100_S100x1_0 (select (cmpi .slt (E₈ m c (Proc.devRef .tc main_indices) : IVec S100 32) (broadcastInDim S100 ![] bcast_S_S100 (constantI S_ 32 0#32)))
          (addi (E₈ m c (Proc.devRef .tc main_indices) : IVec S100 32) (broadcastInDim S100 ![] bcast_S_S100 (constantI S_ 32 5000#32))) (E₈ m c (Proc.devRef .tc main_indices) : IVec S100 32))) := by
    unfold E₈
    generalize E₇ m c = V
    after_reads_simp
  rw [h, E₇_kept m c main_v9 (by decide) (by decide), E₅_v9]
  have hi := places_at m c k
  have h9 := v9_at m c (Nms.sel (scoreAt m c) (moved m c) (Fin.castLE (by decide) k))
  unfold chosen
  refine Eq.trans ?_ h9
  exact Routing.gather_take1 _ rfl rfl rfl rfl _ _ k _ (column_at _ k _ hi) (by decide)

theorem res_boxes (k : Fin 100) (a : Fin 4) : (E₈ m c (Proc.devRef .tc main_v82) : FVec Ideal S100x4 .f32) (ix2 k a) = boxes m c (ix2 (chosen m c k) a) := by
  have h : (E₈ m c (Proc.devRef .tc main_v82) : FVec Ideal S100x4 .f32)
      = Host.gather gather_S5000x4_S100x1_S100x4_1_0_n_n_0_1_14 (E₇ m c (Proc.devRef .tc main_arg0) : FVec Ideal S5000x4 .f32)
        (broadcastInDim S100x1 ![0] bcast_S100_S100x1_0 (select (cmpi .slt (E₈ m c (Proc.devRef .tc main_v75) : IVec S100 32) (broadcastInDim S100 ![] bcast_S_S100 (constantI S_ 32 0#32)))
          (addi (E₈ m c (Proc.devRef .tc main_v75) : IVec S100 32) (broadcastInDim S100 ![] bcast_S_S100 (constantI S_ 32 5000#32))) (E₈ m c (Proc.devRef .tc main_v75) : IVec S100 32))) := by
    unfold E₈
    generalize E₇ m c = V
    after_reads_simp
  rw [h, E₇_kept m c main_arg0 (by decide) (by decide), E₅_arg0]
  exact Routing.gather_row _ rfl rfl rfl rfl rfl _ _ k a (chosen m c k) (column_at _ k _ (v75_at m c k)) (by decide)

theorem res_scores (k : Fin 100) : (E₈ m c (Proc.devRef .tc main_v89) : FVec Ideal S100 .f32) (ix1 k) = scores m c (ix1 (chosen m c k)) := by
  have h : (E₈ m c (Proc.devRef .tc main_v89) : FVec Ideal S100 .f32)
      = Host.gather gather_S5000_S100x1_S100_n_0_n_n_0_1_1 (E₇ m c (Proc.devRef .tc main_arg1) : FVec Ideal S5000 .f32)
        (broadcastInDim S100x1 ![0] bcast_S100_S100x1_0 (select (cmpi .slt (E₈ m c (Proc.devRef .tc main_v75) : IVec S100 32) (broadcastInDim S100 ![] bcast_S_S100 (constantI S_ 32 0#32)))
          (addi (E₈ m c (Proc.devRef .tc main_v75) : IVec S100 32) (broadcastInDim S100 ![] bcast_S_S100 (constantI S_ 32 5000#32))) (E₈ m c (Proc.devRef .tc main_v75) : IVec S100 32))) := by
    unfold E₈
    generalize E₇ m c = V
    after_reads_simp
  rw [h, E₇_kept m c main_arg1 (by decide) (by decide), E₅_arg1]
  exact Routing.gather_take1 _ rfl rfl rfl rfl _ _ k (chosen m c k) (column_at _ k _ (v75_at m c k)) (by decide)

theorem res_classes (k : Fin 100) : (E₈ m c (Proc.devRef .tc main_v96) : IVec S100 32) (ix1 k) = classes m c (ix1 (chosen m c k)) := by
  have h : (E₈ m c (Proc.devRef .tc main_v96) : IVec S100 32)
      = Host.gather gather_S5000_S100x1_S100_n_0_n_n_0_1_1 (E₇ m c (Proc.devRef .tc main_arg2) : IVec S5000 32)
        (broadcastInDim S100x1 ![0] bcast_S100_S100x1_0 (select (cmpi .slt (E₈ m c (Proc.devRef .tc main_v75) : IVec S100 32) (broadcastInDim S100 ![] bcast_S_S100 (constantI S_ 32 0#32)))
          (addi (E₈ m c (Proc.devRef .tc main_v75) : IVec S100 32) (broadcastInDim S100 ![] bcast_S_S100 (constantI S_ 32 5000#32))) (E₈ m c (Proc.devRef .tc main_v75) : IVec S100 32))) := by
    unfold E₈
    generalize E₇ m c = V
    after_reads_simp
  rw [h, E₇_kept m c main_arg2 (by decide) (by decide), E₅_arg2]
  exact Routing.gather_take1 _ rfl rfl rfl rfl _ _ k (chosen m c k) (column_at _ k _ (v75_at m c k)) (by decide)

/-- The boxes that the reference returns. -/
def outBoxes : FVec Ideal S100x4 .f32 := fun j => boxes m c (ix2 (chosen m c (j 0)) (j 1))
/-- The scores that the reference returns. -/
def outScores : FVec Ideal S100 .f32 := fun j => scores m c (ix1 (chosen m c (j 0)))
/-- The classes that the reference returns. -/
def outClasses : IVec S100 32 := fun j => classes m c (ix1 (chosen m c (j 0)))

/-- The reference over the extended reals: its three results, the arguments unchanged. -/
theorem results :
    θ_run (defs (F := Ideal)) (onTc (τ := τ) (main (F := Ideal))) ⟨m, fun _ => 0, ρ⟩ (fun r => ∀ c : Dev nD,
      r.2.mem ((c.tc : Thread nD τ).loc main_v82) = outBoxes m c
      ∧ r.2.mem ((c.tc : Thread nD τ).loc main_v89) = outScores m c
      ∧ r.2.mem ((c.tc : Thread nD τ).loc main_v96) = outClasses m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, (h c main_arg0 rfl).trans (kept_0 m c), (h c main_arg1 rfl).trans (kept_1 m c),
    (h c main_arg2 rfl).trans (kept_2 m c)⟩) (run_fold (F := Ideal) m ρ)
  · refine (h c main_v82 rfl).trans ((congrFun (final_eq m c) _).trans (funext fun (j : S100x4.Idx) => ?_))
    idx_vars j
    exact res_boxes m c _ _
  · refine (h c main_v89 rfl).trans ((congrFun (final_eq m c) _).trans (funext fun (j : S100.Idx) => ?_))
    idx_vars j
    exact res_scores m c _
  · refine (h c main_v96 rfl).trans ((congrFun (final_eq m c) _).trans (funext fun (j : S100.Idx) => ?_))
    idx_vars j
    exact res_classes m c _

end Cert.ReferenceIdeal.Ref
-- ==== Proof.Agree.lean ====
/- Of the same finite scores the kernel's program and the reference return the same. -/
module

public import proofs.«01_k».proof.Defs
public import proofs.«01_k».proof.Proof.KernelResult
public import proofs.«01_k».proof.Proof.RefResult
public import Idealize.ShloMosaic.Lib.ReduceAll

@[expose] public section

set_option maxRecDepth 16384

noncomputable section

namespace Cert.Agree

open Idealize.ShloMosaic Idealize.ShloMosaic.TcCoe Idealize.ShloMosaic.Tactic

section Pre

variable [Cert.Pre_finite_scores.Facts]

/-- The precondition read entry by entry: every score is above the bottom. -/
theorem above (b : FVec Ideal Cert.Pre_finite_scores.S5000x4 .f32) (s : FVec Ideal Cert.Pre_finite_scores.S5000 .f32) (k : IVec Cert.Pre_finite_scores.S5000 32)
    (h : Cert.Pre_finite_scores.fn (F := Ideal) b s k = fun _ => 1#1) (j : Fin 5000) : ⊥ < s (ix1 j) := by
  have e := Host.reduce_andi_all _ _ _ _ ix0 (congrFun h ix0) (ix1 j)
  have hp : (cmpf .ogt s (broadcastInDim Cert.Pre_finite_scores.S5000 ![] Cert.Pre_finite_scores.Facts.bcast_S_S5000 (constant (F := Ideal) Cert.Pre_finite_scores.S_ .f32 0xFF800000#32))
      : IVec Cert.Pre_finite_scores.S5000 1) (ix1 j) = BitVec.ofBool (decide (Ideal.ofBits FTy.f32 0xFF800000#32 < s (ix1 j))) := by
    pointwise []
  have e' := hp.symm.trans e
  rw [Cert.ReferenceIdeal.Ref.bottom] at e'
  by_contra hn
  rw [decide_eq_false hn] at e'
  exact absurd e' (by decide)

end Pre

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem scoreAt_eq (h1 : Cert.ReferenceIdeal.Ref.scores m' c = Cert.KernelIdeal.Body.scores m c) :
    Cert.ReferenceIdeal.Ref.scoreAt m' c = Cert.KernelIdeal.Body.scoreAt m c := by
  funext k
  unfold Cert.ReferenceIdeal.Ref.scoreAt Cert.KernelIdeal.Body.scoreAt
  rw [h1]

theorem moved_eq (h0 : Cert.ReferenceIdeal.Ref.boxes m' c = Cert.KernelIdeal.Body.boxes m c)
    (h2 : Cert.ReferenceIdeal.Ref.classes m' c = Cert.KernelIdeal.Body.classes m c) :
    Cert.ReferenceIdeal.Ref.moved m' c = Cert.KernelIdeal.Body.moved m c := by
  funext k a
  unfold Cert.ReferenceIdeal.Ref.moved Cert.KernelIdeal.Body.moved Cert.ReferenceIdeal.Ref.shift Cert.KernelIdeal.Body.shift
    Cert.ReferenceIdeal.Ref.classAt Cert.KernelIdeal.Body.classAt
  rw [h0, h2]

theorem chosen_eq (h0 : Cert.ReferenceIdeal.Ref.boxes m' c = Cert.KernelIdeal.Body.boxes m c)
    (h1 : Cert.ReferenceIdeal.Ref.scores m' c = Cert.KernelIdeal.Body.scores m c)
    (h2 : Cert.ReferenceIdeal.Ref.classes m' c = Cert.KernelIdeal.Body.classes m c) (k : Fin 100) :
    Cert.ReferenceIdeal.Ref.chosen m' c k = Cert.KernelIdeal.Body.chosen m c k := by
  unfold Cert.ReferenceIdeal.Ref.chosen Cert.KernelIdeal.Body.chosen Cert.ReferenceIdeal.Ref.ord Cert.KernelIdeal.Body.ord
  rw [scoreAt_eq m m' c h1, moved_eq m m' c h0 h2]

theorem outBoxes_eq (h0 : Cert.ReferenceIdeal.Ref.boxes m' c = Cert.KernelIdeal.Body.boxes m c)
    (h1 : Cert.ReferenceIdeal.Ref.scores m' c = Cert.KernelIdeal.Body.scores m c)
    (h2 : Cert.ReferenceIdeal.Ref.classes m' c = Cert.KernelIdeal.Body.classes m c) :
    Cert.ReferenceIdeal.Ref.outBoxes m' c = Cert.KernelIdeal.Body.outBoxes m c :=
  funext fun (j : Cert.KernelIdeal.S100x4.Idx) => (congrArg (fun n => Cert.ReferenceIdeal.Ref.boxes m' c (ix2 n (j 1))) (chosen_eq m m' c h0 h1 h2 (j 0))).trans (congrFun h0 _)

theorem outScores_eq (h0 : Cert.ReferenceIdeal.Ref.boxes m' c = Cert.KernelIdeal.Body.boxes m c)
    (h1 : Cert.ReferenceIdeal.Ref.scores m' c = Cert.KernelIdeal.Body.scores m c)
    (h2 : Cert.ReferenceIdeal.Ref.classes m' c = Cert.KernelIdeal.Body.classes m c) :
    Cert.ReferenceIdeal.Ref.outScores m' c = Cert.KernelIdeal.Body.outScores m c :=
  funext fun (j : Cert.KernelIdeal.S100.Idx) => (congrArg (fun n => Cert.ReferenceIdeal.Ref.scores m' c (ix1 n)) (chosen_eq m m' c h0 h1 h2 (j 0))).trans (congrFun h1 _)

theorem outClasses_eq (h0 : Cert.ReferenceIdeal.Ref.boxes m' c = Cert.KernelIdeal.Body.boxes m c)
    (h1 : Cert.ReferenceIdeal.Ref.scores m' c = Cert.KernelIdeal.Body.scores m c)
    (h2 : Cert.ReferenceIdeal.Ref.classes m' c = Cert.KernelIdeal.Body.classes m c) :
    Cert.ReferenceIdeal.Ref.outClasses m' c = Cert.KernelIdeal.Body.outClasses m c :=
  funext fun (j : Cert.KernelIdeal.S100.Idx) => (congrArg (fun n => Cert.ReferenceIdeal.Ref.classes m' c (ix1 n)) (chosen_eq m m' c h0 h1 h2 (j 0))).trans (congrFun h2 _)

end Cert.Agree
-- ==== Proof.lean ====
module

public import proofs.«01_k».proof.Defs
public import proofs.«01_k».proof.Proof.KernelLaunch
public import proofs.«01_k».proof.Proof.IdealLaunch
public import proofs.«01_k».proof.Proof.RefFrame
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.Pre_finite_scores

@[expose] public section

noncomputable section

namespace Cert.Proof

open Idealize.ShloMosaic Idealize.SL.Sem

/-- From memories that agree on the arguments and whose scores are all above the bottom, the kernel's program and the
    reference return the same boxes, scores and classes, and leave the arguments as they were. -/
theorem algebraic : Cert.algebraic_KernelIdeal_ReferenceIdeal (hKernelIdeal := Cert.KernelIdeal.Gen.facts)
    (hReferenceIdeal := Cert.ReferenceIdeal.Gen.facts) (hPre_finite_scores := Cert.Pre_finite_scores.Gen.facts) := by
  intro m g m' g' hpre hargs
  refine ⟨fun c => Cert.KernelIdeal.Body.outBoxes m c, fun c => Cert.KernelIdeal.Body.outScores m c, fun c => Cert.KernelIdeal.Body.outClasses m c,
    Cert.KernelIdeal.Body.results m g fun c k => Cert.Agree.above _ _ _ (hpre c) k, ?_⟩
  refine (θ_run _ _ _).mono (fun r h c => ?_) (Cert.ReferenceIdeal.Ref.results m' g')
  obtain ⟨r0, r1, r2, k0, k1, k2⟩ := h c
  obtain ⟨h0, h1, h2⟩ := hargs c
  exact ⟨r0.trans (Cert.Agree.outBoxes_eq m m' c h0 h1 h2), r1.trans (Cert.Agree.outScores_eq m m' c h0 h1 h2),
    r2.trans (Cert.Agree.outClasses_eq m m' c h0 h1 h2), k0, k1, k2⟩

/-- The kernel and its idealization run to the end, leave the arguments and every semaphore counter as they were, and so
    does the reference; the idealization rewrote nothing; over the extended reals kernel and reference agree. -/
theorem claim : Cert.Claim :=
  ⟨Cert.Kernel.Gen.facts, Cert.KernelIdeal.Gen.facts, Cert.ReferenceIdeal.Gen.facts, Cert.Pre_finite_scores.Gen.facts,
    fun m g _ => Cert.Kernel.Body.quiescent m g,
    fun m g _ => Cert.KernelIdeal.Body.quiescent m g,
    fun m g _ => Cert.KernelIdeal.Body.quiescent m g,
    fun m g _ => Cert.ReferenceIdeal.Ref.quiescent m g,
    fun m g _ => Cert.ReferenceIdeal.Ref.quiescent m g,
    trivial, algebraic⟩

end Cert.Proof

end
